-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Cols (m : (ℓ : Loc Cert.Cols.nD Cert.Cols.τ Cert.Cols.sig) → Buf (Elt Bits) ℓ) : Prop :=
  True

def Pre_ColsIdeal (m : (ℓ : Loc Cert.ColsIdeal.nD Cert.ColsIdeal.τ Cert.ColsIdeal.sig) → Buf (Elt Ideal) ℓ) : Prop :=
  True

def Pre_StepIdeal (m : (ℓ : Loc Cert.StepIdeal.nD Cert.StepIdeal.τ Cert.StepIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Cols [hCols : Cert.Cols.Facts] : Prop :=
  ∀ (m : (ℓ : Loc Cert.Cols.nD Cert.Cols.τ Cert.Cols.sig) → Buf (Elt Bits) ℓ) (g : Dev Cert.Cols.nD → PrngReg), Pre_Cols m →
    θ_run (Cert.Cols.defs (F := Bits)) (onTc (τ := Cert.Cols.τ) (Cert.Cols.main (F := Bits))) ⟨m, fun _ => 0, g⟩ (fun r => (∀ c : Dev Cert.Cols.nD,
      r.2.mem ((c.tc : Thread Cert.Cols.nD Cert.Cols.τ).loc Cert.Cols.main_arg0) = m ((c.tc : Thread Cert.Cols.nD Cert.Cols.τ).loc Cert.Cols.main_arg0)
      ∧ r.2.mem ((c.tc : Thread Cert.Cols.nD Cert.Cols.τ).loc Cert.Cols.main_arg1) = m ((c.tc : Thread Cert.Cols.nD Cert.Cols.τ).loc Cert.Cols.main_arg1)
      ∧ r.2.mem ((c.tc : Thread Cert.Cols.nD Cert.Cols.τ).loc Cert.Cols.main_arg2) = m ((c.tc : Thread Cert.Cols.nD Cert.Cols.τ).loc Cert.Cols.main_arg2)
      ∧ r.2.mem ((c.tc : Thread Cert.Cols.nD Cert.Cols.τ).loc Cert.Cols.main_arg3) = m ((c.tc : Thread Cert.Cols.nD Cert.Cols.τ).loc Cert.Cols.main_arg3)
      ∧ r.2.mem ((c.tc : Thread Cert.Cols.nD Cert.Cols.τ).loc Cert.Cols.main_arg4) = m ((c.tc : Thread Cert.Cols.nD Cert.Cols.τ).loc Cert.Cols.main_arg4)
      ∧ r.2.mem ((c.tc : Thread Cert.Cols.nD Cert.Cols.τ).loc Cert.Cols.main_arg5) = m ((c.tc : Thread Cert.Cols.nD Cert.Cols.τ).loc Cert.Cols.main_arg5)
      ∧ r.2.mem ((c.tc : Thread Cert.Cols.nD Cert.Cols.τ).loc Cert.Cols.main_arg6) = m ((c.tc : Thread Cert.Cols.nD Cert.Cols.τ).loc Cert.Cols.main_arg6)
      ∧ r.2.mem ((c.tc : Thread Cert.Cols.nD Cert.Cols.τ).loc Cert.Cols.main_arg7) = m ((c.tc : Thread Cert.Cols.nD Cert.Cols.τ).loc Cert.Cols.main_arg7)
      ∧ r.2.mem ((c.tc : Thread Cert.Cols.nD Cert.Cols.τ).loc Cert.Cols.main_arg8) = m ((c.tc : Thread Cert.Cols.nD Cert.Cols.τ).loc Cert.Cols.main_arg8)
      ∧ r.2.mem ((c.tc : Thread Cert.Cols.nD Cert.Cols.τ).loc Cert.Cols.main_arg9) = m ((c.tc : Thread Cert.Cols.nD Cert.Cols.τ).loc Cert.Cols.main_arg9))
      ∧ r.2.sem = fun _ => 0)

def quiescent_ColsIdeal [hColsIdeal : Cert.ColsIdeal.Facts] : Prop :=
  ∀ (m : (ℓ : Loc Cert.ColsIdeal.nD Cert.ColsIdeal.τ Cert.ColsIdeal.sig) → Buf (Elt Ideal) ℓ) (g : Dev Cert.ColsIdeal.nD → PrngReg), Pre_ColsIdeal m →
    θ_run (Cert.ColsIdeal.defs (F := Ideal)) (onTc (τ := Cert.ColsIdeal.τ) (Cert.ColsIdeal.main (F := Ideal))) ⟨m, fun _ => 0, g⟩ (fun r => (∀ c : Dev Cert.ColsIdeal.nD,
      r.2.mem ((c.tc : Thread Cert.ColsIdeal.nD Cert.ColsIdeal.τ).loc Cert.ColsIdeal.main_arg0) = m ((c.tc : Thread Cert.ColsIdeal.nD Cert.ColsIdeal.τ).loc Cert.ColsIdeal.main_arg0)
      ∧ r.2.mem ((c.tc : Thread Cert.ColsIdeal.nD Cert.ColsIdeal.τ).loc Cert.ColsIdeal.main_arg1) = m ((c.tc : Thread Cert.ColsIdeal.nD Cert.ColsIdeal.τ).loc Cert.ColsIdeal.main_arg1)
      ∧ r.2.mem ((c.tc : Thread Cert.ColsIdeal.nD Cert.ColsIdeal.τ).loc Cert.ColsIdeal.main_arg2) = m ((c.tc : Thread Cert.ColsIdeal.nD Cert.ColsIdeal.τ).loc Cert.ColsIdeal.main_arg2)
      ∧ r.2.mem ((c.tc : Thread Cert.ColsIdeal.nD Cert.ColsIdeal.τ).loc Cert.ColsIdeal.main_arg3) = m ((c.tc : Thread Cert.ColsIdeal.nD Cert.ColsIdeal.τ).loc Cert.ColsIdeal.main_arg3)
      ∧ r.2.mem ((c.tc : Thread Cert.ColsIdeal.nD Cert.ColsIdeal.τ).loc Cert.ColsIdeal.main_arg4) = m ((c.tc : Thread Cert.ColsIdeal.nD Cert.ColsIdeal.τ).loc Cert.ColsIdeal.main_arg4)
      ∧ r.2.mem ((c.tc : Thread Cert.ColsIdeal.nD Cert.ColsIdeal.τ).loc Cert.ColsIdeal.main_arg5) = m ((c.tc : Thread Cert.ColsIdeal.nD Cert.ColsIdeal.τ).loc Cert.ColsIdeal.main_arg5)
      ∧ r.2.mem ((c.tc : Thread Cert.ColsIdeal.nD Cert.ColsIdeal.τ).loc Cert.ColsIdeal.main_arg6) = m ((c.tc : Thread Cert.ColsIdeal.nD Cert.ColsIdeal.τ).loc Cert.ColsIdeal.main_arg6)
      ∧ r.2.mem ((c.tc : Thread Cert.ColsIdeal.nD Cert.ColsIdeal.τ).loc Cert.ColsIdeal.main_arg7) = m ((c.tc : Thread Cert.ColsIdeal.nD Cert.ColsIdeal.τ).loc Cert.ColsIdeal.main_arg7)
      ∧ r.2.mem ((c.tc : Thread Cert.ColsIdeal.nD Cert.ColsIdeal.τ).loc Cert.ColsIdeal.main_arg8) = m ((c.tc : Thread Cert.ColsIdeal.nD Cert.ColsIdeal.τ).loc Cert.ColsIdeal.main_arg8)
      ∧ r.2.mem ((c.tc : Thread Cert.ColsIdeal.nD Cert.ColsIdeal.τ).loc Cert.ColsIdeal.main_arg9) = m ((c.tc : Thread Cert.ColsIdeal.nD Cert.ColsIdeal.τ).loc Cert.ColsIdeal.main_arg9))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
      ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
      ∧ r.2.mem ((c.tc : Thread Cert.StepIdeal.nD Cert.StepIdeal.τ).loc Cert.StepIdeal.main_arg8) = m ((c.tc : Thread Cert.StepIdeal.nD Cert.StepIdeal.τ).loc Cert.StepIdeal.main_arg8)
      ∧ r.2.mem ((c.tc : Thread Cert.StepIdeal.nD Cert.StepIdeal.τ).loc Cert.StepIdeal.main_arg9) = m ((c.tc : Thread Cert.StepIdeal.nD Cert.StepIdeal.τ).loc Cert.StepIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)) (v6 : (c : Dev Cert.KernelIdeal.nD) → Buf (Elt Ideal) ((c.tc : Thread Cert.KernelIdeal.nD Cert.KernelIdeal.τ).loc Cert.KernelIdeal.main_v2_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_v2_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9_1) = v0 c
          ∧ r.2.mem ((c.tc : Thread Cert.ReferenceIdeal.nD Cert.ReferenceIdeal.τ).loc Cert.ReferenceIdeal.main_v9_2) = v1 c
          ∧ r.2.mem ((c.tc : Thread Cert.ReferenceIdeal.nD Cert.ReferenceIdeal.τ).loc Cert.ReferenceIdeal.main_v9_0) = v2 c
          ∧ r.2.mem ((c.tc : Thread Cert.ReferenceIdeal.nD Cert.ReferenceIdeal.τ).loc Cert.ReferenceIdeal.main_v9_3) = v3 c
          ∧ r.2.mem ((c.tc : Thread Cert.ReferenceIdeal.nD Cert.ReferenceIdeal.τ).loc Cert.ReferenceIdeal.main_v9_4) = v4 c
          ∧ r.2.mem ((c.tc : Thread Cert.ReferenceIdeal.nD Cert.ReferenceIdeal.τ).loc Cert.ReferenceIdeal.main_v9_5) = v5 c
          ∧ r.2.mem ((c.tc : Thread Cert.ReferenceIdeal.nD Cert.ReferenceIdeal.τ).loc Cert.ReferenceIdeal.main_v9_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Cols_ColsIdeal : Prop :=
  True

def algebraic_ColsIdeal_StepIdeal [hColsIdeal : Cert.ColsIdeal.Facts] [hStepIdeal : Cert.StepIdeal.Facts] : Prop :=
  ∀ (m : (ℓ : Loc Cert.ColsIdeal.nD Cert.ColsIdeal.τ Cert.ColsIdeal.sig) → Buf (Elt Ideal) ℓ) (g : Dev Cert.ColsIdeal.nD → PrngReg)
    (m' : (ℓ : Loc Cert.StepIdeal.nD Cert.StepIdeal.τ Cert.StepIdeal.sig) → Buf (Elt Ideal) ℓ) (g' : Dev Cert.StepIdeal.nD → PrngReg), Pre_ColsIdeal m →
    (∀ c : Dev Cert.ColsIdeal.nD,
      m' ((c.tc : Thread Cert.StepIdeal.nD Cert.StepIdeal.τ).loc Cert.StepIdeal.main_arg0) = m ((c.tc : Thread Cert.ColsIdeal.nD Cert.ColsIdeal.τ).loc Cert.ColsIdeal.main_arg0)
      ∧ m' ((c.tc : Thread Cert.StepIdeal.nD Cert.StepIdeal.τ).loc Cert.StepIdeal.main_arg1) = m ((c.tc : Thread Cert.ColsIdeal.nD Cert.ColsIdeal.τ).loc Cert.ColsIdeal.main_arg1)
      ∧ m' ((c.tc : Thread Cert.StepIdeal.nD Cert.StepIdeal.τ).loc Cert.StepIdeal.main_arg2) = m ((c.tc : Thread Cert.ColsIdeal.nD Cert.ColsIdeal.τ).loc Cert.ColsIdeal.main_arg2)
      ∧ m' ((c.tc : Thread Cert.StepIdeal.nD Cert.StepIdeal.τ).loc Cert.StepIdeal.main_arg3) = m ((c.tc : Thread Cert.ColsIdeal.nD Cert.ColsIdeal.τ).loc Cert.ColsIdeal.main_arg3)
      ∧ m' ((c.tc : Thread Cert.StepIdeal.nD Cert.StepIdeal.τ).loc Cert.StepIdeal.main_arg4) = m ((c.tc : Thread Cert.ColsIdeal.nD Cert.ColsIdeal.τ).loc Cert.ColsIdeal.main_arg4)
      ∧ m' ((c.tc : Thread Cert.StepIdeal.nD Cert.StepIdeal.τ).loc Cert.StepIdeal.main_arg5) = m ((c.tc : Thread Cert.ColsIdeal.nD Cert.ColsIdeal.τ).loc Cert.ColsIdeal.main_arg5)
      ∧ m' ((c.tc : Thread Cert.StepIdeal.nD Cert.StepIdeal.τ).loc Cert.StepIdeal.main_arg6) = m ((c.tc : Thread Cert.ColsIdeal.nD Cert.ColsIdeal.τ).loc Cert.ColsIdeal.main_arg6)
      ∧ m' ((c.tc : Thread Cert.StepIdeal.nD Cert.StepIdeal.τ).loc Cert.StepIdeal.main_arg7) = m ((c.tc : Thread Cert.ColsIdeal.nD Cert.ColsIdeal.τ).loc Cert.ColsIdeal.main_arg7)
      ∧ m' ((c.tc : Thread Cert.StepIdeal.nD Cert.StepIdeal.τ).loc Cert.StepIdeal.main_arg8) = m ((c.tc : Thread Cert.ColsIdeal.nD Cert.ColsIdeal.τ).loc Cert.ColsIdeal.main_arg8)
      ∧ m' ((c.tc : Thread Cert.StepIdeal.nD Cert.StepIdeal.τ).loc Cert.StepIdeal.main_arg9) = m ((c.tc : Thread Cert.ColsIdeal.nD Cert.ColsIdeal.τ).loc Cert.ColsIdeal.main_arg9)) →
    ∃ (v0 : (c : Dev Cert.ColsIdeal.nD) → Buf (Elt Ideal) ((c.tc : Thread Cert.ColsIdeal.nD Cert.ColsIdeal.τ).loc Cert.ColsIdeal.main_v0_0)) (v1 : (c : Dev Cert.ColsIdeal.nD) → Buf (Elt Ideal) ((c.tc : Thread Cert.ColsIdeal.nD Cert.ColsIdeal.τ).loc Cert.ColsIdeal.main_v0_1)) (v2 : (c : Dev Cert.ColsIdeal.nD) → Buf (Elt Ideal) ((c.tc : Thread Cert.ColsIdeal.nD Cert.ColsIdeal.τ).loc Cert.ColsIdeal.main_v0_2)) (v3 : (c : Dev Cert.ColsIdeal.nD) → Buf (Elt Ideal) ((c.tc : Thread Cert.ColsIdeal.nD Cert.ColsIdeal.τ).loc Cert.ColsIdeal.main_v0_3)),
      θ_run (Cert.ColsIdeal.defs (F := Ideal)) (onTc (τ := Cert.ColsIdeal.τ) (Cert.ColsIdeal.main (F := Ideal))) ⟨m, fun _ => 0, g⟩ (fun r => ∀ c : Dev Cert.ColsIdeal.nD,
          r.2.mem ((c.tc : Thread Cert.ColsIdeal.nD Cert.ColsIdeal.τ).loc Cert.ColsIdeal.main_v0_0) = v0 c
          ∧ r.2.mem ((c.tc : Thread Cert.ColsIdeal.nD Cert.ColsIdeal.τ).loc Cert.ColsIdeal.main_v0_1) = v1 c
          ∧ r.2.mem ((c.tc : Thread Cert.ColsIdeal.nD Cert.ColsIdeal.τ).loc Cert.ColsIdeal.main_v0_2) = v2 c
          ∧ r.2.mem ((c.tc : Thread Cert.ColsIdeal.nD Cert.ColsIdeal.τ).loc Cert.ColsIdeal.main_v0_3) = v3 c
          ∧ r.2.mem ((c.tc : Thread Cert.ColsIdeal.nD Cert.ColsIdeal.τ).loc Cert.ColsIdeal.main_arg0) = m ((c.tc : Thread Cert.ColsIdeal.nD Cert.ColsIdeal.τ).loc Cert.ColsIdeal.main_arg0)
          ∧ r.2.mem ((c.tc : Thread Cert.ColsIdeal.nD Cert.ColsIdeal.τ).loc Cert.ColsIdeal.main_arg1) = m ((c.tc : Thread Cert.ColsIdeal.nD Cert.ColsIdeal.τ).loc Cert.ColsIdeal.main_arg1)
          ∧ r.2.mem ((c.tc : Thread Cert.ColsIdeal.nD Cert.ColsIdeal.τ).loc Cert.ColsIdeal.main_arg2) = m ((c.tc : Thread Cert.ColsIdeal.nD Cert.ColsIdeal.τ).loc Cert.ColsIdeal.main_arg2)
          ∧ r.2.mem ((c.tc : Thread Cert.ColsIdeal.nD Cert.ColsIdeal.τ).loc Cert.ColsIdeal.main_arg3) = m ((c.tc : Thread Cert.ColsIdeal.nD Cert.ColsIdeal.τ).loc Cert.ColsIdeal.main_arg3)
          ∧ r.2.mem ((c.tc : Thread Cert.ColsIdeal.nD Cert.ColsIdeal.τ).loc Cert.ColsIdeal.main_arg4) = m ((c.tc : Thread Cert.ColsIdeal.nD Cert.ColsIdeal.τ).loc Cert.ColsIdeal.main_arg4)
          ∧ r.2.mem ((c.tc : Thread Cert.ColsIdeal.nD Cert.ColsIdeal.τ).loc Cert.ColsIdeal.main_arg5) = m ((c.tc : Thread Cert.ColsIdeal.nD Cert.ColsIdeal.τ).loc Cert.ColsIdeal.main_arg5)
          ∧ r.2.mem ((c.tc : Thread Cert.ColsIdeal.nD Cert.ColsIdeal.τ).loc Cert.ColsIdeal.main_arg6) = m ((c.tc : Thread Cert.ColsIdeal.nD Cert.ColsIdeal.τ).loc Cert.ColsIdeal.main_arg6)
          ∧ r.2.mem ((c.tc : Thread Cert.ColsIdeal.nD Cert.ColsIdeal.τ).loc Cert.ColsIdeal.main_arg7) = m ((c.tc : Thread Cert.ColsIdeal.nD Cert.ColsIdeal.τ).loc Cert.ColsIdeal.main_arg7)
          ∧ r.2.mem ((c.tc : Thread Cert.ColsIdeal.nD Cert.ColsIdeal.τ).loc Cert.ColsIdeal.main_arg8) = m ((c.tc : Thread Cert.ColsIdeal.nD Cert.ColsIdeal.τ).loc Cert.ColsIdeal.main_arg8)
          ∧ r.2.mem ((c.tc : Thread Cert.ColsIdeal.nD Cert.ColsIdeal.τ).loc Cert.ColsIdeal.main_arg9) = m ((c.tc : Thread Cert.ColsIdeal.nD Cert.ColsIdeal.τ).loc Cert.ColsIdeal.main_arg9))
      ∧ θ_run (Cert.StepIdeal.defs (F := Ideal)) (onTc (τ := Cert.StepIdeal.τ) (Cert.StepIdeal.main (F := Ideal))) ⟨m', fun _ => 0, g'⟩ (fun r => ∀ c : Dev Cert.StepIdeal.nD,
          r.2.mem ((c.tc : Thread Cert.StepIdeal.nD Cert.StepIdeal.τ).loc Cert.StepIdeal.main_v69) = v0 c
          ∧ r.2.mem ((c.tc : Thread Cert.StepIdeal.nD Cert.StepIdeal.τ).loc Cert.StepIdeal.main_v108) = v1 c
          ∧ r.2.mem ((c.tc : Thread Cert.StepIdeal.nD Cert.StepIdeal.τ).loc Cert.StepIdeal.main_v126) = v2 c
          ∧ r.2.mem ((c.tc : Thread Cert.StepIdeal.nD Cert.StepIdeal.τ).loc Cert.StepIdeal.main_v142) = v3 c
          ∧ r.2.mem ((c.tc : Thread Cert.StepIdeal.nD Cert.StepIdeal.τ).loc Cert.StepIdeal.main_arg0) = m' ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m' ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m' ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m' ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m' ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m' ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m' ((c.tc : Thread Cert.StepIdeal.nD Cert.StepIdeal.τ).loc Cert.StepIdeal.main_arg6)
          ∧ r.2.mem ((c.tc : Thread Cert.StepIdeal.nD Cert.StepIdeal.τ).loc Cert.StepIdeal.main_arg7) = m' ((c.tc : Thread Cert.StepIdeal.nD Cert.StepIdeal.τ).loc Cert.StepIdeal.main_arg7)
          ∧ r.2.mem ((c.tc : Thread Cert.StepIdeal.nD Cert.StepIdeal.τ).loc Cert.StepIdeal.main_arg8) = m' ((c.tc : Thread Cert.StepIdeal.nD Cert.StepIdeal.τ).loc Cert.StepIdeal.main_arg8)
          ∧ r.2.mem ((c.tc : Thread Cert.StepIdeal.nD Cert.StepIdeal.τ).loc Cert.StepIdeal.main_arg9) = m' ((c.tc : Thread Cert.StepIdeal.nD Cert.StepIdeal.τ).loc Cert.StepIdeal.main_arg9))

def Claim : Prop :=
  ∃ (hKernel : Cert.Kernel.Facts) (hKernelIdeal : Cert.KernelIdeal.Facts) (hReferenceIdeal : Cert.ReferenceIdeal.Facts) (hCols : Cert.Cols.Facts) (hColsIdeal : Cert.ColsIdeal.Facts) (hStepIdeal : Cert.StepIdeal.Facts),
    quiescent_Kernel (hKernel := hKernel)
    ∧ quiescent_KernelIdeal (hKernelIdeal := hKernelIdeal)
    ∧ quiescent_ReferenceIdeal (hReferenceIdeal := hReferenceIdeal)
    ∧ quiescent_Cols (hCols := hCols)
    ∧ quiescent_ColsIdeal (hColsIdeal := hColsIdeal)
    ∧ quiescent_StepIdeal (hStepIdeal := hStepIdeal)
    ∧ preserves_Kernel_KernelIdeal
    ∧ algebraic_KernelIdeal_ReferenceIdeal (hKernelIdeal := hKernelIdeal) (hReferenceIdeal := hReferenceIdeal)
    ∧ preserves_Cols_ColsIdeal
    ∧ algebraic_ColsIdeal_StepIdeal (hColsIdeal := hColsIdeal) (hStepIdeal := hStepIdeal)
-- ==== Kernel.lean ====
abbrev S8192x2048 : Shape := ⟨2, ![8192, 2048]⟩
abbrev S8192 : Shape := ⟨1, ![8192]⟩
abbrev S2048x5632 : Shape := ⟨2, ![2048, 5632]⟩
abbrev S2048x2816 : Shape := ⟨2, ![2048, 2816]⟩
abbrev S64x1x128 : Shape := ⟨3, ![64, 1, 128]⟩
abbrev S8192x2816 : Shape := ⟨2, ![8192, 2816]⟩
abbrev S2048x8192 : Shape := ⟨2, ![2048, 8192]⟩
abbrev S2816x8192 : Shape := ⟨2, ![2816, 8192]⟩
abbrev S1x1 : Shape := ⟨2, ![1, 1]⟩
abbrev S128x2048 : Shape := ⟨2, ![128, 2048]⟩
abbrev S1x1x128 : Shape := ⟨3, ![1, 1, 128]⟩
abbrev S128x2816 : Shape := ⟨2, ![128, 2816]⟩
abbrev S2048x128 : Shape := ⟨2, ![2048, 128]⟩
abbrev S2816x128 : Shape := ⟨2, ![2816, 128]⟩
abbrev S8x128 : Shape := ⟨2, ![8, 128]⟩
abbrev S1x128 : Shape := ⟨2, ![1, 128]⟩
abbrev S128x128 : Shape := ⟨2, ![128, 128]⟩
abbrev S128x256 : Shape := ⟨2, ![128, 256]⟩
abbrev S2048x512 : Shape := ⟨2, ![2048, 512]⟩
abbrev S128x512 : Shape := ⟨2, ![128, 512]⟩
abbrev S256x2816 : Shape := ⟨2, ![256, 2816]⟩
abbrev S256x128 : Shape := ⟨2, ![256, 128]⟩
abbrev S2048x256 : Shape := ⟨2, ![2048, 256]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 16
  | .vmem => 29
  | .smem => 1
  | _ => 0

abbrev bufTy : (tb : Table) → Fin (tcTables nBuf tb) → BufTy
  | .hbm, ⟨0, _⟩ => ⟨S8192x2048, .fp8e4m3⟩
  | .hbm, ⟨1, _⟩ => ⟨S8192, .f32⟩
  | .hbm, ⟨2, _⟩ => ⟨S8192x2048, .bf16⟩
  | .hbm, ⟨3, _⟩ => ⟨S8192x2048, .fp8e5m2⟩
  | .hbm, ⟨4, _⟩ => ⟨S8192, .f32⟩
  | .hbm, ⟨5, _⟩ => ⟨S2048x5632, .bf16⟩
  | .hbm, ⟨6, _⟩ => ⟨S2048x2816, .bf16⟩
  | .hbm, ⟨7, _⟩ => ⟨S64x1x128, .f32⟩
  | .hbm, ⟨8, _⟩ => ⟨S64x1x128, .f32⟩
  | .hbm, ⟨9, _⟩ => ⟨S8192x2816, .f32⟩
  | .hbm, ⟨10, _⟩ => ⟨S8192x2816, .bf16⟩
  | .hbm, ⟨11, _⟩ => ⟨S8192x2048, .f32⟩
  | .hbm, ⟨12, _⟩ => ⟨S2048x8192, .bf16⟩
  | .hbm, ⟨13, _⟩ => ⟨S2816x8192, .bf16⟩
  | .hbm, ⟨14, _⟩ => ⟨S2816x8192, .bf16⟩
  | .hbm, ⟨15, _⟩ => ⟨S1x1, .f32⟩
  | .local _ .vmem, ⟨0, _⟩ => ⟨S128x2048, .fp8e4m3⟩
  | .local _ .vmem, ⟨1, _⟩ => ⟨S128x2048, .fp8e4m3⟩
  | .local _ .vmem, ⟨2, _⟩ => ⟨S1x1x128, .f32⟩
  | .local _ .vmem, ⟨3, _⟩ => ⟨S1x1x128, .f32⟩
  | .local _ .vmem, ⟨4, _⟩ => ⟨S128x2048, .bf16⟩
  | .local _ .vmem, ⟨5, _⟩ => ⟨S128x2048, .bf16⟩
  | .local _ .vmem, ⟨6, _⟩ => ⟨S128x2048, .fp8e5m2⟩
  | .local _ .vmem, ⟨7, _⟩ => ⟨S128x2048, .fp8e5m2⟩
  | .local _ .vmem, ⟨8, _⟩ => ⟨S1x1x128, .f32⟩
  | .local _ .vmem, ⟨9, _⟩ => ⟨S1x1x128, .f32⟩
  | .local _ .vmem, ⟨10, _⟩ => ⟨S2048x5632, .bf16⟩
  | .local _ .vmem, ⟨11, _⟩ => ⟨S2048x2816, .bf16⟩
  | .local _ .vmem, ⟨12, _⟩ => ⟨S128x2816, .f32⟩
  | .local _ .vmem, ⟨13, _⟩ => ⟨S128x2816, .f32⟩
  | .local _ .vmem, ⟨14, _⟩ => ⟨S128x2816, .bf16⟩
  | .local _ .vmem, ⟨15, _⟩ => ⟨S128x2816, .bf16⟩
  | .local _ .vmem, ⟨16, _⟩ => ⟨S128x2048, .f32⟩
  | .local _ .vmem, ⟨17, _⟩ => ⟨S128x2048, .f32⟩
  | .local _ .vmem, ⟨18, _⟩ => ⟨S2048x128, .bf16⟩
  | .local _ .vmem, ⟨19, _⟩ => ⟨S2048x128, .bf16⟩
  | .local _ .vmem, ⟨20, _⟩ => ⟨S2816x128, .bf16⟩
  | .local _ .vmem, ⟨21, _⟩ => ⟨S2816x128, .bf16⟩
  | .local _ .vmem, ⟨22, _⟩ => ⟨S2816x128, .bf16⟩
  | .local _ .vmem, ⟨23, _⟩ => ⟨S2816x128, .bf16⟩
  | .local _ .vmem, ⟨24, _⟩ => ⟨S128x2816, .f32⟩
  | .local _ .vmem, ⟨25, _⟩ => ⟨S128x2816, .f32⟩
  | .local _ .vmem, ⟨26, _⟩ => ⟨S128x2048, .bf16⟩
  | .local _ .vmem, ⟨27, _⟩ => ⟨S128x2048, .bf16⟩
  | .local _ .vmem, ⟨28, _⟩ => ⟨S8x128, .f32⟩
  | .local _ .smem, ⟨0, _⟩ => ⟨S1x1, .f32⟩
  | _, _ => ⟨S8192x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_v2_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_stg13_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v1195 : BitVec 1 := Scalar.cmpi .eq arg0 c63_i32
  let v1196 : BitVec 32 := Scalar.extui v1195
  let c0_i32_443 : BitVec 32 := 0#32
  let v1197 : BitVec 1 := Scalar.cmpi .ne v1196 c0_i32_443
  v1197

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2816x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2816x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .smem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8192x2048 : Shape := ⟨2, ![8192, 2048]⟩
abbrev S8192 : Shape := ⟨1, ![8192]⟩
abbrev S2048x5632 : Shape := ⟨2, ![2048, 5632]⟩
abbrev S2048x2816 : Shape := ⟨2, ![2048, 2816]⟩
abbrev S2048x11x2x256 : Shape := ⟨4, ![2048, 11, 2, 256]⟩
abbrev S2048x11x1x256 : Shape := ⟨4, ![2048, 11, 1, 256]⟩
abbrev S2048x11x256 : Shape := ⟨3, ![2048, 11, 256]⟩
abbrev S8192x1 : Shape := ⟨2, ![8192, 1]⟩
abbrev S8192x2816 : Shape := ⟨2, ![8192, 2816]⟩
abbrev S2048x8192 : Shape := ⟨2, ![2048, 8192]⟩
abbrev S2816x8192 : Shape := ⟨2, ![2816, 8192]⟩
abbrev S1x1 : Shape := ⟨2, ![1, 1]⟩
abbrev S1x8192x2048 : Shape := ⟨3, ![1, 8192, 2048]⟩
abbrev S1 : Shape := ⟨1, ![1]⟩
abbrev S1x1x1 : Shape := ⟨3, ![1, 1, 1]⟩

abbrev nBuf : Space → Nat
  | .hbm => 23
  | .vmem => 14
  | .smem => 1
  | _ => 0

abbrev bufTy : (tb : Table) → Fin (tcTables nBuf tb) → BufTy
  | .hbm, ⟨0, _⟩ => ⟨S8192x2048, .fp8e4m3⟩
  | .hbm, ⟨1, _⟩ => ⟨S8192, .f32⟩
  | .hbm, ⟨2, _⟩ => ⟨S8192x2048, .bf16⟩
  | .hbm, ⟨3, _⟩ => ⟨S8192x2048, .fp8e5m2⟩
  | .hbm, ⟨4, _⟩ => ⟨S8192, .f32⟩
  | .hbm, ⟨5, _⟩ => ⟨S2048x5632, .bf16⟩
  | .hbm, ⟨6, _⟩ => ⟨S2048x2816, .bf16⟩
  | .hbm, ⟨7, _⟩ => ⟨S2048x11x2x256, .bf16⟩
  | .hbm, ⟨8, _⟩ => ⟨S2048x11x1x256, .bf16⟩
  | .hbm, ⟨9, _⟩ => ⟨S2048x11x256, .bf16⟩
  | .hbm, ⟨10, _⟩ => ⟨S2048x2816, .bf16⟩
  | .hbm, ⟨11, _⟩ => ⟨S2048x11x1x256, .bf16⟩
  | .hbm, ⟨12, _⟩ => ⟨S2048x11x256, .bf16⟩
  | .hbm, ⟨13, _⟩ => ⟨S2048x2816, .bf16⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2816, .f32⟩
  | .hbm, ⟨18, _⟩ => ⟨S8192x2816, .bf16⟩
  | .hbm, ⟨19, _⟩ => ⟨S2048x8192, .bf16⟩
  | .hbm, ⟨20, _⟩ => ⟨S2816x8192, .bf16⟩
  | .hbm, ⟨21, _⟩ => ⟨S2816x8192, .bf16⟩
  | .hbm, ⟨22, _⟩ => ⟨S1x1, .f32⟩
  | .local _ .vmem, ⟨0, _⟩ => ⟨S8192x2048, .fp8e4m3⟩
  | .local _ .vmem, ⟨1, _⟩ => ⟨S8192x1, .f32⟩
  | .local _ .vmem, ⟨2, _⟩ => ⟨S8192x2048, .bf16⟩
  | .local _ .vmem, ⟨3, _⟩ => ⟨S8192x2048, .fp8e5m2⟩
  | .local _ .vmem, ⟨4, _⟩ => ⟨S8192x1, .f32⟩
  | .local _ .vmem, ⟨5, _⟩ => ⟨S2048x2816, .bf16⟩
  | .local _ .vmem, ⟨6, _⟩ => ⟨S2048x2816, .bf16⟩
  | .local _ .vmem, ⟨7, _⟩ => ⟨S2048x2816, .bf16⟩
  | .local _ .vmem, ⟨8, _⟩ => ⟨S8192x2048, .f32⟩
  | .local _ .vmem, ⟨9, _⟩ => ⟨S8192x2816, .f32⟩
  | .local _ .vmem, ⟨10, _⟩ => ⟨S8192x2816, .bf16⟩
  | .local _ .vmem, ⟨11, _⟩ => ⟨S2048x8192, .bf16⟩
  | .local _ .vmem, ⟨12, _⟩ => ⟨S2816x8192, .bf16⟩
  | .local _ .vmem, ⟨13, _⟩ => ⟨S2816x8192, .bf16⟩
  | .local _ .smem, ⟨0, _⟩ => ⟨S1x1, .f32⟩
  | _, _ => ⟨S8192x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev main_v9_6 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S8192x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x2048 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2048x8192 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2816x8192 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2816x8192 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .smem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Cols.lean ====
abbrev S2048x8192 : Shape := ⟨2, ![2048, 8192]⟩
abbrev S8192x2816 : Shape := ⟨2, ![8192, 2816]⟩
abbrev S5 : Shape := ⟨1, ![5]⟩
abbrev S2048x2816 : Shape := ⟨2, ![2048, 2816]⟩
abbrev S2048x1408 : Shape := ⟨2, ![2048, 1408]⟩
abbrev S22x2048 : Shape := ⟨2, ![22, 2048]⟩
abbrev S8192x256 : Shape := ⟨2, ![8192, 256]⟩
abbrev S2048x256 : Shape := ⟨2, ![2048, 256]⟩
abbrev S2048x128 : Shape := ⟨2, ![2048, 128]⟩
abbrev S512x8192 : Shape := ⟨2, ![512, 8192]⟩
abbrev S512x256 : Shape := ⟨2, ![512, 256]⟩
abbrev S1x2048 : Shape := ⟨2, ![1, 2048]⟩
abbrev S6x2048 : Shape := ⟨2, ![6, 2048]⟩
abbrev S2048x6 : Shape := ⟨2, ![2048, 6]⟩
abbrev S1 : Shape := ⟨1, ![1]⟩
abbrev S32x128 : Shape := ⟨2, ![32, 128]⟩
abbrev S8x128 : Shape := ⟨2, ![8, 128]⟩
abbrev S32x1 : Shape := ⟨2, ![32, 1]⟩
abbrev S32 : Shape := ⟨1, ![32]⟩
abbrev S128x2048 : Shape := ⟨2, ![128, 2048]⟩

abbrev nBuf : Space → Nat
  | .hbm => 17
  | .vmem => 28
  | .smem => 1
  | _ => 0

abbrev bufTy : (tb : Table) → Fin (tcTables nBuf tb) → BufTy
  | .hbm, ⟨0, _⟩ => ⟨S2048x8192, .bf16⟩
  | .hbm, ⟨1, _⟩ => ⟨S8192x2816, .bf16⟩
  | .hbm, ⟨2, _⟩ => ⟨S5, .f32⟩
  | .hbm, ⟨3, _⟩ => ⟨S2048x2816, .bf16⟩
  | .hbm, ⟨4, _⟩ => ⟨S2048x1408, .i8⟩
  | .hbm, ⟨5, _⟩ => ⟨S2048x2816, .i8⟩
  | .hbm, ⟨6, _⟩ => ⟨S2048x2816, .i8⟩
  | .hbm, ⟨7, _⟩ => ⟨S22x2048, .f32⟩
  | .hbm, ⟨8, _⟩ => ⟨S22x2048, .f32⟩
  | .hbm, ⟨9, _⟩ => ⟨S22x2048, .f32⟩
  | .hbm, ⟨10, _⟩ => ⟨S2048x2816, .f32⟩
  | .hbm, ⟨11, _⟩ => ⟨S2048x2816, .bf16⟩
  | .hbm, ⟨12, _⟩ => ⟨S2048x2816, .i8⟩
  | .hbm, ⟨13, _⟩ => ⟨S2048x2816, .i8⟩
  | .hbm, ⟨14, _⟩ => ⟨S22x2048, .f32⟩
  | .hbm, ⟨15, _⟩ => ⟨S22x2048, .f32⟩
  | .hbm, ⟨16, _⟩ => ⟨S22x2048, .f32⟩
  | .local _ .vmem, ⟨0, _⟩ => ⟨S2048x8192, .bf16⟩
  | .local _ .vmem, ⟨1, _⟩ => ⟨S8192x256, .bf16⟩
  | .local _ .vmem, ⟨2, _⟩ => ⟨S8192x256, .bf16⟩
  | .local _ .vmem, ⟨3, _⟩ => ⟨S2048x256, .bf16⟩
  | .local _ .vmem, ⟨4, _⟩ => ⟨S2048x256, .bf16⟩
  | .local _ .vmem, ⟨5, _⟩ => ⟨S2048x128, .i8⟩
  | .local _ .vmem, ⟨6, _⟩ => ⟨S2048x128, .i8⟩
  | .local _ .vmem, ⟨7, _⟩ => ⟨S2048x256, .i8⟩
  | .local _ .vmem, ⟨8, _⟩ => ⟨S2048x256, .i8⟩
  | .local _ .vmem, ⟨9, _⟩ => ⟨S2048x256, .i8⟩
  | .local _ .vmem, ⟨10, _⟩ => ⟨S2048x256, .i8⟩
  | .local _ .vmem, ⟨11, _⟩ => ⟨S22x2048, .f32⟩
  | .local _ .vmem, ⟨12, _⟩ => ⟨S22x2048, .f32⟩
  | .local _ .vmem, ⟨13, _⟩ => ⟨S22x2048, .f32⟩
  | .local _ .vmem, ⟨14, _⟩ => ⟨S2048x256, .f32⟩
  | .local _ .vmem, ⟨15, _⟩ => ⟨S2048x256, .f32⟩
  | .local _ .vmem, ⟨16, _⟩ => ⟨S2048x256, .bf16⟩
  | .local _ .vmem, ⟨17, _⟩ => ⟨S2048x256, .bf16⟩
  | .local _ .vmem, ⟨18, _⟩ => ⟨S2048x256, .i8⟩
  | .local _ .vmem, ⟨19, _⟩ => ⟨S2048x256, .i8⟩
  | .local _ .vmem, ⟨20, _⟩ => ⟨S2048x256, .i8⟩
  | .local _ .vmem, ⟨21, _⟩ => ⟨S2048x256, .i8⟩
  | .local _ .vmem, ⟨22, _⟩ => ⟨S22x2048, .f32⟩
  | .local _ .vmem, ⟨23, _⟩ => ⟨S22x2048, .f32⟩
  | .local _ .vmem, ⟨24, _⟩ => ⟨S22x2048, .f32⟩
  | .local _ .vmem, ⟨25, _⟩ => ⟨S2048x256, .f32⟩
  | .local _ .vmem, ⟨26, _⟩ => ⟨S2048x128, .f32⟩
  | .local _ .vmem, ⟨27, _⟩ => ⟨S2048x128, .f32⟩
  | .local _ .smem, ⟨0, _⟩ => ⟨S5, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25

abbrev nD : Nat := 1
abbrev τ : Topo := Topo.v7x

variable {F : FTy → Type} [FloatOps F]

abbrev grid0 : Pipeline.Grid := ⟨1, ![11], ![false]⟩

def k0_off1 (i : grid0.Coords) (c0_i32 : BitVec 32) : Fin 2 → Nat :=
  let arg0 : BitVec 32 := BitVec.ofNat 32 (i 0).val
  let c2_i32 : BitVec 32 := 2#32
  let v24 : BitVec 32 := Scalar.muli arg0 c2_i32
  let v25 : BitVec 32 := Scalar.addi v24 c0_i32
  let v26 : Index := Scalar.indexCast v25
  let c0_23 : Index := 0#32
  ![v26.toNat, 0]
@[reducible] def k0_t1_loop : Scf.Loop 32 :=
  let c0_i32_40 : BitVec 32 := 0#32
  let c64_i32 : BitVec 32 := 64#32
  let v57 : BitVec 32 := Scalar.addi c0_i32_40 c64_i32
  let c1_i32_41 : BitVec 32 := 1#32
  ⟨c0_i32_40, v57, c1_i32_41⟩
def k0_mult1 (k0_t1 : Fin k0_t1_loop.trips) : BitVec 32 :=
  let c0_i32_40 : BitVec 32 := 0#32
  let c1_i32_41 : BitVec 32 := 1#32
  let arg21 : BitVec 32 := Scf.iv c0_i32_40 c1_i32_41 k0_t1
  let c32_i32 : BitVec 32 := 32#32
  let v90 : BitVec 32 := Scalar.muli arg21 c32_i32
  v90
def k0_off2 (k0_t1 : Fin k0_t1_loop.trips) : Fin 2 → Nat :=
  let c0_i32_40 : BitVec 32 := 0#32
  let c1_i32_41 : BitVec 32 := 1#32
  let arg21 : BitVec 32 := Scf.iv c0_i32_40 c1_i32_41 k0_t1
  let c32_i32 : BitVec 32 := 32#32
  let v90 : BitVec 32 := Scalar.muli arg21 c32_i32
  let v91 : BitVec 32 := v90
  let v93 : Index := Scalar.indexCast v91
  let c0_64 : Index := 0#32
  ![v93.toNat, 0]
def k0_off3 (k0_t1 : Fin k0_t1_loop.trips) : Fin 2 → Nat :=
  let c0_i32_40 : BitVec 32 := 0#32
  let c1_i32_41 : BitVec 32 := 1#32
  let arg21 : BitVec 32 := Scf.iv c0_i32_40 c1_i32_41 k0_t1
  let c32_i32 : BitVec 32 := 32#32
  let v90 : BitVec 32 := Scalar.muli arg21 c32_i32
  let v91 : BitVec 32 := v90
  let v112 : Index := Scalar.indexCast v91
  let c0_69 : Index := 0#32
  ![v112.toNat, 0]
def k0_off4 (k0_t1 : Fin k0_t1_loop.trips) : Fin 2 → Nat :=
  let c0_i32_40 : BitVec 32 := 0#32
  let c1_i32_41 : BitVec 32 := 1#32
  let arg21 : BitVec 32 := Scf.iv c0_i32_40 c1_i32_41 k0_t1
  let c32_i32 : BitVec 32 := 32#32
  let v90 : BitVec 32 := Scalar.muli arg21 c32_i32
  let v91 : BitVec 32 := v90
  let v114 : Index := Scalar.indexCast v91
  let c2_70 : Index := 2#32
  ![v114.toNat, 2]
def k0_off5 (k0_t1 : Fin k0_t1_loop.trips) : Fin 2 → Nat :=
  let c0_i32_40 : BitVec 32 := 0#32
  let c1_i32_41 : BitVec 32 := 1#32
  let arg21 : BitVec 32 := Scf.iv c0_i32_40 c1_i32_41 k0_t1
  let c32_i32 : BitVec 32 := 32#32
  let v90 : BitVec 32 := Scalar.muli arg21 c32_i32
  let v91 : BitVec 32 := v90
  let v116 : Index := Scalar.indexCast v91
  let c4_71 : Index := 4#32
  ![v116.toNat, 4]
def k0_off6 (k0_t1 : Fin k0_t1_loop.trips) : Fin 2 → Nat :=
  let c0_i32_40 : BitVec 32 := 0#32
  let c1_i32_41 : BitVec 32 := 1#32
  let arg21 : BitVec 32 := Scf.iv c0_i32_40 c1_i32_41 k0_t1
  let c32_i32 : BitVec 32 := 32#32
  let v90 : BitVec 32 := Scalar.muli arg21 c32_i32
  let v91 : BitVec 32 := v90
  let v118 : Index := Scalar.indexCast v91
  let c0_72 : Index := 0#32
  ![v118.toNat, 0]
def k0_off7 (k0_t1 : Fin k0_t1_loop.trips) : Fin 2 → Nat :=
  let c0_i32_40 : BitVec 32 := 0#32
  let c1_i32_41 : BitVec 32 := 1#32
  let arg21 : BitVec 32 := Scf.iv c0_i32_40 c1_i32_41 k0_t1
  let c32_i32 : BitVec 32 := 32#32
  let v90 : BitVec 32 := Scalar.muli arg21 c32_i32
  let v91 : BitVec 32 := v90
  let v261 : Index := Scalar.indexCast v91
  let c1 : Index := 1#32
  ![v261.toNat, 1]
def k0_off8 (k0_t1 : Fin k0_t1_loop.trips) : Fin 2 → Nat :=
  let c0_i32_40 : BitVec 32 := 0#32
  let c1_i32_41 : BitVec 32 := 1#32
  let arg21 : BitVec 32 := Scf.iv c0_i32_40 c1_i32_41 k0_t1
  let c32_i32 : BitVec 32 := 32#32
  let v90 : BitVec 32 := Scalar.muli arg21 c32_i32
  let v91 : BitVec 32 := v90
  let v263 : Index := Scalar.indexCast v91
  let c3_116 : Index := 3#32
  ![v263.toNat, 3]
def k0_off9 (k0_t1 : Fin k0_t1_loop.trips) : Fin 2 → Nat :=
  let c0_i32_40 : BitVec 32 := 0#32
  let c1_i32_41 : BitVec 32 := 1#32
  let arg21 : BitVec 32 := Scf.iv c0_i32_40 c1_i32_41 k0_t1
  let c32_i32 : BitVec 32 := 32#32
  let v90 : BitVec 32 := Scalar.muli arg21 c32_i32
  let v91 : BitVec 32 := v90
  let v265 : Index := Scalar.indexCast v91
  let c5 : Index := 5#32
  ![v265.toNat, 5]
def k0_off10 (k0_t1 : Fin k0_t1_loop.trips) : Fin 2 → Nat :=
  let c0_i32_40 : BitVec 32 := 0#32
  let c1_i32_41 : BitVec 32 := 1#32
  let arg21 : BitVec 32 := Scf.iv c0_i32_40 c1_i32_41 k0_t1
  let c32_i32 : BitVec 32 := 32#32
  let v90 : BitVec 32 := Scalar.muli arg21 c32_i32
  let v91 : BitVec 32 := v90
  let v267 : Index := Scalar.indexCast v91
  let c128 : Index := 128#32
  ![v267.toNat, 128]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S22x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S22x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S22x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x256 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x256 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S22x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S22x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S22x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== StepIdeal.lean ====
abbrev S2048x8192 : Shape := ⟨2, ![2048, 8192]⟩
abbrev S8192x2816 : Shape := ⟨2, ![8192, 2816]⟩
abbrev S5 : Shape := ⟨1, ![5]⟩
abbrev S2048x2816 : Shape := ⟨2, ![2048, 2816]⟩
abbrev S2048x1408 : Shape := ⟨2, ![2048, 1408]⟩
abbrev S22x2048 : Shape := ⟨2, ![22, 2048]⟩
abbrev S2048x22x64 : Shape := ⟨3, ![2048, 22, 64]⟩
abbrev S_ : Shape := ⟨0, ![]⟩
abbrev S2048x22x128 : Shape := ⟨3, ![2048, 22, 128]⟩
abbrev S1 : Shape := ⟨1, ![1]⟩
abbrev S2048x22 : Shape := ⟨2, ![2048, 22]⟩
abbrev S2048x22x1 : Shape := ⟨3, ![2048, 22, 1]⟩

abbrev nBuf : Space → Nat
  | .hbm => 216
  | .vmem => 0
  | .smem => 0
  | _ => 0

abbrev hbmTy0_0 (i : Nat) : BufTy := match i % 128 with
  | 0 => ⟨S2048x8192, .bf16⟩
  | 1 => ⟨S8192x2816, .bf16⟩
  | 2 => ⟨S5, .f32⟩
  | 3 => ⟨S2048x2816, .bf16⟩
  | 4 => ⟨S2048x1408, .i8⟩
  | 5 => ⟨S2048x2816, .i8⟩
  | 6 => ⟨S2048x2816, .i8⟩
  | 7 => ⟨S22x2048, .f32⟩
  | 8 => ⟨S22x2048, .f32⟩
  | 9 => ⟨S22x2048, .f32⟩
  | 10 => ⟨S2048x2816, .f32⟩
  | 11 => ⟨S2048x1408, .i32⟩
  | 12 => ⟨S2048x22x64, .i32⟩
  | 13 => ⟨S_, .i32⟩
  | 14 => ⟨S2048x22x64, .i32⟩
  | 15 => ⟨S2048x22x64, .i32⟩
  | 16 => ⟨S_, .i32⟩
  | 17 => ⟨S2048x22x64, .i32⟩
  | 18 => ⟨S2048x22x64, .i1⟩
  | 19 => ⟨S_, .i32⟩
  | 20 => ⟨S2048x22x64, .i32⟩
  | 21 => ⟨S2048x22x64, .i32⟩
  | 22 => ⟨S2048x22x64, .i32⟩
  | 23 => ⟨S_, .i32⟩
  | 24 => ⟨S2048x22x64, .i32⟩
  | 25 => ⟨S2048x22x64, .i32⟩
  | 26 => ⟨S_, .i32⟩
  | 27 => ⟨S2048x22x64, .i32⟩
  | 28 => ⟨S2048x22x64, .i1⟩
  | 29 => ⟨S_, .i32⟩
  | 30 => ⟨S2048x22x64, .i32⟩
  | 31 => ⟨S2048x22x64, .i32⟩
  | 32 => ⟨S2048x22x64, .i32⟩
  | 33 => ⟨S2048x22x128, .i32⟩
  | 34 => ⟨S2048x2816, .i32⟩
  | 35 => ⟨S2048x2816, .f32⟩
  | 36 => ⟨S2048x2816, .f32⟩
  | 37 => ⟨S2048x2816, .f32⟩
  | 38 => ⟨S2048x2816, .f32⟩
  | 39 => ⟨S_, .f32⟩
  | 40 => ⟨S2048x2816, .f32⟩
  | 41 => ⟨S2048x2816, .f32⟩
  | 42 => ⟨S_, .f32⟩
  | 43 => ⟨S2048x2816, .f32⟩
  | 44 => ⟨S2048x2816, .f32⟩
  | 45 => ⟨S_, .f32⟩
  | 46 => ⟨S2048x2816, .f32⟩
  | 47 => ⟨S2048x2816, .f32⟩
  | 48 => ⟨S_, .f32⟩
  | 49 => ⟨S2048x2816, .f32⟩
  | 50 => ⟨S2048x2816, .f32⟩
  | 51 => ⟨S_, .f32⟩
  | 52 => ⟨S_, .f32⟩
  | 53 => ⟨S_, .f32⟩
  | 54 => ⟨S2048x2816, .f32⟩
  | 55 => ⟨S2048x2816, .f32⟩
  | 56 => ⟨S_, .f32⟩
  | 57 => ⟨S2048x2816, .f32⟩
  | 58 => ⟨S2048x2816, .f32⟩
  | 59 => ⟨S_, .f32⟩
  | 60 => ⟨S2048x2816, .f32⟩
  | 61 => ⟨S2048x2816, .f32⟩
  | 62 => ⟨S_, .f32⟩
  | 63 => ⟨S2048x2816, .f32⟩
  | 64 => ⟨S2048x2816, .f32⟩
  | 65 => ⟨S2048x2816, .f32⟩
  | 66 => ⟨S_, .f32⟩
  | 67 => ⟨S2048x2816, .f32⟩
  | 68 => ⟨S2048x2816, .i1⟩
  | 69 => ⟨S_, .f32⟩
  | 70 => ⟨S2048x2816, .f32⟩
  | 71 => ⟨S2048x2816, .i1⟩
  | 72 => ⟨S2048x2816, .i1⟩
  | 73 => ⟨S_, .f32⟩
  | 74 => ⟨S2048x2816, .f32⟩
  | 75 => ⟨S2048x2816, .f32⟩
  | 76 => ⟨S_, .f32⟩
  | 77 => ⟨S2048x2816, .f32⟩
  | 78 => ⟨S2048x2816, .f32⟩
  | 79 => ⟨S1, .f32⟩
  | 80 => ⟨S_, .f32⟩
  | 81 => ⟨S1, .f32⟩
  | 82 => ⟨S_, .f32⟩
  | 83 => ⟨S1, .f32⟩
  | 84 => ⟨S_, .f32⟩
  | 85 => ⟨S_, .f32⟩
  | 86 => ⟨S2048x2816, .f32⟩
  | 87 => ⟨S2048x2816, .i1⟩
  | 88 => ⟨S2048x2816, .i1⟩
  | 89 => ⟨S2048x22, .f32⟩
  | 90 => ⟨S2048x22x1, .f32⟩
  | 91 => ⟨S2048x22x128, .f32⟩
  | 92 => ⟨S2048x2816, .f32⟩
  | 93 => ⟨S2048x2816, .f32⟩
  | 94 => ⟨S2048x2816, .f32⟩
  | 95 => ⟨S_, .f32⟩
  | 96 => ⟨S_, .f32⟩
  | 97 => ⟨S2048x2816, .f32⟩
  | 98 => ⟨S2048x2816, .f32⟩
  | 99 => ⟨S_, .f32⟩
  | 100 => ⟨S_, .f32⟩
  | 101 => ⟨S2048x2816, .f32⟩
  | 102 => ⟨S2048x2816, .f32⟩
  | 103 => ⟨S2048x2816, .f32⟩
  | 104 => ⟨S2048x2816, .f32⟩
  | 105 => ⟨S2048x2816, .f32⟩
  | 106 => ⟨S_, .f32⟩
  | 107 => ⟨S_, .f32⟩
  | 108 => ⟨S2048x2816, .f32⟩
  | 109 => ⟨S2048x2816, .f32⟩
  | 110 => ⟨S2048x2816, .f32⟩
  | 111 => ⟨S2048x2816, .i32⟩
  | 112 => ⟨S2048x2816, .f32⟩
  | 113 => ⟨S2048x22, .f32⟩
  | 114 => ⟨S2048x22x1, .f32⟩
  | 115 => ⟨S2048x22x128, .f32⟩
  | 116 => ⟨S2048x2816, .f32⟩
  | 117 => ⟨S2048x2816, .f32⟩
  | 118 => ⟨S2048x2816, .i32⟩
  | 119 => ⟨S2048x2816, .f32⟩
  | 120 => ⟨S2048x22, .f32⟩
  | 121 => ⟨S2048x22x1, .f32⟩
  | 122 => ⟨S2048x22x128, .f32⟩
  | 123 => ⟨S2048x2816, .f32⟩
  | 124 => ⟨S2048x2816, .f32⟩
  | 125 => ⟨S_, .f32⟩
  | 126 => ⟨S2048x2816, .f32⟩
  | 127 => ⟨S2048x2816, .f32⟩
  | _ => ⟨S2048x8192, .bf16⟩

abbrev hbmTy0_1 (i : Nat) : BufTy := match i % 128 with
  | 0 => ⟨S_, .f32⟩
  | 1 => ⟨S2048x2816, .f32⟩
  | 2 => ⟨S2048x2816, .f32⟩
  | 3 => ⟨S2048x2816, .f32⟩
  | 4 => ⟨S2048x2816, .f32⟩
  | 5 => ⟨S_, .f32⟩
  | 6 => ⟨S2048x2816, .f32⟩
  | 7 => ⟨S2048x2816, .f32⟩
  | 8 => ⟨S_, .f32⟩
  | 9 => ⟨S2048x2816, .f32⟩
  | 10 => ⟨S2048x2816, .f32⟩
  | 11 => ⟨S2048x2816, .f32⟩
  | 12 => ⟨S2048x2816, .f32⟩
  | 13 => ⟨S2048x2816, .f32⟩
  | 14 => ⟨S2048x2816, .f32⟩
  | 15 => ⟨S2048x2816, .f32⟩
  | 16 => ⟨S_, .f32⟩
  | 17 => ⟨S2048x2816, .f32⟩
  | 18 => ⟨S2048x2816, .f32⟩
  | 19 => ⟨S2048x2816, .f32⟩
  | 20 => ⟨S2048x2816, .f32⟩
  | 21 => ⟨S2048x2816, .f32⟩
  | 22 => ⟨S_, .f32⟩
  | 23 => ⟨S2048x2816, .f32⟩
  | 24 => ⟨S2048x2816, .f32⟩
  | 25 => ⟨S2048x2816, .f32⟩
  | 26 => ⟨S2048x2816, .f32⟩
  | 27 => ⟨S2048x2816, .bf16⟩
  | 28 => ⟨S2048x2816, .f32⟩
  | 29 => ⟨S2048x22x128, .f32⟩
  | 30 => ⟨S2048x22x128, .f32⟩
  | 31 => ⟨S_, .f32⟩
  | 32 => ⟨S2048x22, .f32⟩
  | 33 => ⟨S2048x22x128, .f32⟩
  | 34 => ⟨S_, .f32⟩
  | 35 => ⟨S2048x22, .f32⟩
  | 36 => ⟨S2048x22, .i1⟩
  | 37 => ⟨S_, .f32⟩
  | 38 => ⟨S2048x22, .f32⟩
  | 39 => ⟨S2048x22, .f32⟩
  | 40 => ⟨S_, .f32⟩
  | 41 => ⟨S_, .f32⟩
  | 42 => ⟨S2048x22, .f32⟩
  | 43 => ⟨S2048x22, .f32⟩
  | 44 => ⟨S2048x22x1, .f32⟩
  | 45 => ⟨S2048x22x128, .f32⟩
  | 46 => ⟨S2048x22x128, .f32⟩
  | 47 => ⟨S2048x22x128, .f32⟩
  | 48 => ⟨S_, .f32⟩
  | 49 => ⟨S_, .f32⟩
  | 50 => ⟨S_, .f32⟩
  | 51 => ⟨S2048x22x128, .f32⟩
  | 52 => ⟨S2048x22x128, .f32⟩
  | 53 => ⟨S_, .f32⟩
  | 54 => ⟨S2048x22x128, .f32⟩
  | 55 => ⟨S2048x22x128, .f32⟩
  | 56 => ⟨S2048x22x128, .i32⟩
  | 57 => ⟨S2048x22x128, .i8⟩
  | 58 => ⟨S2048x2816, .i8⟩
  | 59 => ⟨S2048x22x128, .f32⟩
  | 60 => ⟨S_, .f32⟩
  | 61 => ⟨S2048x22, .f32⟩
  | 62 => ⟨S2048x22x128, .f32⟩
  | 63 => ⟨S_, .f32⟩
  | 64 => ⟨S2048x22, .f32⟩
  | 65 => ⟨S2048x22, .i1⟩
  | 66 => ⟨S_, .f32⟩
  | 67 => ⟨S2048x22, .f32⟩
  | 68 => ⟨S2048x22, .f32⟩
  | 69 => ⟨S_, .f32⟩
  | 70 => ⟨S_, .f32⟩
  | 71 => ⟨S2048x22, .f32⟩
  | 72 => ⟨S2048x22, .f32⟩
  | 73 => ⟨S2048x22x1, .f32⟩
  | 74 => ⟨S2048x22x128, .f32⟩
  | 75 => ⟨S2048x22x128, .f32⟩
  | 76 => ⟨S2048x22x128, .f32⟩
  | 77 => ⟨S_, .f32⟩
  | 78 => ⟨S_, .f32⟩
  | 79 => ⟨S_, .f32⟩
  | 80 => ⟨S2048x22x128, .f32⟩
  | 81 => ⟨S2048x22x128, .f32⟩
  | 82 => ⟨S_, .f32⟩
  | 83 => ⟨S2048x22x128, .f32⟩
  | 84 => ⟨S2048x22x128, .f32⟩
  | 85 => ⟨S2048x22x128, .i32⟩
  | 86 => ⟨S2048x22x128, .i8⟩
  | 87 => ⟨S2048x2816, .i8⟩
  | _ => ⟨S2048x8192, .bf16⟩

abbrev hbmTy (i : Nat) : BufTy := match i / 128 with
  | 0 => hbmTy0_0 i
  | 1 => hbmTy0_1 i
  | _ => ⟨S2048x8192, .bf16⟩

abbrev bufTy : (tb : Table) → Fin (tcTables nBuf tb) → BufTy
  | .hbm, ⟨i, _⟩ => hbmTy i
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_cst_9 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_v31 : Ref sig .tc := ⟨.hbm, 58, rfl⟩
abbrev main_cst_10 : Ref sig .tc := ⟨.hbm, 59, rfl⟩
abbrev main_v32 : Ref sig .tc := ⟨.hbm, 60, rfl⟩
abbrev main_v33 : Ref sig .tc := ⟨.hbm, 61, rfl⟩
abbrev main_cst_11 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_12 : Ref sig .tc := ⟨.hbm, 66, rfl⟩
abbrev main_v37 : Ref sig .tc := ⟨.hbm, 67, rfl⟩
abbrev main_v38 : Ref sig .tc := ⟨.hbm, 68, rfl⟩
abbrev main_cst_13 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_14 : Ref sig .tc := ⟨.hbm, 73, rfl⟩
abbrev main_v42 : Ref sig .tc := ⟨.hbm, 74, rfl⟩
abbrev main_v43 : Ref sig .tc := ⟨.hbm, 75, rfl⟩
abbrev main_cst_15 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_16 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_17 : Ref sig .tc := ⟨.hbm, 95, rfl⟩
abbrev main_call3_v0 : Ref sig .tc := ⟨.hbm, 96, rfl⟩
abbrev main_call3_v1 : Ref sig .tc := ⟨.hbm, 97, rfl⟩
abbrev main_v61 : Ref sig .tc := ⟨.hbm, 98, rfl⟩
abbrev main_cst_18 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_19 : Ref sig .tc := ⟨.hbm, 106, rfl⟩
abbrev main_call4_v0 : Ref sig .tc := ⟨.hbm, 107, rfl⟩
abbrev main_call4_v1 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_20 : Ref sig .tc := ⟨.hbm, 125, rfl⟩
abbrev main_v84 : Ref sig .tc := ⟨.hbm, 126, rfl⟩
abbrev main_v85 : Ref sig .tc := ⟨.hbm, 127, rfl⟩
abbrev main_cst_21 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_22 : Ref sig .tc := ⟨.hbm, 133, rfl⟩
abbrev main_v90 : Ref sig .tc := ⟨.hbm, 134, rfl⟩
abbrev main_v91 : Ref sig .tc := ⟨.hbm, 135, rfl⟩
abbrev main_cst_23 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_24 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_25 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_26 : Ref sig .tc := ⟨.hbm, 159, rfl⟩
abbrev main_v112 : Ref sig .tc := ⟨.hbm, 160, rfl⟩
abbrev main_v113 : Ref sig .tc := ⟨.hbm, 161, rfl⟩
abbrev main_cst_27 : Ref sig .tc := ⟨.hbm, 162, rfl⟩
abbrev main_v114 : Ref sig .tc := ⟨.hbm, 163, rfl⟩
abbrev main_v115 : Ref sig .tc := ⟨.hbm, 164, rfl⟩
abbrev main_cst_28 : Ref sig .tc := ⟨.hbm, 165, rfl⟩
abbrev main_v116 : Ref sig .tc := ⟨.hbm, 166, rfl⟩
abbrev main_v117 : Ref sig .tc := ⟨.hbm, 167, rfl⟩
abbrev main_cst_29 : Ref sig .tc := ⟨.hbm, 168, rfl⟩
abbrev main_call5_v0 : Ref sig .tc := ⟨.hbm, 169, rfl⟩
abbrev main_call5_v1 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_cst_30 : Ref sig .tc := ⟨.hbm, 176, rfl⟩
abbrev main_cst_31 : Ref sig .tc := ⟨.hbm, 177, rfl⟩
abbrev main_call7_v0 : Ref sig .tc := ⟨.hbm, 178, rfl⟩
abbrev main_call7_v1 : Ref sig .tc := ⟨.hbm, 179, rfl⟩
abbrev main_call7_v2 : Ref sig .tc := ⟨.hbm, 180, rfl⟩
abbrev main_call7_v3 : Ref sig .tc := ⟨.hbm, 181, rfl⟩
abbrev main_call7_v4 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_cst_32 : Ref sig .tc := ⟨.hbm, 188, rfl⟩
abbrev main_v128 : Ref sig .tc := ⟨.hbm, 189, rfl⟩
abbrev main_v129 : Ref sig .tc := ⟨.hbm, 190, rfl⟩
abbrev main_cst_33 : Ref sig .tc := ⟨.hbm, 191, rfl⟩
abbrev main_v130 : Ref sig .tc := ⟨.hbm, 192, rfl⟩
abbrev main_v131 : Ref sig .tc := ⟨.hbm, 193, rfl⟩
abbrev main_cst_34 : Ref sig .tc := ⟨.hbm, 194, rfl⟩
abbrev main_v132 : Ref sig .tc := ⟨.hbm, 195, rfl⟩
abbrev main_v133 : Ref sig .tc := ⟨.hbm, 196, rfl⟩
abbrev main_cst_35 : Ref sig .tc := ⟨.hbm, 197, rfl⟩
abbrev main_call8_v0 : Ref sig .tc := ⟨.hbm, 198, rfl⟩
abbrev main_call8_v1 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_cst_36 : Ref sig .tc := ⟨.hbm, 205, rfl⟩
abbrev main_cst_37 : Ref sig .tc := ⟨.hbm, 206, rfl⟩
abbrev main_call10_v0 : Ref sig .tc := ⟨.hbm, 207, rfl⟩
abbrev main_call10_v1 : Ref sig .tc := ⟨.hbm, 208, rfl⟩
abbrev main_call10_v2 : Ref sig .tc := ⟨.hbm, 209, rfl⟩
abbrev main_call10_v3 : Ref sig .tc := ⟨.hbm, 210, rfl⟩
abbrev main_call10_v4 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩

abbrev nD : Nat := 1
abbrev τ : Topo := Topo.v7x

variable {F : FTy → Type} [FloatOps F]
-- ==== Proof.Spec.lean ====
/- The mathematics of one token of the layer over the extended reals, stated row by row: what both the kernel and the
   reference are shown to compute. Hand-written. -/
module

public import Idealize.ShloMosaic.PureOps
public import Idealize.ShloMosaic.Lib.Pointwise

@[expose] public section

noncomputable section

namespace Cert.Spec

open Idealize.ShloMosaic

/-- Everything one token's row of results depends on: its input row and that row's scale, its target row, its Fisher
    codes and their scale, and the three weight matrices. -/
structure Row where
  x : Fin 2048 → EReal
  xs : EReal
  yt : Fin 2048 → EReal
  fc : Fin 2048 → EReal
  fs : EReal
  wg : Fin 2048 → Fin 2816 → EReal
  wu : Fin 2048 → Fin 2816 → EReal
  wd : Fin 2048 → Fin 2816 → EReal

/-- The float constant 2. -/
def two : EReal := Ideal.ofBits .f32 0x40000000#32

/-- The float constant 8192, the number of tokens. -/
def tokens : EReal := Ideal.ofBits .f32 0x46000000#32

namespace Row

/-- The gate projection. -/
def g (R : Row) (f : Fin 2816) : EReal := R.xs * ∑ d : Fin 2048, R.x d * R.wg d f

/-- The up projection. -/
def u (R : Row) (f : Fin 2816) : EReal := R.xs * ∑ d : Fin 2048, R.x d * R.wu d f

/-- The activation `g · sigmoid g · u`. -/
def a (R : Row) (f : Fin 2816) : EReal := R.g f * Ideal.logistic (R.g f) * R.u f

/-- The layer's output. -/
def y (R : Row) (e : Fin 2048) : EReal := ∑ f : Fin 2816, R.a f * R.wd e f

/-- The output's error against the target. -/
def err (R : Row) (e : Fin 2048) : EReal := R.y e - R.yt e

/-- The error weighted by the Fisher diagonal. -/
def werr (R : Row) (e : Fin 2048) : EReal := R.fc e * R.fs * R.err e

/-- The token's term of the loss at one output. -/
def q (R : Row) (e : Fin 2048) : EReal := R.werr e * R.err e

/-- The loss's gradient in the output. -/
def dy (R : Row) (e : Fin 2048) : EReal := Ideal.div (two * R.werr e) tokens

/-- The gradient in the activation. -/
def da (R : Row) (f : Fin 2816) : EReal := ∑ e : Fin 2048, R.dy e * R.wd e f

/-- The gradient in the gate projection, times the token's scale. -/
def dg (R : Row) (f : Fin 2816) : EReal :=
  R.da f * R.u f * Ideal.logistic (R.g f) * (1 + R.g f * (1 - Ideal.logistic (R.g f))) * R.xs

/-- The gradient in the up projection, times the token's scale. -/
def du (R : Row) (f : Fin 2816) : EReal := R.da f * R.g f * Ideal.logistic (R.g f) * R.xs

end Row

/-- The row of token `t`, read from the whole arrays; the gate and up weights lie interleaved in blocks of 256 columns. -/
def row (X : FVec Ideal ⟨2, ![8192, 2048]⟩ .fp8e4m3) (XS : FVec Ideal ⟨1, ![8192]⟩ .f32)
    (YT : FVec Ideal ⟨2, ![8192, 2048]⟩ .bf16) (FC : FVec Ideal ⟨2, ![8192, 2048]⟩ .fp8e5m2) (FS : FVec Ideal ⟨1, ![8192]⟩ .f32)
    (W : FVec Ideal ⟨2, ![2048, 5632]⟩ .bf16) (WD : FVec Ideal ⟨2, ![2048, 2816]⟩ .bf16) (t : Fin 8192) : Row where
  x d := X (ix2 t d)
  xs := XS (ix1 t)
  yt e := YT (ix2 t e)
  fc e := FC (ix2 t e)
  fs := FS (ix1 t)
  wg d f := W (ix2 d ⟨512 * (f.val / 256) + f.val % 256, by omega⟩)
  wu d f := W (ix2 d ⟨512 * (f.val / 256) + 256 + f.val % 256, by omega⟩)
  wd e f := WD (ix2 e f)

end Cert.Spec

end
-- ==== Proof.Ref.lean ====
/- What the reference's arrays hold after its run: the rows of `Cert.Spec`. Hand-written. -/
module

public import proofs.«01_k».proof.Proof.Spec
public import proofs.«01_k».proof.Proof.Gen.ReferenceIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceIdeal.Val

open Cert.ReferenceIdeal Cert.ReferenceIdeal.Gen

variable (m : (ℓ : Loc nD τ sig) → Buf (Elt Ideal) ℓ)

/-- Every window of the one point is the whole array: its block index is zero. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, _)

/-- Token `t`'s row, read from the reference's arguments. -/
def rrow (c : Dev nD) (t : Fin 8192) : Spec.Row :=
  Spec.row (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) t

/-- A row read from the staged blocks. -/
def brow (v0 : FVec Ideal S8192x2048 .fp8e4m3) (v1 : FVec Ideal S8192x1 .f32) (v2 : FVec Ideal S8192x2048 .bf16)
    (v3 : FVec Ideal S8192x2048 .fp8e5m2) (v4 : FVec Ideal S8192x1 .f32) (v5 v6 v7 : FVec Ideal S2048x2816 .bf16) (t : Fin 8192) : Spec.Row where
  x d := v0 (ix2 t d)
  xs := v1 (ix2 t 0)
  yt e := v2 (ix2 t e)
  fc e := v3 (ix2 t e)
  fs := v4 (ix2 t 0)
  wg d f := v5 (ix2 d f)
  wu d f := v6 (ix2 d f)
  wd e f := v7 (ix2 e f)

section Pure

variable (v0 : FVec Ideal S8192x2048 .fp8e4m3) (v1 : FVec Ideal S8192x1 .f32) (v2 : FVec Ideal S8192x2048 .bf16)
    (v3 : FVec Ideal S8192x2048 .fp8e5m2) (v4 : FVec Ideal S8192x1 .f32) (v5 v6 v7 : FVec Ideal S2048x2816 .bf16) (t : Fin 8192)

/-- The reference's term for the gate projection, read at a token. -/
theorem g_at (f : Fin 2816) : k0_pay3 (F := Ideal) v0 v1 v5 (ix2 t f) = (brow v0 v1 v2 v3 v4 v5 v6 v7 t).g f := by
  pointwise [k0_pay2, k0_pay3, Spec.Row.g, brow]

/-- The reference's term for the up projection, read at a token. -/
theorem u_at (f : Fin 2816) : k0_pay4 (F := Ideal) v0 v1 v6 (ix2 t f) = (brow v0 v1 v2 v3 v4 v5 v6 v7 t).u f := by
  pointwise [k0_pay2, k0_pay4, Spec.Row.u, brow]

/-- The reference's term for the gate's sigmoid, read at a token. -/
theorem sg_at (f : Fin 2816) : k0_pay5 (F := Ideal) v0 v1 v5 (ix2 t f) = Ideal.logistic ((brow v0 v1 v2 v3 v4 v5 v6 v7 t).g f) := by
  pointwise [k0_pay5, g_at v0 v1 v2 v3 v4 v5 v6 v7]

/-- The reference's term for the activation, read at a token. -/
theorem a_at (f : Fin 2816) : k0_pay6 (F := Ideal) v0 v1 v5 v1 v6 (ix2 t f) = (brow v0 v1 v2 v3 v4 v5 v6 v7 t).a f := by
  pointwise [k0_pay6, g_at v0 v1 v2 v3 v4 v5 v6 v7, u_at v0 v1 v2 v3 v4 v5 v6 v7, sg_at v0 v1 v2 v3 v4 v5 v6 v7, Spec.Row.a]

/-- The reference's term for the layer's output, read at a token. -/
theorem y_at (e : Fin 2048) : k0_pay8 (F := Ideal) v0 v1 v5 v1 v6 v7 (ix2 t e) = (brow v0 v1 v2 v3 v4 v5 v6 v7 t).y e := by
  pointwise [k0_pay8, k0_pay7, a_at v0 v1 v2 v3 v4 v5 v6 v7, Spec.Row.y]
  rfl

/-- The reference's term for the weighted error, read at a token. -/
theorem werr_at (e : Fin 2048) : k0_pay10 (F := Ideal) v0 v1 v5 v1 v6 v7 v2 v3 v4 (ix2 t e) = (brow v0 v1 v2 v3 v4 v5 v6 v7 t).werr e := by
  pointwise [k0_pay10, k0_pay9, y_at v0 v1 v2 v3 v4 v5 v6 v7, Spec.Row.werr, Spec.Row.err]
  rfl

/-- The reference's term for the loss's sum, read at a token. -/
theorem loss_at : k0_pay11 (F := Ideal) v0 v1 v5 v1 v6 v7 v2 v3 v4 = ∑ s : Fin 8192, ∑ e : Fin 2048, (brow v0 v1 v2 v3 v4 v5 v6 v7 s).q e := by
  pointwise [k0_pay11, k0_pay9, y_at v0 v1 v2 v3 v4 v5 v6 v7, werr_at v0 v1 v2 v3 v4 v5 v6 v7, Spec.Row.q, Spec.Row.err]
  rfl

/-- The reference's term for the output's gradient, read at a token. -/
theorem dy_at (e : Fin 2048) :
    k0_pay13 (F := Ideal) (k0_pay10 v0 v1 v5 v1 v6 v7 v2 v3 v4) (ix2 t e) = (brow v0 v1 v2 v3 v4 v5 v6 v7 t).dy e := by
  pointwise [k0_pay13, werr_at v0 v1 v2 v3 v4 v5 v6 v7, Spec.Row.dy]
  rfl

/-- The reference's term for the activation's gradient, read at a token. -/
theorem da_at (f : Fin 2816) :
    k0_pay14 (F := Ideal) (k0_pay10 v0 v1 v5 v1 v6 v7 v2 v3 v4) v7 (ix2 t f) = (brow v0 v1 v2 v3 v4 v5 v6 v7 t).da f := by
  pointwise [k0_pay14, dy_at v0 v1 v2 v3 v4 v5 v6 v7, Spec.Row.da]
  rfl

/-- The reference's term for the output's gradient, transposed, read at a token. -/
theorem dyt_at (e : Fin 2048) :
    k0_pay15 (F := Ideal) (k0_pay10 v0 v1 v5 v1 v6 v7 v2 v3 v4) (ix2 e t) = (brow v0 v1 v2 v3 v4 v5 v6 v7 t).dy e := by
  pointwise [k0_pay15, dy_at v0 v1 v2 v3 v4 v5 v6 v7]

/-- The reference's term for the gate's gradient, transposed, read at a token. -/
theorem dg_at (f : Fin 2816) :
    k0_pay16 (F := Ideal) (k0_pay3 v0 v1 v5) (k0_pay4 v0 v1 v6) (k0_pay5 v0 v1 v5) (k0_pay10 v0 v1 v5 v1 v6 v7 v2 v3 v4) v7 v1 (ix2 f t)
      = (brow v0 v1 v2 v3 v4 v5 v6 v7 t).dg f := by
  pointwise [k0_pay16, da_at v0 v1 v2 v3 v4 v5 v6 v7, g_at v0 v1 v2 v3 v4 v5 v6 v7, u_at v0 v1 v2 v3 v4 v5 v6 v7,
    sg_at v0 v1 v2 v3 v4 v5 v6 v7, Spec.Row.dg]
  rfl

/-- The reference's term for the up projection's gradient, transposed, read at a token. -/
theorem du_at (f : Fin 2816) :
    k0_pay1 (F := Ideal) (k0_pay17 (k0_pay3 v0 v1 v5) (k0_pay5 v0 v1 v5) (k0_pay10 v0 v1 v5 v1 v6 v7 v2 v3 v4) v7 v1) (ix2 f t)
      = (brow v0 v1 v2 v3 v4 v5 v6 v7 t).du f := by
  pointwise [k0_pay1, k0_pay17, da_at v0 v1 v2 v3 v4 v5 v6 v7, g_at v0 v1 v2 v3 v4 v5 v6 v7, sg_at v0 v1 v2 v3 v4 v5 v6 v7, Spec.Row.du]
  rfl

end Pure

/-- The staged blocks are the argument arrays: their rows are the tokens' rows. -/
theorem brow_eq (c : Dev nD) (t : Fin 8192) :
    brow (iblk m c 0 t0_0) (iblk m c 1 t0_0) (iblk m c 2 t0_0) (iblk m c 3 t0_0) (iblk m c 4 t0_0) (iblk m c 5 t0_0) (iblk m c 6 t0_0)
      (iblk m c 7 t0_0) t = rrow m c t := by
  unfold brow rrow Spec.row
  congr 1
  · funext d; blk_point [iblk, V, idx t0_0]
  · blk_point [iblk, V, idx t0_0]
  · funext d; blk_point [iblk, V, idx t0_0]
  · funext d; blk_point [iblk, V, idx t0_0]
  · blk_point [iblk, V, idx t0_0]
  · funext d f; blk_point [iblk, V, idx t0_0]
  · funext d f; blk_point [iblk, V, idx t0_0]
  · funext d f; blk_point [iblk, V, idx t0_0]

/-- The reference's first array: the layer's output. -/
theorem final8 (c : Dev nD) :
    (dats m 0 c).arrAt 8 (cfgs 0).N = fun j : S8192x2048.Idx => (rrow m c (j 0)).y (j 1) := by
  refine (dats m 0 c).arrAt_eq_of_after_last 8 t0_0 (by decide +kernel) _ fun j => ?_
  blk_simp
  rw [after0_8]
  unfold Gen.outsAt0
  frame_out
  idx_vars j
  simp only [read_unread_whole]
  exact (y_at (iblk m c 0 t0_0) (iblk m c 1 t0_0) (iblk m c 2 t0_0) (iblk m c 3 t0_0) (iblk m c 4 t0_0) (iblk m c 5 t0_0) (iblk m c 6 t0_0) (iblk m c 7 t0_0) j0 j1).trans (by rw [brow_eq])

/-- The reference's second array: the activation. -/
theorem final9 (c : Dev nD) :
    (dats m 0 c).arrAt 9 (cfgs 0).N = fun j : S8192x2816.Idx => (rrow m c (j 0)).a (j 1) := by
  refine (dats m 0 c).arrAt_eq_of_after_last 9 t0_0 (by decide +kernel) _ fun j => ?_
  blk_simp
  rw [after0_9]
  unfold Gen.outsAt0
  frame_out
  idx_vars j
  simp only [read_unread_whole]
  exact (a_at (iblk m c 0 t0_0) (iblk m c 1 t0_0) (iblk m c 2 t0_0) (iblk m c 3 t0_0) (iblk m c 4 t0_0) (iblk m c 5 t0_0) (iblk m c 6 t0_0) (iblk m c 7 t0_0) j0 j1).trans (by rw [brow_eq])

/-- The reference's third array: the activation again, in bf16 (over the reals the same). -/
theorem final10 (c : Dev nD) :
    (dats m 0 c).arrAt 10 (cfgs 0).N = fun j : S8192x2816.Idx => (rrow m c (j 0)).a (j 1) := by
  refine (dats m 0 c).arrAt_eq_of_after_last 10 t0_0 (by decide +kernel) _ fun j => ?_
  blk_simp
  rw [after0_10]
  unfold Gen.outsAt0
  frame_out
  idx_vars j
  simp only [read_unread_whole]
  exact (a_at (iblk m c 0 t0_0) (iblk m c 1 t0_0) (iblk m c 2 t0_0) (iblk m c 3 t0_0) (iblk m c 4 t0_0) (iblk m c 5 t0_0) (iblk m c 6 t0_0) (iblk m c 7 t0_0) j0 j1).trans (by rw [brow_eq])

/-- The reference's fourth array: the output's gradient, transposed. -/
theorem final11 (c : Dev nD) :
    (dats m 0 c).arrAt 11 (cfgs 0).N = fun j : S2048x8192.Idx => (rrow m c (j 1)).dy (j 0) := by
  refine (dats m 0 c).arrAt_eq_of_after_last 11 t0_0 (by decide +kernel) _ fun j => ?_
  blk_simp
  rw [after0_11]
  unfold Gen.outsAt0
  frame_out
  idx_vars j
  simp only [read_unread_whole]
  exact (dyt_at (iblk m c 0 t0_0) (iblk m c 1 t0_0) (iblk m c 2 t0_0) (iblk m c 3 t0_0) (iblk m c 4 t0_0) (iblk m c 5 t0_0) (iblk m c 6 t0_0) (iblk m c 7 t0_0) j1 j0).trans (by rw [brow_eq])

/-- The reference's fifth array: the gate's gradient, transposed. -/
theorem final12 (c : Dev nD) :
    (dats m 0 c).arrAt 12 (cfgs 0).N = fun j : S2816x8192.Idx => (rrow m c (j 1)).dg (j 0) := by
  refine (dats m 0 c).arrAt_eq_of_after_last 12 t0_0 (by decide +kernel) _ fun j => ?_
  blk_simp
  rw [after0_12]
  unfold Gen.outsAt0
  frame_out
  idx_vars j
  simp only [read_unread_whole]
  exact (dg_at (iblk m c 0 t0_0) (iblk m c 1 t0_0) (iblk m c 2 t0_0) (iblk m c 3 t0_0) (iblk m c 4 t0_0) (iblk m c 5 t0_0) (iblk m c 6 t0_0) (iblk m c 7 t0_0) j1 j0).trans (by rw [brow_eq])

/-- The reference's sixth array: the up projection's gradient, transposed. -/
theorem final13 (c : Dev nD) :
    (dats m 0 c).arrAt 13 (cfgs 0).N = fun j : S2816x8192.Idx => (rrow m c (j 1)).du (j 0) := by
  refine (dats m 0 c).arrAt_eq_of_after_last 13 t0_0 (by decide +kernel) _ fun j => ?_
  blk_simp
  rw [after0_13]
  unfold Gen.outsAt0
  frame_out
  idx_vars j
  simp only [read_unread_whole]
  exact (du_at (iblk m c 0 t0_0) (iblk m c 1 t0_0) (iblk m c 2 t0_0) (iblk m c 3 t0_0) (iblk m c 4 t0_0) (iblk m c 5 t0_0) (iblk m c 6 t0_0) (iblk m c 7 t0_0) j1 j0).trans (by rw [brow_eq])

/-- The reference's last result: the loss. -/
theorem final14 (c : Dev nD) :
    (dats m 0 c).arrAt 14 (cfgs 0).N = fun j : S1x1.Idx => Ideal.div (∑ s : Fin 8192, ∑ e : Fin 2048, (rrow m c s).q e) Spec.tokens := by
  refine (dats m 0 c).arrAt_eq_of_after_last 14 t0_0 (by decide +kernel) _ fun j => ?_
  blk_simp
  rw [after0_14]
  unfold Gen.outsAt0
  frame_out
  simp only [read_unread_whole]
  refine congrArg (fun z => Ideal.div z Spec.tokens) ((loss_at (iblk m c 0 t0_0) (iblk m c 1 t0_0) (iblk m c 2 t0_0) (iblk m c 3 t0_0) (iblk m c 4 t0_0) (iblk m c 5 t0_0) (iblk m c 6 t0_0) (iblk m c 7 t0_0)).trans ?_)
  simp only [brow_eq]

end Cert.ReferenceIdeal.Val

end
-- ==== Proof.Tiles.lean ====
/- The kernel's chunks, read at an index: each payload of one column chunk is a row of `Cert.Spec`. Hand-written. -/
module

public import proofs.«01_k».proof.Proof.Spec
public import proofs.«01_k».proof.Proof.Gen.KernelIdeal.Skeleton
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.KernelIdeal.Val

open Cert.KernelIdeal Cert.KernelIdeal.Gen

/-- Row `r` of one block of 128 tokens, read from the staged blocks; the gate and up weights lie interleaved in blocks of 256. -/
def krow (x0 : FVec Ideal S128x2048 .fp8e4m3) (x1 : FVec Ideal S1x1x128 .f32) (x2 : FVec Ideal S128x2048 .bf16)
    (x3 : FVec Ideal S128x2048 .fp8e5m2) (x4 : FVec Ideal S1x1x128 .f32) (x5 : FVec Ideal S2048x5632 .bf16)
    (x6 : FVec Ideal S2048x2816 .bf16) (r : Fin 128) : Spec.Row where
  x d := x0 (ix2 r d)
  xs := x1 (ix3 0 0 r)
  yt e := x2 (ix2 r e)
  fc e := x3 (ix2 r e)
  fs := x4 (ix3 0 0 r)
  wg d f := x5 (ix2 d ⟨512 * (f.val / 256) + f.val % 256, by omega⟩)
  wu d f := x5 (ix2 d ⟨512 * (f.val / 256) + 256 + f.val % 256, by omega⟩)
  wd e f := x6 (ix2 e f)

variable (x0 : FVec Ideal S128x2048 .fp8e4m3) (x1 : FVec Ideal S1x1x128 .f32) (x2 : FVec Ideal S128x2048 .bf16)
    (x3 : FVec Ideal S128x2048 .fp8e5m2) (x4 : FVec Ideal S1x1x128 .f32) (x5 : FVec Ideal S2048x5632 .bf16)
    (x6 : FVec Ideal S2048x2816 .bf16)

/-- One chunk of the interleaved weights: 512 columns from column `2 o` on. -/
abbrev Chunk5 (o : Nat) (w : FVec Ideal S2048x512 .bf16) : Prop :=
  ∀ (d : Fin 2048) (k : Fin 512) (k' : Fin 5632), k'.val = 2 * o + k.val → w (ix2 d k) = x5 (ix2 d k')

variable {o : Nat} {w : FVec Ideal S2048x512 .bf16}

/-- The tokens' scales, spread over 256 columns. -/
theorem scol_ix (r : Fin 128) (f' : Fin 256) : k0_pay3 (F := Ideal) x1 (ix2 r f') = x1 (ix3 0 0 r) := by
  pointwise [k0_pay3]
  split <;> rfl

/-- The Fisher scales, spread over 256 columns. -/
theorem fcol_ix (r : Fin 128) (f' : Fin 256) : k0_pay4 (F := Ideal) x4 (ix2 r f') = x4 (ix3 0 0 r) := by
  pointwise [k0_pay4]
  split <;> rfl

/-- The chunk's gate projection at row `r`, column `f'`. -/
theorem g_ix (ho : o % 256 = 0) (hw : Chunk5 x5 o w) (r : Fin 128) (f' : Fin 256) (f : Fin 2816) (hf : f.val = o + f'.val) :
    k0_pay8 (F := Ideal) x1 (k0_pay5 (F := Ideal) x0) w (ix2 r f') = (krow x0 x1 x2 x3 x4 x5 x6 r).g f := by
  pointwise [k0_pay8, k0_pay7, scol_ix x1, k0_pay5, Spec.Row.g, krow]
  refine congrArg₂ _ rfl (Finset.sum_congr rfl fun d _ => congrArg₂ _ rfl (hw _ _ _ ?_))
  simp; omega

/-- The chunk's up projection at row `r`, column `f'`. -/
theorem u_ix (ho : o % 256 = 0) (hw : Chunk5 x5 o w) (r : Fin 128) (f' : Fin 256) (f : Fin 2816) (hf : f.val = o + f'.val) :
    k0_pay9 (F := Ideal) x1 (k0_pay5 (F := Ideal) x0) w (ix2 r f') = (krow x0 x1 x2 x3 x4 x5 x6 r).u f := by
  pointwise [k0_pay9, k0_pay7, scol_ix x1, k0_pay5, Spec.Row.u, krow]
  refine congrArg₂ _ rfl (Finset.sum_congr rfl fun d _ => congrArg₂ _ rfl (hw _ _ _ ?_))
  simp; omega

/-- The chunk's activation at row `r`, column `f'`. -/
theorem a_ix (ho : o % 256 = 0) (hw : Chunk5 x5 o w) (r : Fin 128) (f' : Fin 256) (f : Fin 2816) (hf : f.val = o + f'.val) :
    k0_pay10 (F := Ideal) x1 (k0_pay5 (F := Ideal) x0) w (ix2 r f') = (krow x0 x1 x2 x3 x4 x5 x6 r).a f := by
  pointwise [k0_pay10, g_ix x0 x1 x2 x3 x4 x5 x6 ho hw r f' f hf, u_ix x0 x1 x2 x3 x4 x5 x6 ho hw r f' f hf, Spec.Row.a]

/-- The activation block. -/
def aB : FVec Ideal S128x2816 .bf16 := fun j => (krow x0 x1 x2 x3 x4 x5 x6 (j 0)).a (j 1)

/-- 256 rows of the down weights from row `o` on. -/
abbrev Rows6 (o : Nat) (w : FVec Ideal S256x2816 .bf16) : Prop :=
  ∀ (k : Fin 256) (f : Fin 2816) (k' : Fin 2048), k'.val = o + k.val → w (ix2 k f) = x6 (ix2 k' f)

/-- 256 columns of a block of 128 rows, from column `o` on. -/
abbrev Cols {e : FTy} (X : FVec Ideal S128x2048 e) (o : Nat) (w : FVec Ideal S128x256 e) : Prop :=
  ∀ (r : Fin 128) (k : Fin 256) (k' : Fin 2048), k'.val = o + k.val → w (ix2 r k) = X (ix2 r k')

variable {w6 : FVec Ideal S256x2816 .bf16} {wy : FVec Ideal S128x256 .bf16} {wf : FVec Ideal S128x256 .fp8e5m2}

/-- The chunk's output at row `r`, column `e'`. -/
theorem y_ix (hw6 : Rows6 x6 o w6) (r : Fin 128) (e' : Fin 256) (e : Fin 2048) (he : e.val = o + e'.val) :
    k0_pay86 (F := Ideal) (aB x0 x1 x2 x3 x4 x5 x6) w6 (ix2 r e') = (krow x0 x1 x2 x3 x4 x5 x6 r).y e := by
  pointwise [k0_pay86, aB, Spec.Row.y]
  refine Finset.sum_congr rfl fun f _ => congrArg₂ _ rfl ?_
  exact hw6 _ _ _ he

/-- The chunk's error at row `r`, column `e'`. -/
theorem err_ix (hw6 : Rows6 x6 o w6) (hy : Cols x2 o wy) (r : Fin 128) (e' : Fin 256) (e : Fin 2048) (he : e.val = o + e'.val) :
    k0_pay87 (F := Ideal) (aB x0 x1 x2 x3 x4 x5 x6) w6 wy (ix2 r e') = (krow x0 x1 x2 x3 x4 x5 x6 r).err e := by
  pointwise [k0_pay87, y_ix x0 x1 x2 x3 x4 x5 x6 hw6 r e' e he, hy r e' e he, Spec.Row.err]
  rfl

/-- The chunk's weighted error at row `r`, column `e'`. -/
theorem werr_ix (hw6 : Rows6 x6 o w6) (hy : Cols x2 o wy) (hf : Cols x3 o wf) (r : Fin 128) (e' : Fin 256) (e : Fin 2048)
    (he : e.val = o + e'.val) :
    k0_pay88 (F := Ideal) (k0_pay4 (F := Ideal) x4) (aB x0 x1 x2 x3 x4 x5 x6) w6 wy wf (ix2 r e') = (krow x0 x1 x2 x3 x4 x5 x6 r).werr e := by
  pointwise [k0_pay88, fcol_ix x4, err_ix x0 x1 x2 x3 x4 x5 x6 hw6 hy r e' e he, hf r e' e he, Spec.Row.werr]
  rfl

/-- The chunk's loss terms at row `r`, column `e'`. -/
theorem q_ix (hw6 : Rows6 x6 o w6) (hy : Cols x2 o wy) (hf : Cols x3 o wf) (r : Fin 128) (e' : Fin 256) (e : Fin 2048)
    (he : e.val = o + e'.val) :
    k0_pay89 (F := Ideal) (k0_pay4 (F := Ideal) x4) (aB x0 x1 x2 x3 x4 x5 x6) w6 wy wf (ix2 r e') = (krow x0 x1 x2 x3 x4 x5 x6 r).q e := by
  pointwise [k0_pay89, werr_ix x0 x1 x2 x3 x4 x5 x6 hw6 hy hf r e' e he, err_ix x0 x1 x2 x3 x4 x5 x6 hw6 hy r e' e he, Spec.Row.q]

/-- The chunk's output gradient at row `r`, column `e'`. -/
theorem dy_ix (hw6 : Rows6 x6 o w6) (hy : Cols x2 o wy) (hf : Cols x3 o wf) (r : Fin 128) (e' : Fin 256) (e : Fin 2048)
    (he : e.val = o + e'.val) :
    k0_pay92 (F := Ideal) (k0_pay88 (F := Ideal) (k0_pay4 (F := Ideal) x4) (aB x0 x1 x2 x3 x4 x5 x6) w6 wy wf) (ix2 r e')
      = (krow x0 x1 x2 x3 x4 x5 x6 r).dy e := by
  pointwise [k0_pay92, werr_ix x0 x1 x2 x3 x4 x5 x6 hw6 hy hf r e' e he, Spec.Row.dy]
  rfl

/-- The output gradient's block. -/
def dyB : FVec Ideal S128x2048 .bf16 := fun j => (krow x0 x1 x2 x3 x4 x5 x6 (j 0)).dy (j 1)

/-- 256 columns of the down weights from column `o` on. -/
abbrev Cols6 (o : Nat) (w : FVec Ideal S2048x256 .bf16) : Prop :=
  ∀ (e : Fin 2048) (k : Fin 256) (k' : Fin 2816), k'.val = o + k.val → w (ix2 e k) = x6 (ix2 e k')

/-- 256 columns, from column `o` on, of the block whose rows are `f`. -/
abbrev ColsOf (f : Fin 128 → Fin 2816 → EReal) (o : Nat) (w : FVec Ideal S128x256 .f32) : Prop :=
  ∀ (r : Fin 128) (k : Fin 256) (k' : Fin 2816), k'.val = o + k.val → w (ix2 r k) = f r k'

variable {w6c : FVec Ideal S2048x256 .bf16} {wg wu : FVec Ideal S128x256 .f32}

/-- The chunk's activation gradient at row `r`, column `f'`. -/
theorem da_ix (hw6 : Cols6 x6 o w6c) (r : Fin 128) (f' : Fin 256) (f : Fin 2816) (hf : f.val = o + f'.val) :
    k0_pay163 (F := Ideal) (dyB x0 x1 x2 x3 x4 x5 x6) w6c (ix2 r f') = (krow x0 x1 x2 x3 x4 x5 x6 r).da f := by
  pointwise [k0_pay163, dyB, Spec.Row.da]
  refine Finset.sum_congr rfl fun e _ => congrArg₂ _ rfl ?_
  exact hw6 _ _ _ hf

/-- The chunk's gate gradient, transposed, at column `f'`, row `r`. -/
theorem dg_ix (hw6 : Cols6 x6 o w6c) (hg : ColsOf (fun r => (krow x0 x1 x2 x3 x4 x5 x6 r).g) o wg)
    (hu : ColsOf (fun r => (krow x0 x1 x2 x3 x4 x5 x6 r).u) o wu) (r : Fin 128) (f' : Fin 256) (f : Fin 2816) (hf : f.val = o + f'.val) :
    k0_pay167 (F := Ideal) (k0_pay3 (F := Ideal) x1) (k0_pay165 (F := Ideal) (dyB x0 x1 x2 x3 x4 x5 x6) w6c wg wu) (k0_pay166 (F := Ideal) wg)
      (ix2 f' r) = (krow x0 x1 x2 x3 x4 x5 x6 r).dg f := by
  pointwise [k0_pay167, k0_pay165, k0_pay164, k0_pay166, scol_ix x1, da_ix x0 x1 x2 x3 x4 x5 x6 hw6 r f' f hf, hg r f' f hf, hu r f' f hf,
    Spec.Row.dg]
  rfl

/-- The chunk's up gradient, transposed, at column `f'`, row `r`. -/
theorem du_ix (hw6 : Cols6 x6 o w6c) (hg : ColsOf (fun r => (krow x0 x1 x2 x3 x4 x5 x6 r).g) o wg)
    (r : Fin 128) (f' : Fin 256) (f : Fin 2816) (hf : f.val = o + f'.val) :
    k0_pay176 (F := Ideal) (k0_pay3 (F := Ideal) x1) (dyB x0 x1 x2 x3 x4 x5 x6) w6c wg (ix2 f' r)
      = (krow x0 x1 x2 x3 x4 x5 x6 r).du f := by
  have h := da_ix x0 x1 x2 x3 x4 x5 x6 hw6 r f' f hf
  have h' : k0_pay173 (F := Ideal) (dyB x0 x1 x2 x3 x4 x5 x6) w6c (ix2 r f') = _ := h
  pointwise [k0_pay176, k0_pay174, scol_ix x1, h', hg r f' f hf, Spec.Row.du]
  rfl

/-- One chunk's loss terms folded onto a tile of 8 rows and 128 columns, after what `p` holds: the kernel's order of additions. -/
def fold (p : FVec Ideal S8x128 .f32) (q : FVec Ideal S128x256 .f32) : FVec Ideal S8x128 .f32 :=
  have p1 : FVec Ideal S8x128 .f32 := addf p (extractStridedSlice S8x128 ![0, 0] q slices_S128x256_o0_0_S8x128)
  have p2 : FVec Ideal S8x128 .f32 := addf p1 (extractStridedSlice S8x128 ![0, 128] q slices_S128x256_o0_128_S8x128)
  have p3 : FVec Ideal S8x128 .f32 := addf p2 (extractStridedSlice S8x128 ![8, 0] q slices_S128x256_o8_0_S8x128)
  have p4 : FVec Ideal S8x128 .f32 := addf p3 (extractStridedSlice S8x128 ![8, 128] q slices_S128x256_o8_128_S8x128)
  have p5 : FVec Ideal S8x128 .f32 := addf p4 (extractStridedSlice S8x128 ![16, 0] q slices_S128x256_o16_0_S8x128)
  have p6 : FVec Ideal S8x128 .f32 := addf p5 (extractStridedSlice S8x128 ![16, 128] q slices_S128x256_o16_128_S8x128)
  have p7 : FVec Ideal S8x128 .f32 := addf p6 (extractStridedSlice S8x128 ![24, 0] q slices_S128x256_o24_0_S8x128)
  have p8 : FVec Ideal S8x128 .f32 := addf p7 (extractStridedSlice S8x128 ![24, 128] q slices_S128x256_o24_128_S8x128)
  have p9 : FVec Ideal S8x128 .f32 := addf p8 (extractStridedSlice S8x128 ![32, 0] q slices_S128x256_o32_0_S8x128)
  have p10 : FVec Ideal S8x128 .f32 := addf p9 (extractStridedSlice S8x128 ![32, 128] q slices_S128x256_o32_128_S8x128)
  have p11 : FVec Ideal S8x128 .f32 := addf p10 (extractStridedSlice S8x128 ![40, 0] q slices_S128x256_o40_0_S8x128)
  have p12 : FVec Ideal S8x128 .f32 := addf p11 (extractStridedSlice S8x128 ![40, 128] q slices_S128x256_o40_128_S8x128)
  have p13 : FVec Ideal S8x128 .f32 := addf p12 (extractStridedSlice S8x128 ![48, 0] q slices_S128x256_o48_0_S8x128)
  have p14 : FVec Ideal S8x128 .f32 := addf p13 (extractStridedSlice S8x128 ![48, 128] q slices_S128x256_o48_128_S8x128)
  have p15 : FVec Ideal S8x128 .f32 := addf p14 (extractStridedSlice S8x128 ![56, 0] q slices_S128x256_o56_0_S8x128)
  have p16 : FVec Ideal S8x128 .f32 := addf p15 (extractStridedSlice S8x128 ![56, 128] q slices_S128x256_o56_128_S8x128)
  have p17 : FVec Ideal S8x128 .f32 := addf p16 (extractStridedSlice S8x128 ![64, 0] q slices_S128x256_o64_0_S8x128)
  have p18 : FVec Ideal S8x128 .f32 := addf p17 (extractStridedSlice S8x128 ![64, 128] q slices_S128x256_o64_128_S8x128)
  have p19 : FVec Ideal S8x128 .f32 := addf p18 (extractStridedSlice S8x128 ![72, 0] q slices_S128x256_o72_0_S8x128)
  have p20 : FVec Ideal S8x128 .f32 := addf p19 (extractStridedSlice S8x128 ![72, 128] q slices_S128x256_o72_128_S8x128)
  have p21 : FVec Ideal S8x128 .f32 := addf p20 (extractStridedSlice S8x128 ![80, 0] q slices_S128x256_o80_0_S8x128)
  have p22 : FVec Ideal S8x128 .f32 := addf p21 (extractStridedSlice S8x128 ![80, 128] q slices_S128x256_o80_128_S8x128)
  have p23 : FVec Ideal S8x128 .f32 := addf p22 (extractStridedSlice S8x128 ![88, 0] q slices_S128x256_o88_0_S8x128)
  have p24 : FVec Ideal S8x128 .f32 := addf p23 (extractStridedSlice S8x128 ![88, 128] q slices_S128x256_o88_128_S8x128)
  have p25 : FVec Ideal S8x128 .f32 := addf p24 (extractStridedSlice S8x128 ![96, 0] q slices_S128x256_o96_0_S8x128)
  have p26 : FVec Ideal S8x128 .f32 := addf p25 (extractStridedSlice S8x128 ![96, 128] q slices_S128x256_o96_128_S8x128)
  have p27 : FVec Ideal S8x128 .f32 := addf p26 (extractStridedSlice S8x128 ![104, 0] q slices_S128x256_o104_0_S8x128)
  have p28 : FVec Ideal S8x128 .f32 := addf p27 (extractStridedSlice S8x128 ![104, 128] q slices_S128x256_o104_128_S8x128)
  have p29 : FVec Ideal S8x128 .f32 := addf p28 (extractStridedSlice S8x128 ![112, 0] q slices_S128x256_o112_0_S8x128)
  have p30 : FVec Ideal S8x128 .f32 := addf p29 (extractStridedSlice S8x128 ![112, 128] q slices_S128x256_o112_128_S8x128)
  have p31 : FVec Ideal S8x128 .f32 := addf p30 (extractStridedSlice S8x128 ![120, 0] q slices_S128x256_o120_0_S8x128)
  have p32 : FVec Ideal S8x128 .f32 := addf p31 (extractStridedSlice S8x128 ![120, 128] q slices_S128x256_o120_128_S8x128)
  p32

/-- The fold adds the chunk's 32 entries that fall on one place of the tile. -/
theorem fold_ix (p : FVec Ideal S8x128 .f32) (q : FVec Ideal S128x256 .f32) (i : Fin 8) (l : Fin 128) :
    fold p q (ix2 i l) = p (ix2 i l)
      + ∑ a : Fin 16, ∑ b : Fin 2, q (ix2 (⟨8 * a.val + i.val, by omega⟩ : Fin 128) (⟨128 * b.val + l.val, by omega⟩ : Fin 256)) := by
  pointwise [fold]
  simp only [Fin.sum_univ_succ, Fin.sum_univ_zero]
  simp [add_assoc]

section Tiles

variable (yb : S128x2816.Idx) (ye : S128x2048.Idx) (ybT : S2816x128.Idx) (yeT : S2048x128.Idx) (x : S128x256.Idx) (xT : S256x128.Idx)

/-- The gate projection's tile at column `o`. -/
theorem g_tile (h0 : (yb 0).val = (x 0).val) (h1 : (yb 1).val = o + (x 1).val) (ho : o % 256 = 0) (hw : Chunk5 x5 o w) :
    k0_pay11 (F := Ideal) x1 (k0_pay5 (F := Ideal) x0) w x = (krow x0 x1 x2 x3 x4 x5 x6 (yb 0)).g (yb 1) := by
  obtain ⟨r, q, rfl⟩ : ∃ r q, x = ix2 r q := ⟨x 0, x 1, by funext a; fin_cases a <;> rfl⟩
  have e : yb 0 = r := Fin.ext h0
  rw [e]
  pointwise [k0_pay11, g_ix x0 x1 x2 x3 x4 x5 x6 ho hw r q (yb 1) h1]

/-- The up projection's tile at column `o`. -/
theorem u_tile (h0 : (yb 0).val = (x 0).val) (h1 : (yb 1).val = o + (x 1).val) (ho : o % 256 = 0) (hw : Chunk5 x5 o w) :
    k0_pay12 (F := Ideal) (k0_pay9 (F := Ideal) x1 (k0_pay5 (F := Ideal) x0) w) x = (krow x0 x1 x2 x3 x4 x5 x6 (yb 0)).u (yb 1) := by
  obtain ⟨r, q, rfl⟩ : ∃ r q, x = ix2 r q := ⟨x 0, x 1, by funext a; fin_cases a <;> rfl⟩
  have e : yb 0 = r := Fin.ext h0
  rw [e]
  pointwise [k0_pay12, u_ix x0 x1 x2 x3 x4 x5 x6 ho hw r q (yb 1) h1]

/-- The activation's tile at column `o`. -/
theorem a_tile (h0 : (yb 0).val = (x 0).val) (h1 : (yb 1).val = o + (x 1).val) (ho : o % 256 = 0) (hw : Chunk5 x5 o w) :
    k0_pay10 (F := Ideal) x1 (k0_pay5 (F := Ideal) x0) w x = (krow x0 x1 x2 x3 x4 x5 x6 (yb 0)).a (yb 1) := by
  obtain ⟨r, q, rfl⟩ : ∃ r q, x = ix2 r q := ⟨x 0, x 1, by funext a; fin_cases a <;> rfl⟩
  have e : yb 0 = r := Fin.ext h0
  rw [e]
  exact a_ix x0 x1 x2 x3 x4 x5 x6 ho hw r q (yb 1) h1

/-- The rounded activation's tile at column `o`. -/
theorem abf_tile (h0 : (yb 0).val = (x 0).val) (h1 : (yb 1).val = o + (x 1).val) (ho : o % 256 = 0) (hw : Chunk5 x5 o w) :
    k0_pay13 (F := Ideal) (k0_pay10 (F := Ideal) x1 (k0_pay5 (F := Ideal) x0) w) x = (krow x0 x1 x2 x3 x4 x5 x6 (yb 0)).a (yb 1) := by
  obtain ⟨r, q, rfl⟩ : ∃ r q, x = ix2 r q := ⟨x 0, x 1, by funext a; fin_cases a <;> rfl⟩
  have e : yb 0 = r := Fin.ext h0
  rw [e]
  pointwise [k0_pay13, a_ix x0 x1 x2 x3 x4 x5 x6 ho hw r q (yb 1) h1]

/-- The output's tile at column `o`. -/
theorem y_tile (h0 : (ye 0).val = (x 0).val) (h1 : (ye 1).val = o + (x 1).val) (hw6 : Rows6 x6 o w6) :
    k0_pay86 (F := Ideal) (aB x0 x1 x2 x3 x4 x5 x6) w6 x = (krow x0 x1 x2 x3 x4 x5 x6 (ye 0)).y (ye 1) := by
  obtain ⟨r, q, rfl⟩ : ∃ r q, x = ix2 r q := ⟨x 0, x 1, by funext a; fin_cases a <;> rfl⟩
  have e : ye 0 = r := Fin.ext h0
  rw [e]
  exact y_ix x0 x1 x2 x3 x4 x5 x6 hw6 r q (ye 1) h1

/-- The output gradient's tile at column `o`. -/
theorem dy_tile (h0 : (ye 0).val = (x 0).val) (h1 : (ye 1).val = o + (x 1).val) (hw6 : Rows6 x6 o w6) (hy : Cols x2 o wy)
    (hf : Cols x3 o wf) :
    k0_pay93 (F := Ideal) (k0_pay88 (F := Ideal) (k0_pay4 (F := Ideal) x4) (aB x0 x1 x2 x3 x4 x5 x6) w6 wy wf) x
      = (krow x0 x1 x2 x3 x4 x5 x6 (ye 0)).dy (ye 1) := by
  obtain ⟨r, q, rfl⟩ : ∃ r q, x = ix2 r q := ⟨x 0, x 1, by funext a; fin_cases a <;> rfl⟩
  have e : ye 0 = r := Fin.ext h0
  rw [e]
  pointwise [k0_pay93, dy_ix x0 x1 x2 x3 x4 x5 x6 hw6 hy hf r q (ye 1) h1]

/-- The transposed output gradient's tile at row `o`. -/
theorem dyt_tile (h0 : (yeT 0).val = o + (xT 0).val) (h1 : (yeT 1).val = (xT 1).val) (hw6 : Rows6 x6 o w6) (hy : Cols x2 o wy)
    (hf : Cols x3 o wf) :
    k0_pay94 (F := Ideal) (k0_pay88 (F := Ideal) (k0_pay4 (F := Ideal) x4) (aB x0 x1 x2 x3 x4 x5 x6) w6 wy wf) xT
      = (krow x0 x1 x2 x3 x4 x5 x6 (yeT 1)).dy (yeT 0) := by
  obtain ⟨q, r, rfl⟩ : ∃ q r, xT = ix2 q r := ⟨xT 0, xT 1, by funext a; fin_cases a <;> rfl⟩
  have e : yeT 1 = r := Fin.ext h1
  rw [e]
  pointwise [k0_pay94, dy_ix x0 x1 x2 x3 x4 x5 x6 hw6 hy hf r q (yeT 0) h0]

/-- The transposed gate gradient's tile at row `o`. -/
theorem dgt_tile (h0 : (ybT 0).val = o + (xT 0).val) (h1 : (ybT 1).val = (xT 1).val) (hw6 : Cols6 x6 o w6c)
    (hg : ColsOf (fun r => (krow x0 x1 x2 x3 x4 x5 x6 r).g) o wg) (hu : ColsOf (fun r => (krow x0 x1 x2 x3 x4 x5 x6 r).u) o wu) :
    k0_pay167 (F := Ideal) (k0_pay3 (F := Ideal) x1) (k0_pay165 (F := Ideal) (dyB x0 x1 x2 x3 x4 x5 x6) w6c wg wu) (k0_pay166 (F := Ideal) wg) xT
      = (krow x0 x1 x2 x3 x4 x5 x6 (ybT 1)).dg (ybT 0) := by
  obtain ⟨q, r, rfl⟩ : ∃ q r, xT = ix2 q r := ⟨xT 0, xT 1, by funext a; fin_cases a <;> rfl⟩
  have e : ybT 1 = r := Fin.ext h1
  rw [e]
  exact dg_ix x0 x1 x2 x3 x4 x5 x6 hw6 hg hu r q (ybT 0) h0

/-- The transposed up gradient's tile at row `o`. -/
theorem dut_tile (h0 : (ybT 0).val = o + (xT 0).val) (h1 : (ybT 1).val = (xT 1).val) (hw6 : Cols6 x6 o w6c)
    (hg : ColsOf (fun r => (krow x0 x1 x2 x3 x4 x5 x6 r).g) o wg) :
    k0_pay176 (F := Ideal) (k0_pay3 (F := Ideal) x1) (dyB x0 x1 x2 x3 x4 x5 x6) w6c wg xT
      = (krow x0 x1 x2 x3 x4 x5 x6 (ybT 1)).du (ybT 0) := by
  obtain ⟨q, r, rfl⟩ : ∃ q r, xT = ix2 q r := ⟨xT 0, xT 1, by funext a; fin_cases a <;> rfl⟩
  have e : ybT 1 = r := Fin.ext h1
  rw [e]
  exact du_ix x0 x1 x2 x3 x4 x5 x6 hw6 hg r q (ybT 0) h0

end Tiles

end Cert.KernelIdeal.Val

end
-- ==== Proof.Block.lean ====
/- What one run of the kernel's body stores: the words of the run, read at an index. Hand-written. -/
module

public import proofs.«01_k».proof.Proof.Tiles
public import proofs.«01_k».proof.Proof.Gen.KernelIdeal.Frame

@[expose] public section

set_option maxRecDepth 16384

noncomputable section

open Idealize.ShloMosaic Idealize.ShloMosaic.TcCoe Idealize.SL.Sem

namespace Cert.KernelIdeal.Val

open Cert.KernelIdeal Cert.KernelIdeal.Gen

variable (c : Dev nD) (arg1 : Memref sig .tc .vmem S128x2048 .fp8e4m3) (harg1 : arg1.IsWhole) (arg2 : Memref sig .tc .vmem S1x1x128 .f32) (harg2 : arg2.IsWhole)
    (arg3 : Memref sig .tc .vmem S128x2048 .bf16) (harg3 : arg3.IsWhole) (arg4 : Memref sig .tc .vmem S128x2048 .fp8e5m2) (harg4 : arg4.IsWhole)
    (arg5 : Memref sig .tc .vmem S1x1x128 .f32) (harg5 : arg5.IsWhole) (arg6 : Memref sig .tc .vmem S2048x5632 .bf16) (harg6 : arg6.IsWhole)
    (arg7 : Memref sig .tc .vmem S2048x2816 .bf16) (harg7 : arg7.IsWhole) (arg8 : Memref sig .tc .vmem S128x2816 .f32) (harg8 : arg8.IsWhole)
    (arg9 : Memref sig .tc .vmem S128x2816 .bf16) (harg9 : arg9.IsWhole) (arg15 : Memref sig .tc .vmem S128x2816 .f32) (arg16 : Memref sig .tc .vmem S128x2816 .f32)
    (arg17 : Memref sig .tc .vmem S128x2048 .bf16) (arg18 : Memref sig .tc .vmem S128x2048 .bf16) (arg19 : Memref sig .tc .vmem S8x128 .f32)
    (x0 : Vec Ideal S128x2048 .fp8e4m3) (x1 : Vec Ideal S1x1x128 .f32) (x2 : Vec Ideal S128x2048 .bf16) (x3 : Vec Ideal S128x2048 .fp8e5m2)
    (x4 : Vec Ideal S1x1x128 .f32) (x5 : Vec Ideal S2048x5632 .bf16) (x6 : Vec Ideal S2048x2816 .bf16)

/-- 512 columns of the staged gate and up weights. -/
theorem chunk5_ld (o : Nat) (off : Fin 2 → Nat) (inb) (h0 : off 0 = 0) (h1 : off 1 = 2 * o) :
    Chunk5 x5 o (View.readAt (Elt Ideal) arg6.view (Rect.unit (s := S2048x5632) off S2048x512.size inb).toLoadRect (harg6.unread x5)) := by
  intro d k k' hk
  rw [View.readAt_eq_ld, harg6.read_unread]
  exact View.ld_unit_apply_of _ _ _ _ _ _ (by intro a; fin_cases a <;> simp [h0, h1, hk])

/-- 256 rows of the staged down weights. -/
theorem rows6_ld (o : Nat) (off : Fin 2 → Nat) (inb) (h0 : off 0 = o) (h1 : off 1 = 0) :
    Rows6 x6 o (View.readAt (Elt Ideal) arg7.view (Rect.unit (s := S2048x2816) off S256x2816.size inb).toLoadRect (harg7.unread x6)) := by
  intro k f k' hk
  rw [View.readAt_eq_ld, harg7.read_unread]
  exact View.ld_unit_apply_of _ _ _ _ _ _ (by intro a; fin_cases a <;> simp [h0, h1, hk])

/-- 256 columns of the staged down weights. -/
theorem cols6_ld (o : Nat) (off : Fin 2 → Nat) (inb) (h0 : off 0 = 0) (h1 : off 1 = o) :
    Cols6 x6 o (View.readAt (Elt Ideal) arg7.view (Rect.unit (s := S2048x2816) off S2048x256.size inb).toLoadRect (harg7.unread x6)) := by
  intro k f k' hk
  rw [View.readAt_eq_ld, harg7.read_unread]
  exact View.ld_unit_apply_of _ _ _ _ _ _ (by intro a; fin_cases a <;> simp [h0, h1, hk])

/-- 256 columns of the staged targets. -/
theorem cols2_ld (o : Nat) (off : Fin 2 → Nat) (inb) (h0 : off 0 = 0) (h1 : off 1 = o) :
    Cols (e := .bf16) x2 o (View.readAt (Elt Ideal) arg3.view (Rect.unit (s := S128x2048) off S128x256.size inb).toLoadRect (harg3.unread x2)) := by
  intro r k k' hk
  rw [View.readAt_eq_ld, harg3.read_unread]
  exact View.ld_unit_apply_of _ _ _ _ _ _ (by intro a; fin_cases a <;> simp [h0, h1, hk])

/-- 256 columns of the staged Fisher codes. -/
theorem cols3_ld (o : Nat) (off : Fin 2 → Nat) (inb) (h0 : off 0 = 0) (h1 : off 1 = o) :
    Cols (e := .fp8e5m2) x3 o (View.readAt (Elt Ideal) arg4.view (Rect.unit (s := S128x2048) off S128x256.size inb).toLoadRect (harg4.unread x3)) := by
  intro r k k' hk
  rw [View.readAt_eq_ld, harg4.read_unread]
  exact View.ld_unit_apply_of _ _ _ _ _ _ (by intro a; fin_cases a <;> simp [h0, h1, hk])

/-- The staged token scales, read whole. -/
theorem ld2 (inb) : View.readAt (Elt Ideal) arg2.view (Rect.unit (s := S1x1x128) ![0, 0, 0] S1x1x128.size inb).toLoadRect (harg2.unread x1) = x1 := by
  rw [View.readAt_eq_ld, harg2.read_unread, View.ld_unit_zero]
  funext a; fin_cases a <;> rfl

/-- The staged Fisher scales, read whole. -/
theorem ld5 (inb) : View.readAt (Elt Ideal) arg5.view (Rect.unit (s := S1x1x128) ![0, 0, 0] S1x1x128.size inb).toLoadRect (harg5.unread x4) = x4 := by
  rw [View.readAt_eq_ld, harg5.read_unread, View.ld_unit_zero]
  funext a; fin_cases a <;> rfl

/-- The run's scale columns. -/
theorem r_eq : kernelRun0_B.sl.r (F := Ideal) c arg2 harg2 x1 = k0_pay3 (F := Ideal) x1 := by
  unfold kernelRun0_B.sl.r
  rw [ld2]

/-- The run's Fisher scale columns. -/
theorem r1_eq : kernelRun0_B.sl.r_1 (F := Ideal) c arg5 harg5 x4 = k0_pay4 (F := Ideal) x4 := by
  unfold kernelRun0_B.sl.r_1
  rw [ld5]

/-- The run's input codes, widened once and read back. -/
theorem v20_eq : kernelRun0_B.sl.v20 (F := Ideal) c arg1 harg1 arg17 x0 = k0_pay5 (F := Ideal) x0 := by
  unfold kernelRun0_B.sl.v20 kernelRun0_B.sl.HS2_1
  rw [View.readCov_unit_zero, View.readAt_eq_ld, harg1.read_unread, View.ld_unit_zero]
  all_goals (funext a; fin_cases a <;> rfl)

/-- The rounded activation the run stores. -/
theorem abf_B (y : S128x2816.Idx) : View.canon (kernelRun0_B.sl.H8_11 (F := Ideal) c arg1 harg1 arg2 harg2 arg6 harg6 arg17 x0 x1 x5) y
    = (krow x0 x1 x2 x3 x4 x5 x6 (y 0)).a (y 1) := by
  unfold kernelRun0_B.sl.H8_11
  canon_tiles x h
  all_goals simp only [kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, r_eq, v20_eq, ld2]
  case piece10 =>
    have h1' : (y 1).val = 0 + (x 1).val := by omega
    rw [ld2]
    exact abf_tile x0 x1 x2 x3 x4 x5 x6 y x h0 h1' rfl (chunk5_ld arg6 harg6 x5 _ _ _ rfl rfl)
  all_goals exact abf_tile x0 x1 x2 x3 x4 x5 x6 y x h0 h1 rfl (chunk5_ld arg6 harg6 x5 _ _ _ rfl rfl)

/-- The gate projection the run keeps. -/
theorem g_B (y : S128x2816.Idx) : View.canon (kernelRun0_B.sl.HS0_11 (F := Ideal) c arg1 harg1 arg2 harg2 arg6 harg6 arg17 x0 x1 x5) y
    = (krow x0 x1 x2 x3 x4 x5 x6 (y 0)).g (y 1) := by
  unfold kernelRun0_B.sl.HS0_11
  canon_tiles x h
  all_goals simp only [kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, r_eq, v20_eq, ld2]
  case piece10 =>
    have h1' : (y 1).val = 0 + (x 1).val := by omega
    rw [ld2]
    exact g_tile x0 x1 x2 x3 x4 x5 x6 y x h0 h1' rfl (chunk5_ld arg6 harg6 x5 _ _ _ rfl rfl)
  all_goals exact g_tile x0 x1 x2 x3 x4 x5 x6 y x h0 h1 rfl (chunk5_ld arg6 harg6 x5 _ _ _ rfl rfl)

/-- The up projection the run keeps. -/
theorem u_B (y : S128x2816.Idx) : View.canon (kernelRun0_B.sl.HS1_11 (F := Ideal) c arg1 harg1 arg2 harg2 arg6 harg6 arg17 x0 x1 x5) y
    = (krow x0 x1 x2 x3 x4 x5 x6 (y 0)).u (y 1) := by
  unfold kernelRun0_B.sl.HS1_11
  canon_tiles x h
  all_goals simp only [kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, r_eq, v20_eq, ld2]
  case piece10 =>
    have h1' : (y 1).val = 0 + (x 1).val := by omega
    rw [ld2]
    exact u_tile x0 x1 x2 x3 x4 x5 x6 y x h0 h1' rfl (chunk5_ld arg6 harg6 x5 _ _ _ rfl rfl)
  all_goals exact u_tile x0 x1 x2 x3 x4 x5 x6 y x h0 h1 rfl (chunk5_ld arg6 harg6 x5 _ _ _ rfl rfl)

/-- The rounded activation, read back whole. -/
theorem v230_eq : kernelRun0_B.sl.v230 (F := Ideal) c arg1 harg1 arg2 harg2 arg6 harg6 arg9 arg17 x0 x1 x5 = aB x0 x1 x2 x3 x4 x5 x6 := by
  unfold kernelRun0_B.sl.v230
  rw [View.readCov_eq_canon']
  funext j
  refine (abf_B c arg1 harg1 arg2 harg2 arg6 harg6 arg17 x0 x1 x2 x3 x4 x5 x6 _).trans ?_
  exact congrArg (aB x0 x1 x2 x3 x4 x5 x6) (funext fun a => Fin.ext (by rw [Rect.idx_unit_val]; fin_cases a <;> exact Nat.zero_add _))

/-- The output gradient the run keeps. -/
theorem dy_B (y : S128x2048.Idx) : View.canon (kernelRun0_B.sl.HS3_8 (F := Ideal) c arg1 harg1 arg2 harg2 arg3 harg3 arg4 harg4 arg5 harg5 arg6 harg6 arg7 harg7 arg9 arg17 x0 x1 x2 x3 x4 x5 x6) y
    = (krow x0 x1 x2 x3 x4 x5 x6 (y 0)).dy (y 1) := by
  unfold kernelRun0_B.sl.HS3_8
  canon_tiles x h
  all_goals simp only [kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, r1_eq, v230_eq _ _ _ _ _ _ _ _ _ x0 x1 x2 x3 x4 x5 x6]
  case piece7 =>
    have h1' : (y 1).val = 0 + (x 1).val := by omega
    exact dy_tile x0 x1 x2 x3 x4 x5 x6 y x h0 h1' (rows6_ld arg7 harg7 x6 _ _ _ rfl rfl) (cols2_ld arg3 harg3 x2 _ _ _ rfl rfl) (cols3_ld arg4 harg4 x3 _ _ _ rfl rfl)
  all_goals exact dy_tile x0 x1 x2 x3 x4 x5 x6 y x h0 h1 (rows6_ld arg7 harg7 x6 _ _ _ rfl rfl) (cols2_ld arg3 harg3 x2 _ _ _ rfl rfl) (cols3_ld arg4 harg4 x3 _ _ _ rfl rfl)

/-- The output gradient, read back whole. -/
theorem v931_eq : kernelRun0_B.sl.v931 (F := Ideal) c arg1 harg1 arg2 harg2 arg3 harg3 arg4 harg4 arg5 harg5 arg6 harg6 arg7 harg7 arg9 arg17 arg18 x0 x1 x2 x3 x4 x5 x6 = dyB x0 x1 x2 x3 x4 x5 x6 := by
  unfold kernelRun0_B.sl.v931
  rw [View.readCov_eq_canon']
  funext j
  refine (dy_B c arg1 harg1 arg2 harg2 arg3 harg3 arg4 harg4 arg5 harg5 arg6 harg6 arg7 harg7 arg9 arg17 x0 x1 x2 x3 x4 x5 x6 _).trans ?_
  exact congrArg (dyB x0 x1 x2 x3 x4 x5 x6) (funext fun a => Fin.ext (by rw [Rect.idx_unit_val]; fin_cases a <;> exact Nat.zero_add _))

end Cert.KernelIdeal.Val

end
-- ==== Proof.Outs.lean ====
/- What one run of the kernel's body leaves in its output blocks, read at an index. Hand-written. -/
module

public import proofs.«01_k».proof.Proof.Block
public import proofs.«01_k».proof.Proof.Gen.KernelIdeal.Frame

@[expose] public section

set_option maxRecDepth 16384

noncomputable section

open Idealize.ShloMosaic Idealize.ShloMosaic.TcCoe Idealize.SL.Sem

namespace Cert.KernelIdeal.Val

open Cert.KernelIdeal Cert.KernelIdeal.Gen

variable (c : Dev nD) (i : grid0.Coords) (arg1 : Memref sig .tc .vmem S128x2048 .fp8e4m3) (harg1 : arg1.IsWhole) (arg2 : Memref sig .tc .vmem S1x1x128 .f32) (harg2 : arg2.IsWhole) (arg3 : Memref sig .tc .vmem S128x2048 .bf16) (harg3 : arg3.IsWhole) (arg4 : Memref sig .tc .vmem S128x2048 .fp8e5m2) (harg4 : arg4.IsWhole) (arg5 : Memref sig .tc .vmem S1x1x128 .f32) (harg5 : arg5.IsWhole) (arg6 : Memref sig .tc .vmem S2048x5632 .bf16) (harg6 : arg6.IsWhole) (arg7 : Memref sig .tc .vmem S2048x2816 .bf16) (harg7 : arg7.IsWhole) (arg8 : Memref sig .tc .vmem S128x2816 .f32) (harg8 : arg8.IsWhole) (arg9 : Memref sig .tc .vmem S128x2816 .bf16) (harg9 : arg9.IsWhole) (arg10 : Memref sig .tc .vmem S128x2048 .f32) (harg10 : arg10.IsWhole) (arg11 : Memref sig .tc .vmem S2048x128 .bf16) (harg11 : arg11.IsWhole) (arg12 : Memref sig .tc .vmem S2816x128 .bf16) (harg12 : arg12.IsWhole) (arg13 : Memref sig .tc .vmem S2816x128 .bf16) (harg13 : arg13.IsWhole) (arg14 : Memref sig .tc .smem S1x1 .f32) (harg14 : arg14.IsWhole) (arg15 : Memref sig .tc .vmem S128x2816 .f32) (harg15 : arg15.IsWhole) (arg16 : Memref sig .tc .vmem S128x2816 .f32) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S8x128 .f32) (harg19 : arg19.IsWhole)
  (hc0 : ¬cond0_0 i) (hc1 : ¬cond0_1 i)
  (x0 : Vec Ideal S128x2048 .fp8e4m3) (x1 : Vec Ideal S1x1x128 .f32) (x2 : Vec Ideal S128x2048 .bf16) (x3 : Vec Ideal S128x2048 .fp8e5m2) (x4 : Vec Ideal S1x1x128 .f32) (x5 : Vec Ideal S2048x5632 .bf16) (x6 : Vec Ideal S2048x2816 .bf16) (xs4 : Vec Ideal S8x128 .f32)

/-- 256 columns of the kept gate projection, read back. -/
theorem colsg_rd (o : Nat) (off : Fin 2 → Nat) (inb) (h0 : off 0 = 0) (h1 : off 1 = o) :
    ColsOf (fun r => (krow x0 x1 x2 x3 x4 x5 x6 r).g) o
      (arg15.view.readCov (kernelRun0_B.sl.HS0_11 (F := Ideal) c arg1 harg1 arg2 harg2 arg6 harg6 arg17 x0 x1 x5) (Rect.unit (s := S128x2816) off S128x256.size inb).toLoadRect) := by
  intro r k k' hk
  rw [View.readCov_eq_canon']
  refine (g_B c arg1 harg1 arg2 harg2 arg6 harg6 arg17 x0 x1 x2 x3 x4 x5 x6 _).trans ?_
  have e : ∀ a : Fin 2, ((Rect.unit (s := S128x2816) off S128x256.size inb).idx (ix2 r k) a) = (ix2 r k' : S128x2816.Idx) a := by
    intro a
    refine Fin.ext ?_
    rw [Rect.idx_unit_val]
    fin_cases a <;> simp [h0, h1, hk]
  exact congrArg₂ (fun r f => (krow x0 x1 x2 x3 x4 x5 x6 r).g f) (e 0) (e 1)

/-- 256 columns of the kept up projection, read back. -/
theorem colsu_rd (o : Nat) (off : Fin 2 → Nat) (inb) (h0 : off 0 = 0) (h1 : off 1 = o) :
    ColsOf (fun r => (krow x0 x1 x2 x3 x4 x5 x6 r).u) o
      (arg16.view.readCov (kernelRun0_B.sl.HS1_11 (F := Ideal) c arg1 harg1 arg2 harg2 arg6 harg6 arg17 x0 x1 x5) (Rect.unit (s := S128x2816) off S128x256.size inb).toLoadRect) := by
  intro r k k' hk
  rw [View.readCov_eq_canon']
  refine (u_B c arg1 harg1 arg2 harg2 arg6 harg6 arg17 x0 x1 x2 x3 x4 x5 x6 _).trans ?_
  have e : ∀ a : Fin 2, ((Rect.unit (s := S128x2816) off S128x256.size inb).idx (ix2 r k) a) = (ix2 r k' : S128x2816.Idx) a := by
    intro a
    refine Fin.ext ?_
    rw [Rect.idx_unit_val]
    fin_cases a <;> simp [h0, h1, hk]
  exact congrArg₂ (fun r f => (krow x0 x1 x2 x3 x4 x5 x6 r).u f) (e 0) (e 1)

/-- The activation's block. -/
theorem out7_B (y : S128x2816.Idx) : out0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4 y = (krow x0 x1 x2 x3 x4 x5 x6 (y 0)).a (y 1) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4)]
  unfold kernelRun0_B
  dsimp only
  canon_tiles x h
  all_goals simp only [kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, r_eq, v20_eq, ld2]
  case piece10 =>
    have h1' : (y 1).val = 0 + (x 1).val := by omega
    rw [ld2]
    exact a_tile x0 x1 x2 x3 x4 x5 x6 (o := 0) y x h0 h1' rfl (chunk5_ld arg6 harg6 x5 _ _ _ rfl rfl)
  all_goals exact a_tile x0 x1 x2 x3 x4 x5 x6 y x h0 h1 rfl (chunk5_ld arg6 harg6 x5 _ _ _ rfl rfl)

/-- The rounded activation's block. -/
theorem out8_B (y : S128x2816.Idx) : out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4 y = (krow x0 x1 x2 x3 x4 x5 x6 (y 0)).a (y 1) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4)]
  exact abf_B c arg1 harg1 arg2 harg2 arg6 harg6 arg17 x0 x1 x2 x3 x4 x5 x6 y

/-- The output's block. -/
theorem out9_B (y : S128x2048.Idx) : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4 y = (krow x0 x1 x2 x3 x4 x5 x6 (y 0)).y (y 1) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4)]
  unfold kernelRun0_B
  dsimp only
  canon_tiles x h
  all_goals simp only [kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, v230_eq _ _ _ _ _ _ _ _ _ x0 x1 x2 x3 x4 x5 x6]
  case piece7 =>
    have h1' : (y 1).val = 0 + (x 1).val := by omega
    exact y_tile x0 x1 x2 x3 x4 x5 x6 (o := 0) y x h0 h1' (rows6_ld arg7 harg7 x6 _ _ _ rfl rfl)
  all_goals exact y_tile x0 x1 x2 x3 x4 x5 x6 y x h0 h1 (rows6_ld arg7 harg7 x6 _ _ _ rfl rfl)

/-- The output gradient's block, transposed. -/
theorem out10_B (y : S2048x128.Idx) : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4 y = (krow x0 x1 x2 x3 x4 x5 x6 (y 1)).dy (y 0) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4)]
  unfold kernelRun0_B
  dsimp only
  canon_tiles x h
  all_goals simp only [kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, r1_eq, v230_eq _ _ _ _ _ _ _ _ _ x0 x1 x2 x3 x4 x5 x6]
  case piece7 =>
    have h0' : (y 0).val = 0 + (x 0).val := by omega
    exact dyt_tile x0 x1 x2 x3 x4 x5 x6 (o := 0) y x h0' h1 (rows6_ld arg7 harg7 x6 _ _ _ rfl rfl) (cols2_ld arg3 harg3 x2 _ _ _ rfl rfl) (cols3_ld arg4 harg4 x3 _ _ _ rfl rfl)
  all_goals exact dyt_tile x0 x1 x2 x3 x4 x5 x6 y x h0 h1 (rows6_ld arg7 harg7 x6 _ _ _ rfl rfl) (cols2_ld arg3 harg3 x2 _ _ _ rfl rfl) (cols3_ld arg4 harg4 x3 _ _ _ rfl rfl)

/-- The gate gradient's block, transposed. -/
theorem out11_B (y : S2816x128.Idx) : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4 y = (krow x0 x1 x2 x3 x4 x5 x6 (y 1)).dg (y 0) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4)]
  unfold kernelRun0_B
  dsimp only
  canon_tiles x h
  all_goals simp only [kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.v934, kernelRun0_B.sl.v935, kernelRun0_B.sl.v958, kernelRun0_B.sl.v959, kernelRun0_B.sl.v982, kernelRun0_B.sl.v983, kernelRun0_B.sl.v1006, kernelRun0_B.sl.v1007, kernelRun0_B.sl.v1030, kernelRun0_B.sl.v1031, kernelRun0_B.sl.v1054, kernelRun0_B.sl.v1055, kernelRun0_B.sl.v1078, kernelRun0_B.sl.v1079, kernelRun0_B.sl.v1102, kernelRun0_B.sl.v1103, kernelRun0_B.sl.v1126, kernelRun0_B.sl.v1127, kernelRun0_B.sl.v1150, kernelRun0_B.sl.v1151, kernelRun0_B.sl.v1174, kernelRun0_B.sl.v1175, kernelRun0_B.sl.cst_332, r_eq,  v931_eq _ _ _ _ _ _ _ _ _ _ _ _ _ _ _ _ _ _ x0 x1 x2 x3 x4 x5 x6]
  case piece10 =>
    have h0' : (y 0).val = 0 + (x 0).val := by omega
    exact dgt_tile x0 x1 x2 x3 x4 x5 x6 (o := 0) y x h0' h1 (cols6_ld arg7 harg7 x6 _ _ _ rfl rfl) (colsg_rd _ _ _ _ _ _ _ _ _ x0 x1 x2 x3 x4 x5 x6 _ _ _ rfl rfl) (colsu_rd _ _ _ _ _ _ _ _ _ x0 x1 x2 x3 x4 x5 x6 _ _ _ rfl rfl)
  all_goals exact dgt_tile x0 x1 x2 x3 x4 x5 x6 y x h0 h1 (cols6_ld arg7 harg7 x6 _ _ _ rfl rfl) (colsg_rd _ _ _ _ _ _ _ _ _ x0 x1 x2 x3 x4 x5 x6 _ _ _ rfl rfl) (colsu_rd _ _ _ _ _ _ _ _ _ x0 x1 x2 x3 x4 x5 x6 _ _ _ rfl rfl)

/-- The up gradient's block, transposed. -/
theorem out12_B (y : S2816x128.Idx) : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4 y = (krow x0 x1 x2 x3 x4 x5 x6 (y 1)).du (y 0) := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4)]
  unfold kernelRun0_B
  dsimp only
  canon_tiles x h
  all_goals simp only [kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.v934, kernelRun0_B.sl.v935, kernelRun0_B.sl.v958, kernelRun0_B.sl.v959, kernelRun0_B.sl.v982, kernelRun0_B.sl.v983, kernelRun0_B.sl.v1006, kernelRun0_B.sl.v1007, kernelRun0_B.sl.v1030, kernelRun0_B.sl.v1031, kernelRun0_B.sl.v1054, kernelRun0_B.sl.v1055, kernelRun0_B.sl.v1078, kernelRun0_B.sl.v1079, kernelRun0_B.sl.v1102, kernelRun0_B.sl.v1103, kernelRun0_B.sl.v1126, kernelRun0_B.sl.v1127, kernelRun0_B.sl.v1150, kernelRun0_B.sl.v1151, kernelRun0_B.sl.v1174, kernelRun0_B.sl.v1175, kernelRun0_B.sl.cst_332, r_eq,  v931_eq _ _ _ _ _ _ _ _ _ _ _ _ _ _ _ _ _ _ x0 x1 x2 x3 x4 x5 x6]
  case piece10 =>
    have h0' : (y 0).val = 0 + (x 0).val := by omega
    exact dut_tile x0 x1 x2 x3 x4 x5 x6 (o := 0) y x h0' h1 (cols6_ld arg7 harg7 x6 _ _ _ rfl rfl) (colsg_rd _ _ _ _ _ _ _ _ _ x0 x1 x2 x3 x4 x5 x6 _ _ _ rfl rfl)
  all_goals exact dut_tile x0 x1 x2 x3 x4 x5 x6 y x h0 h1 (cols6_ld arg7 harg7 x6 _ _ _ rfl rfl) (colsg_rd _ _ _ _ _ _ _ _ _ x0 x1 x2 x3 x4 x5 x6 _ _ _ rfl rfl)

end Cert.KernelIdeal.Val

end
-- ==== Proof.Acc.lean ====
/- What one run of the kernel's body adds to the running loss, and the three cases of the body. Hand-written. Hand-written. -/
module

public import proofs.«01_k».proof.Proof.Outs
public import proofs.«01_k».proof.Proof.Gen.KernelIdeal.Frame

@[expose] public section

set_option maxRecDepth 16384

noncomputable section

open Idealize.ShloMosaic Idealize.ShloMosaic.TcCoe Idealize.SL.Sem

namespace Cert.KernelIdeal.Val

open Cert.KernelIdeal Cert.KernelIdeal.Gen

variable (c : Dev nD) (i : grid0.Coords) (arg1 : Memref sig .tc .vmem S128x2048 .fp8e4m3) (harg1 : arg1.IsWhole) (arg2 : Memref sig .tc .vmem S1x1x128 .f32) (harg2 : arg2.IsWhole) (arg3 : Memref sig .tc .vmem S128x2048 .bf16) (harg3 : arg3.IsWhole) (arg4 : Memref sig .tc .vmem S128x2048 .fp8e5m2) (harg4 : arg4.IsWhole) (arg5 : Memref sig .tc .vmem S1x1x128 .f32) (harg5 : arg5.IsWhole) (arg6 : Memref sig .tc .vmem S2048x5632 .bf16) (harg6 : arg6.IsWhole) (arg7 : Memref sig .tc .vmem S2048x2816 .bf16) (harg7 : arg7.IsWhole) (arg8 : Memref sig .tc .vmem S128x2816 .f32) (harg8 : arg8.IsWhole) (arg9 : Memref sig .tc .vmem S128x2816 .bf16) (harg9 : arg9.IsWhole) (arg10 : Memref sig .tc .vmem S128x2048 .f32) (harg10 : arg10.IsWhole) (arg11 : Memref sig .tc .vmem S2048x128 .bf16) (harg11 : arg11.IsWhole) (arg12 : Memref sig .tc .vmem S2816x128 .bf16) (harg12 : arg12.IsWhole) (arg13 : Memref sig .tc .vmem S2816x128 .bf16) (harg13 : arg13.IsWhole) (arg14 : Memref sig .tc .smem S1x1 .f32) (harg14 : arg14.IsWhole) (arg15 : Memref sig .tc .vmem S128x2816 .f32) (harg15 : arg15.IsWhole) (arg16 : Memref sig .tc .vmem S128x2816 .f32) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S8x128 .f32) (harg19 : arg19.IsWhole)
  (x0 : Vec Ideal S128x2048 .fp8e4m3) (x1 : Vec Ideal S1x1x128 .f32) (x2 : Vec Ideal S128x2048 .bf16) (x3 : Vec Ideal S128x2048 .fp8e5m2) (x4 : Vec Ideal S1x1x128 .f32) (x5 : Vec Ideal S2048x5632 .bf16) (x6 : Vec Ideal S2048x2816 .bf16) (xs4 : Vec Ideal S8x128 .f32)

/-- The loss terms of one block of 128 tokens that fall on one place of the 8 by 128 tile. -/
def lossT (i : Fin 8) (l : Fin 128) : EReal :=
  ∑ k : Fin 8, ∑ a : Fin 16, ∑ b : Fin 2,
    (krow x0 x1 x2 x3 x4 x5 x6 (⟨8 * a.val + i.val, by omega⟩ : Fin 128)).q (⟨256 * k.val + (128 * b.val + l.val), by omega⟩ : Fin 2048)

/-- One chunk's loss terms on one place of the tile. -/
theorem fold_q {o : Nat} {w6 : FVec Ideal S256x2816 .bf16} {wy : FVec Ideal S128x256 .bf16} {wf : FVec Ideal S128x256 .fp8e5m2}
    (p : FVec Ideal S8x128 .f32) (hw6 : Rows6 x6 o w6) (hy : Cols (e := .bf16) x2 o wy) (hf : Cols (e := .fp8e5m2) x3 o wf)
    (ho : o + 256 ≤ 2048) (i : Fin 8) (l : Fin 128) :
    fold p (k0_pay89 (F := Ideal) (k0_pay4 (F := Ideal) x4) (aB x0 x1 x2 x3 x4 x5 x6) w6 wy wf) (ix2 i l)
      = p (ix2 i l) + ∑ a : Fin 16, ∑ b : Fin 2,
          (krow x0 x1 x2 x3 x4 x5 x6 (⟨8 * a.val + i.val, by omega⟩ : Fin 128)).q (⟨o + (128 * b.val + l.val), by omega⟩ : Fin 2048) := by
  rw [fold_ix]
  refine congrArg₂ _ rfl (Finset.sum_congr rfl fun a _ => Finset.sum_congr rfl fun b _ => ?_)
  exact q_ix x0 x1 x2 x3 x4 x5 x6 hw6 hy hf _ _ _ rfl

/-- The run's partial sum: its eight chunks folded one after the other, added to what the accumulator held. -/
theorem part_B (p : FVec Ideal S8x128 .f32) :
    k0_pay162 (F := Ideal) (kernelRun0_B.sl.r_50 c arg1 harg1 arg2 harg2 arg3 harg3 arg4 harg4 arg5 harg5 arg6 harg6 arg7 harg7 arg9 arg17 x0 x1 x2 x3 x4 x5 x6) (kernelRun0_B.sl.r_51 c arg1 harg1 arg2 harg2 arg3 harg3 arg4 harg4 arg5 harg5 arg6 harg6 arg7 harg7 arg9 arg17 x0 x1 x2 x3 x4 x5 x6) (kernelRun0_B.sl.r_52 c arg1 harg1 arg2 harg2 arg3 harg3 arg4 harg4 arg5 harg5 arg6 harg6 arg7 harg7 arg9 arg17 x0 x1 x2 x3 x4 x5 x6) p
      = shapeCast S8x128 (addf p (fold (fold (fold (fold (fold (fold (fold (fold (broadcast S8x128 (Scalar.ofBits (F := Ideal) .f32 0x00000000#32))
        (k0_pay89 (F := Ideal) (k0_pay4 (F := Ideal) x4) (aB x0 x1 x2 x3 x4 x5 x6) (View.readAt (Elt Ideal) arg7.view (Rect.unit (s := S2048x2816) ![0, 0] S256x2816.size inb_S2048x2816_S256x2816_0_0).toLoadRect (harg7.unread x6)) (View.readAt (Elt Ideal) arg3.view (Rect.unit (s := S128x2048) ![0, 0] S128x256.size inb_S128x2048_S128x256_0_0).toLoadRect (harg3.unread x2)) (View.readAt (Elt Ideal) arg4.view (Rect.unit (s := S128x2048) ![0, 0] S128x256.size inb_S128x2048_S128x256_0_0).toLoadRect (harg4.unread x3))))
        (k0_pay89 (F := Ideal) (k0_pay4 (F := Ideal) x4) (aB x0 x1 x2 x3 x4 x5 x6) (View.readAt (Elt Ideal) arg7.view (Rect.unit (s := S2048x2816) ![256, 0] S256x2816.size inb_S2048x2816_S256x2816_256_0).toLoadRect (harg7.unread x6)) (View.readAt (Elt Ideal) arg3.view (Rect.unit (s := S128x2048) ![0, 256] S128x256.size inb_S128x2048_S128x256_0_256).toLoadRect (harg3.unread x2)) (View.readAt (Elt Ideal) arg4.view (Rect.unit (s := S128x2048) ![0, 256] S128x256.size inb_S128x2048_S128x256_0_256).toLoadRect (harg4.unread x3))))
        (k0_pay89 (F := Ideal) (k0_pay4 (F := Ideal) x4) (aB x0 x1 x2 x3 x4 x5 x6) (View.readAt (Elt Ideal) arg7.view (Rect.unit (s := S2048x2816) ![512, 0] S256x2816.size inb_S2048x2816_S256x2816_512_0).toLoadRect (harg7.unread x6)) (View.readAt (Elt Ideal) arg3.view (Rect.unit (s := S128x2048) ![0, 512] S128x256.size inb_S128x2048_S128x256_0_512).toLoadRect (harg3.unread x2)) (View.readAt (Elt Ideal) arg4.view (Rect.unit (s := S128x2048) ![0, 512] S128x256.size inb_S128x2048_S128x256_0_512).toLoadRect (harg4.unread x3))))
        (k0_pay89 (F := Ideal) (k0_pay4 (F := Ideal) x4) (aB x0 x1 x2 x3 x4 x5 x6) (View.readAt (Elt Ideal) arg7.view (Rect.unit (s := S2048x2816) ![768, 0] S256x2816.size inb_S2048x2816_S256x2816_768_0).toLoadRect (harg7.unread x6)) (View.readAt (Elt Ideal) arg3.view (Rect.unit (s := S128x2048) ![0, 768] S128x256.size inb_S128x2048_S128x256_0_768).toLoadRect (harg3.unread x2)) (View.readAt (Elt Ideal) arg4.view (Rect.unit (s := S128x2048) ![0, 768] S128x256.size inb_S128x2048_S128x256_0_768).toLoadRect (harg4.unread x3))))
        (k0_pay89 (F := Ideal) (k0_pay4 (F := Ideal) x4) (aB x0 x1 x2 x3 x4 x5 x6) (View.readAt (Elt Ideal) arg7.view (Rect.unit (s := S2048x2816) ![1024, 0] S256x2816.size inb_S2048x2816_S256x2816_1024_0).toLoadRect (harg7.unread x6)) (View.readAt (Elt Ideal) arg3.view (Rect.unit (s := S128x2048) ![0, 1024] S128x256.size inb_S128x2048_S128x256_0_1024).toLoadRect (harg3.unread x2)) (View.readAt (Elt Ideal) arg4.view (Rect.unit (s := S128x2048) ![0, 1024] S128x256.size inb_S128x2048_S128x256_0_1024).toLoadRect (harg4.unread x3))))
        (k0_pay89 (F := Ideal) (k0_pay4 (F := Ideal) x4) (aB x0 x1 x2 x3 x4 x5 x6) (View.readAt (Elt Ideal) arg7.view (Rect.unit (s := S2048x2816) ![1280, 0] S256x2816.size inb_S2048x2816_S256x2816_1280_0).toLoadRect (harg7.unread x6)) (View.readAt (Elt Ideal) arg3.view (Rect.unit (s := S128x2048) ![0, 1280] S128x256.size inb_S128x2048_S128x256_0_1280).toLoadRect (harg3.unread x2)) (View.readAt (Elt Ideal) arg4.view (Rect.unit (s := S128x2048) ![0, 1280] S128x256.size inb_S128x2048_S128x256_0_1280).toLoadRect (harg4.unread x3))))
        (k0_pay89 (F := Ideal) (k0_pay4 (F := Ideal) x4) (aB x0 x1 x2 x3 x4 x5 x6) (View.readAt (Elt Ideal) arg7.view (Rect.unit (s := S2048x2816) ![1536, 0] S256x2816.size inb_S2048x2816_S256x2816_1536_0).toLoadRect (harg7.unread x6)) (View.readAt (Elt Ideal) arg3.view (Rect.unit (s := S128x2048) ![0, 1536] S128x256.size inb_S128x2048_S128x256_0_1536).toLoadRect (harg3.unread x2)) (View.readAt (Elt Ideal) arg4.view (Rect.unit (s := S128x2048) ![0, 1536] S128x256.size inb_S128x2048_S128x256_0_1536).toLoadRect (harg4.unread x3))))
        (k0_pay89 (F := Ideal) (k0_pay4 (F := Ideal) x4) (aB x0 x1 x2 x3 x4 x5 x6) (View.readAt (Elt Ideal) arg7.view (Rect.unit (s := S2048x2816) ![1792, 0] S256x2816.size inb_S2048x2816_S256x2816_1792_0).toLoadRect (harg7.unread x6)) (View.readAt (Elt Ideal) arg3.view (Rect.unit (s := S128x2048) ![0, 1792] S128x256.size inb_S128x2048_S128x256_0_1792).toLoadRect (harg3.unread x2)) (View.readAt (Elt Ideal) arg4.view (Rect.unit (s := S128x2048) ![0, 1792] S128x256.size inb_S128x2048_S128x256_0_1792).toLoadRect (harg4.unread x3))))) shapeCasts_S8x128_S8x128 := by
  simp only [kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, r1_eq, v230_eq _ _ _ _ _ _ _ _ _ x0 x1 x2 x3 x4 x5 x6]
  rfl

/-- The run's partial sum, read at a place of the tile. -/
theorem part_ix (p : FVec Ideal S8x128 .f32) (r : Fin 8) (l : Fin 128) :
    k0_pay162 (F := Ideal) (kernelRun0_B.sl.r_50 c arg1 harg1 arg2 harg2 arg3 harg3 arg4 harg4 arg5 harg5 arg6 harg6 arg7 harg7 arg9 arg17 x0 x1 x2 x3 x4 x5 x6) (kernelRun0_B.sl.r_51 c arg1 harg1 arg2 harg2 arg3 harg3 arg4 harg4 arg5 harg5 arg6 harg6 arg7 harg7 arg9 arg17 x0 x1 x2 x3 x4 x5 x6) (kernelRun0_B.sl.r_52 c arg1 harg1 arg2 harg2 arg3 harg3 arg4 harg4 arg5 harg5 arg6 harg6 arg7 harg7 arg9 arg17 x0 x1 x2 x3 x4 x5 x6) p (ix2 r l)
      = p (ix2 r l) + lossT x0 x1 x2 x3 x4 x5 x6 r l := by
  rw [part_B]
  pointwise []
  refine congrArg₂ _ rfl ?_
  rw [fold_q x0 x1 x2 x3 x4 x5 x6 (o := 1792) _ (rows6_ld arg7 harg7 x6 _ _ _ rfl rfl) (cols2_ld arg3 harg3 x2 _ _ _ rfl rfl) (cols3_ld arg4 harg4 x3 _ _ _ rfl rfl) (by decide)]
  rw [fold_q x0 x1 x2 x3 x4 x5 x6 (o := 1536) _ (rows6_ld arg7 harg7 x6 _ _ _ rfl rfl) (cols2_ld arg3 harg3 x2 _ _ _ rfl rfl) (cols3_ld arg4 harg4 x3 _ _ _ rfl rfl) (by decide)]
  rw [fold_q x0 x1 x2 x3 x4 x5 x6 (o := 1280) _ (rows6_ld arg7 harg7 x6 _ _ _ rfl rfl) (cols2_ld arg3 harg3 x2 _ _ _ rfl rfl) (cols3_ld arg4 harg4 x3 _ _ _ rfl rfl) (by decide)]
  rw [fold_q x0 x1 x2 x3 x4 x5 x6 (o := 1024) _ (rows6_ld arg7 harg7 x6 _ _ _ rfl rfl) (cols2_ld arg3 harg3 x2 _ _ _ rfl rfl) (cols3_ld arg4 harg4 x3 _ _ _ rfl rfl) (by decide)]
  rw [fold_q x0 x1 x2 x3 x4 x5 x6 (o := 768) _ (rows6_ld arg7 harg7 x6 _ _ _ rfl rfl) (cols2_ld arg3 harg3 x2 _ _ _ rfl rfl) (cols3_ld arg4 harg4 x3 _ _ _ rfl rfl) (by decide)]
  rw [fold_q x0 x1 x2 x3 x4 x5 x6 (o := 512) _ (rows6_ld arg7 harg7 x6 _ _ _ rfl rfl) (cols2_ld arg3 harg3 x2 _ _ _ rfl rfl) (cols3_ld arg4 harg4 x3 _ _ _ rfl rfl) (by decide)]
  rw [fold_q x0 x1 x2 x3 x4 x5 x6 (o := 256) _ (rows6_ld arg7 harg7 x6 _ _ _ rfl rfl) (cols2_ld arg3 harg3 x2 _ _ _ rfl rfl) (cols3_ld arg4 harg4 x3 _ _ _ rfl rfl) (by decide)]
  rw [fold_q x0 x1 x2 x3 x4 x5 x6 (o := 0) _ (rows6_ld arg7 harg7 x6 _ _ _ rfl rfl) (cols2_ld arg3 harg3 x2 _ _ _ rfl rfl) (cols3_ld arg4 harg4 x3 _ _ _ rfl rfl) (by decide)]
  unfold lossT
  rw [Fin.sum_univ_eight]
  refine Eq.trans ?_ (zero_add _)
  simp only [add_assoc]
  rfl

variable (hc0 : ¬cond0_0 i) (hc1 : ¬cond0_1 i)

/-- The accumulator after a run of the middle case. -/
theorem sout_B (r : Fin 8) (l : Fin 128) : sout0_B_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4 (ix2 r l) = xs4 (ix2 r l) + lossT x0 x1 x2 x3 x4 x5 x6 r l := by
  unfold sout0_B_4
  rw [View.read_writes_eq_canon _ _ _ (scover0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4)]
  unfold kernelRun0_B
  dsimp only
  rw [View.canon_unit_zero (by funext a; fin_cases a <;> rfl), View.readAt_eq_ld, harg19.read_unread, View.ld_unit_zero (by funext a; fin_cases a <;> rfl)]
  exact part_ix _ _ _ _ _ _ _ _ _ _ _ _ _ _ _ _ _ x0 x1 x2 x3 x4 x5 x6 xs4 r l

end Cert.KernelIdeal.Val

end
-- ==== Proof.Cases.lean ====
/- The first and last cases of the kernel's body store what the middle case stores. Hand-written. Hand-written. -/
module

public import proofs.«01_k».proof.Proof.Acc
public import proofs.«01_k».proof.Proof.Gen.KernelIdeal.Frame

@[expose] public section

set_option maxRecDepth 16384

noncomputable section

open Idealize.ShloMosaic Idealize.ShloMosaic.TcCoe Idealize.SL.Sem

namespace Cert.KernelIdeal.Val

open Cert.KernelIdeal Cert.KernelIdeal.Gen

/-- The second point of the grid: a middle one. -/
def tB : Fin cfg0.N := ⟨1, by decide +kernel⟩

theorem hB0 : ¬cond0_0 (grid0.coords tB) := fun h => absurd ((hcond0_0 tB).mp h) (by decide)

theorem hB1 : ¬cond0_1 (grid0.coords tB) := fun h => absurd ((hcond0_1 tB).mp h) (by decide)

variable (c : Dev nD) (i : grid0.Coords) (arg1 : Memref sig .tc .vmem S128x2048 .fp8e4m3) (harg1 : arg1.IsWhole) (arg2 : Memref sig .tc .vmem S1x1x128 .f32) (harg2 : arg2.IsWhole) (arg3 : Memref sig .tc .vmem S128x2048 .bf16) (harg3 : arg3.IsWhole) (arg4 : Memref sig .tc .vmem S128x2048 .fp8e5m2) (harg4 : arg4.IsWhole) (arg5 : Memref sig .tc .vmem S1x1x128 .f32) (harg5 : arg5.IsWhole) (arg6 : Memref sig .tc .vmem S2048x5632 .bf16) (harg6 : arg6.IsWhole) (arg7 : Memref sig .tc .vmem S2048x2816 .bf16) (harg7 : arg7.IsWhole) (arg8 : Memref sig .tc .vmem S128x2816 .f32) (harg8 : arg8.IsWhole) (arg9 : Memref sig .tc .vmem S128x2816 .bf16) (harg9 : arg9.IsWhole) (arg10 : Memref sig .tc .vmem S128x2048 .f32) (harg10 : arg10.IsWhole) (arg11 : Memref sig .tc .vmem S2048x128 .bf16) (harg11 : arg11.IsWhole) (arg12 : Memref sig .tc .vmem S2816x128 .bf16) (harg12 : arg12.IsWhole) (arg13 : Memref sig .tc .vmem S2816x128 .bf16) (harg13 : arg13.IsWhole) (arg14 : Memref sig .tc .smem S1x1 .f32) (harg14 : arg14.IsWhole) (arg15 : Memref sig .tc .vmem S128x2816 .f32) (harg15 : arg15.IsWhole) (arg16 : Memref sig .tc .vmem S128x2816 .f32) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S8x128 .f32) (harg19 : arg19.IsWhole)
  (x0 : Vec Ideal S128x2048 .fp8e4m3) (x1 : Vec Ideal S1x1x128 .f32) (x2 : Vec Ideal S128x2048 .bf16) (x3 : Vec Ideal S128x2048 .fp8e5m2) (x4 : Vec Ideal S1x1x128 .f32) (x5 : Vec Ideal S2048x5632 .bf16) (x6 : Vec Ideal S2048x2816 .bf16) (xs4 : Vec Ideal S8x128 .f32)

section A

/-- The rounded activation's stores are the middle case's. -/
theorem H8_A : kernelRun0_A.sl.H8_11 (F := Ideal) c arg1 harg1 arg2 harg2 arg6 harg6 arg17 x0 x1 x5 = kernelRun0_B.sl.H8_11 (F := Ideal) c arg1 harg1 arg2 harg2 arg6 harg6 arg17 x0 x1 x5 := by
  unfold kernelRun0_A.sl.H8_11 kernelRun0_B.sl.H8_11
  simp only [kernelRun0_A.sl.r_13, kernelRun0_A.sl.r, kernelRun0_A.sl.v20, kernelRun0_A.sl.HS2_1, kernelRun0_A.sl.r_9, kernelRun0_A.sl.r_10, kernelRun0_A.sl.r_11, kernelRun0_A.sl.r_8, kernelRun0_A.sl.r_4, kernelRun0_A.sl.r_5, kernelRun0_A.sl.r_6, kernelRun0_A.sl.r_3, kernelRun0_B.sl.r_13, kernelRun0_B.sl.r, kernelRun0_B.sl.v20, kernelRun0_B.sl.HS2_1, kernelRun0_B.sl.r_9, kernelRun0_B.sl.r_10, kernelRun0_B.sl.r_11, kernelRun0_B.sl.r_8, kernelRun0_B.sl.r_4, kernelRun0_B.sl.r_5, kernelRun0_B.sl.r_6, kernelRun0_B.sl.r_3]

/-- The gate projection's stores are the middle case's. -/
theorem HS0_A : kernelRun0_A.sl.HS0_11 (F := Ideal) c arg1 harg1 arg2 harg2 arg6 harg6 arg17 x0 x1 x5 = kernelRun0_B.sl.HS0_11 (F := Ideal) c arg1 harg1 arg2 harg2 arg6 harg6 arg17 x0 x1 x5 := by
  unfold kernelRun0_A.sl.HS0_11 kernelRun0_B.sl.HS0_11
  simp only [kernelRun0_A.sl.r, kernelRun0_A.sl.v20, kernelRun0_A.sl.HS2_1, kernelRun0_A.sl.r_9, kernelRun0_A.sl.r_4, kernelRun0_B.sl.r, kernelRun0_B.sl.v20, kernelRun0_B.sl.HS2_1, kernelRun0_B.sl.r_9, kernelRun0_B.sl.r_4]

/-- The up projection's stores are the middle case's. -/
theorem HS1_A : kernelRun0_A.sl.HS1_11 (F := Ideal) c arg1 harg1 arg2 harg2 arg6 harg6 arg17 x0 x1 x5 = kernelRun0_B.sl.HS1_11 (F := Ideal) c arg1 harg1 arg2 harg2 arg6 harg6 arg17 x0 x1 x5 := by
  unfold kernelRun0_A.sl.HS1_11 kernelRun0_B.sl.HS1_11
  simp only [kernelRun0_A.sl.r_12, kernelRun0_A.sl.r, kernelRun0_A.sl.v20, kernelRun0_A.sl.HS2_1, kernelRun0_A.sl.r_10, kernelRun0_A.sl.r_7, kernelRun0_A.sl.r_5, kernelRun0_A.sl.r_2, kernelRun0_B.sl.r_12, kernelRun0_B.sl.r, kernelRun0_B.sl.v20, kernelRun0_B.sl.HS2_1, kernelRun0_B.sl.r_10, kernelRun0_B.sl.r_7, kernelRun0_B.sl.r_5, kernelRun0_B.sl.r_2]

/-- The output gradient's stores are the middle case's. -/
theorem HS3_A : kernelRun0_A.sl.HS3_8 (F := Ideal) c arg1 harg1 arg2 harg2 arg3 harg3 arg4 harg4 arg5 harg5 arg6 harg6 arg7 harg7 arg9 arg17 x0 x1 x2 x3 x4 x5 x6 = kernelRun0_B.sl.HS3_8 (F := Ideal) c arg1 harg1 arg2 harg2 arg3 harg3 arg4 harg4 arg5 harg5 arg6 harg6 arg7 harg7 arg9 arg17 x0 x1 x2 x3 x4 x5 x6 := by
  unfold kernelRun0_A.sl.HS3_8 kernelRun0_B.sl.HS3_8
  simp only [kernelRun0_A.sl.r_49, kernelRun0_A.sl.r_1, kernelRun0_A.sl.r_48, kernelRun0_A.sl.v230, kernelRun0_A.sl.r_44, kernelRun0_A.sl.r_43, kernelRun0_A.sl.r_38, kernelRun0_A.sl.r_37, kernelRun0_A.sl.r_33, kernelRun0_A.sl.r_28, kernelRun0_A.sl.r_24, kernelRun0_A.sl.r_23, kernelRun0_A.sl.r_18, kernelRun0_A.sl.r_14, kernelRun0_B.sl.r_49, kernelRun0_B.sl.r_1, kernelRun0_B.sl.r_48, kernelRun0_B.sl.v230, kernelRun0_B.sl.r_44, kernelRun0_B.sl.r_43, kernelRun0_B.sl.r_38, kernelRun0_B.sl.r_37, kernelRun0_B.sl.r_33, kernelRun0_B.sl.r_28, kernelRun0_B.sl.r_24, kernelRun0_B.sl.r_23, kernelRun0_B.sl.r_18, kernelRun0_B.sl.r_14, H8_A]

variable (hc0 : cond0_0 i) (hc1 : ¬cond0_1 i)

/-- The activation's block, in the first case. -/
theorem out7_A (y : S128x2816.Idx) : out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 y = (krow x0 x1 x2 x3 x4 x5 x6 (y 0)).a (y 1) := by
  have h : out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6
      = out0_B_7 (F := Ideal) c (grid0.coords tB) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hB0 hB1 x0 x1 x2 x3 x4 x5 x6 (k0_pay6 (F := Ideal)) := by
    unfold out0_A_7 out0_B_7 kernelRun0_A kernelRun0_B
    simp only [kernelRun0_A.sl.r_13, kernelRun0_A.sl.r, kernelRun0_A.sl.v20, kernelRun0_A.sl.HS2_1, kernelRun0_A.sl.r_9, kernelRun0_A.sl.r_10, kernelRun0_A.sl.r_11, kernelRun0_A.sl.r_8, kernelRun0_A.sl.r_4, kernelRun0_A.sl.r_5, kernelRun0_A.sl.r_6, kernelRun0_A.sl.r_3, kernelRun0_B.sl.r_13, kernelRun0_B.sl.r, kernelRun0_B.sl.v20, kernelRun0_B.sl.HS2_1, kernelRun0_B.sl.r_9, kernelRun0_B.sl.r_10, kernelRun0_B.sl.r_11, kernelRun0_B.sl.r_8, kernelRun0_B.sl.r_4, kernelRun0_B.sl.r_5, kernelRun0_B.sl.r_6, kernelRun0_B.sl.r_3]
  rw [h, out7_B]

/-- The rounded activation's block, in the first case. -/
theorem out8_A (y : S128x2816.Idx) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 y = (krow x0 x1 x2 x3 x4 x5 x6 (y 0)).a (y 1) := by
  have h : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6
      = out0_B_8 (F := Ideal) c (grid0.coords tB) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hB0 hB1 x0 x1 x2 x3 x4 x5 x6 (k0_pay6 (F := Ideal)) := by
    unfold out0_A_8 out0_B_8 kernelRun0_A kernelRun0_B
    simp only [H8_A]
  rw [h, out8_B]

/-- The output's block, in the first case. -/
theorem out9_A (y : S128x2048.Idx) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 y = (krow x0 x1 x2 x3 x4 x5 x6 (y 0)).y (y 1) := by
  have h : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6
      = out0_B_9 (F := Ideal) c (grid0.coords tB) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hB0 hB1 x0 x1 x2 x3 x4 x5 x6 (k0_pay6 (F := Ideal)) := by
    unfold out0_A_9 out0_B_9 kernelRun0_A kernelRun0_B
    simp only [kernelRun0_A.sl.v230, kernelRun0_A.sl.r_43, kernelRun0_B.sl.v230, kernelRun0_B.sl.r_43, H8_A]
  rw [h, out9_B]

/-- The output gradient's block, in the first case. -/
theorem out10_A (y : S2048x128.Idx) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 y = (krow x0 x1 x2 x3 x4 x5 x6 (y 1)).dy (y 0) := by
  have h : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6
      = out0_B_10 (F := Ideal) c (grid0.coords tB) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hB0 hB1 x0 x1 x2 x3 x4 x5 x6 (k0_pay6 (F := Ideal)) := by
    unfold out0_A_10 out0_B_10 kernelRun0_A kernelRun0_B
    simp only [kernelRun0_A.sl.r_49, kernelRun0_A.sl.r_1, kernelRun0_A.sl.r_48, kernelRun0_A.sl.v230, kernelRun0_A.sl.r_44, kernelRun0_A.sl.r_43, kernelRun0_A.sl.r_38, kernelRun0_A.sl.r_37, kernelRun0_A.sl.r_33, kernelRun0_A.sl.r_28, kernelRun0_A.sl.r_24, kernelRun0_A.sl.r_23, kernelRun0_A.sl.r_18, kernelRun0_A.sl.r_14, kernelRun0_B.sl.r_49, kernelRun0_B.sl.r_1, kernelRun0_B.sl.r_48, kernelRun0_B.sl.v230, kernelRun0_B.sl.r_44, kernelRun0_B.sl.r_43, kernelRun0_B.sl.r_38, kernelRun0_B.sl.r_37, kernelRun0_B.sl.r_33, kernelRun0_B.sl.r_28, kernelRun0_B.sl.r_24, kernelRun0_B.sl.r_23, kernelRun0_B.sl.r_18, kernelRun0_B.sl.r_14, H8_A]
  rw [h, out10_B]

/-- The gate gradient's block, in the first case. -/
theorem out11_A (y : S2816x128.Idx) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 y = (krow x0 x1 x2 x3 x4 x5 x6 (y 1)).dg (y 0) := by
  have h : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6
      = out0_B_11 (F := Ideal) c (grid0.coords tB) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hB0 hB1 x0 x1 x2 x3 x4 x5 x6 (k0_pay6 (F := Ideal)) := by
    unfold out0_A_11 out0_B_11 kernelRun0_A kernelRun0_B
    simp only [kernelRun0_A.sl.r_67, kernelRun0_A.sl.r, kernelRun0_A.sl.v931, kernelRun0_A.sl.v1174, kernelRun0_A.sl.v1175, kernelRun0_A.sl.r_65, kernelRun0_A.sl.v1150, kernelRun0_A.sl.v1151, kernelRun0_A.sl.v1126, kernelRun0_A.sl.v1127, kernelRun0_A.sl.v1102, kernelRun0_A.sl.v1103, kernelRun0_A.sl.r_62, kernelRun0_A.sl.v1078, kernelRun0_A.sl.v1079, kernelRun0_A.sl.r_63, kernelRun0_A.sl.v1054, kernelRun0_A.sl.v1055, kernelRun0_A.sl.v1030, kernelRun0_A.sl.v1031, kernelRun0_A.sl.v1006, kernelRun0_A.sl.r_59, kernelRun0_A.sl.r_60, kernelRun0_A.sl.v1007, kernelRun0_A.sl.cst_332, kernelRun0_A.sl.v982, kernelRun0_A.sl.v983, kernelRun0_A.sl.v958, kernelRun0_A.sl.v959, kernelRun0_A.sl.r_55, kernelRun0_A.sl.v934, kernelRun0_A.sl.v935, kernelRun0_A.sl.r_56, kernelRun0_B.sl.r_67, kernelRun0_B.sl.r, kernelRun0_B.sl.v931, kernelRun0_B.sl.v1174, kernelRun0_B.sl.v1175, kernelRun0_B.sl.r_65, kernelRun0_B.sl.v1150, kernelRun0_B.sl.v1151, kernelRun0_B.sl.v1126, kernelRun0_B.sl.v1127, kernelRun0_B.sl.v1102, kernelRun0_B.sl.v1103, kernelRun0_B.sl.r_62, kernelRun0_B.sl.v1078, kernelRun0_B.sl.v1079, kernelRun0_B.sl.r_63, kernelRun0_B.sl.v1054, kernelRun0_B.sl.v1055, kernelRun0_B.sl.v1030, kernelRun0_B.sl.v1031, kernelRun0_B.sl.v1006, kernelRun0_B.sl.r_59, kernelRun0_B.sl.r_60, kernelRun0_B.sl.v1007, kernelRun0_B.sl.cst_332, kernelRun0_B.sl.v982, kernelRun0_B.sl.v983, kernelRun0_B.sl.v958, kernelRun0_B.sl.v959, kernelRun0_B.sl.r_55, kernelRun0_B.sl.v934, kernelRun0_B.sl.v935, kernelRun0_B.sl.r_56, HS0_A, HS1_A, HS3_A]
  rw [h, out11_B]

/-- The up gradient's block, in the first case. -/
theorem out12_A (y : S2816x128.Idx) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 y = (krow x0 x1 x2 x3 x4 x5 x6 (y 1)).du (y 0) := by
  have h : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6
      = out0_B_12 (F := Ideal) c (grid0.coords tB) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hB0 hB1 x0 x1 x2 x3 x4 x5 x6 (k0_pay6 (F := Ideal)) := by
    unfold out0_A_12 out0_B_12 kernelRun0_A kernelRun0_B
    simp only [kernelRun0_A.sl.r, kernelRun0_A.sl.r_66, kernelRun0_A.sl.v931, kernelRun0_A.sl.v1174, kernelRun0_A.sl.r_65, kernelRun0_A.sl.v1150, kernelRun0_A.sl.v1126, kernelRun0_A.sl.r_64, kernelRun0_A.sl.v1102, kernelRun0_A.sl.r_62, kernelRun0_A.sl.v1078, kernelRun0_A.sl.r_63, kernelRun0_A.sl.v1054, kernelRun0_A.sl.r_61, kernelRun0_A.sl.v1030, kernelRun0_A.sl.r_58, kernelRun0_A.sl.v1006, kernelRun0_A.sl.r_59, kernelRun0_A.sl.v982, kernelRun0_A.sl.r_57, kernelRun0_A.sl.v958, kernelRun0_A.sl.r_53, kernelRun0_A.sl.v934, kernelRun0_A.sl.r_54, kernelRun0_B.sl.r, kernelRun0_B.sl.r_66, kernelRun0_B.sl.v931, kernelRun0_B.sl.v1174, kernelRun0_B.sl.r_65, kernelRun0_B.sl.v1150, kernelRun0_B.sl.v1126, kernelRun0_B.sl.r_64, kernelRun0_B.sl.v1102, kernelRun0_B.sl.r_62, kernelRun0_B.sl.v1078, kernelRun0_B.sl.r_63, kernelRun0_B.sl.v1054, kernelRun0_B.sl.r_61, kernelRun0_B.sl.v1030, kernelRun0_B.sl.r_58, kernelRun0_B.sl.v1006, kernelRun0_B.sl.r_59, kernelRun0_B.sl.v982, kernelRun0_B.sl.r_57, kernelRun0_B.sl.v958, kernelRun0_B.sl.r_53, kernelRun0_B.sl.v934, kernelRun0_B.sl.r_54, HS0_A, HS3_A]
  rw [h, out12_B]

end A

section C

/-- The rounded activation's stores are the middle case's. -/
theorem H8_C : kernelRun0_C.sl.H8_11 (F := Ideal) c arg1 harg1 arg2 harg2 arg6 harg6 arg17 x0 x1 x5 = kernelRun0_B.sl.H8_11 (F := Ideal) c arg1 harg1 arg2 harg2 arg6 harg6 arg17 x0 x1 x5 := by
  unfold kernelRun0_C.sl.H8_11 kernelRun0_B.sl.H8_11
  simp only [kernelRun0_C.sl.r_13, kernelRun0_C.sl.r, kernelRun0_C.sl.v20, kernelRun0_C.sl.HS2_1, kernelRun0_C.sl.r_9, kernelRun0_C.sl.r_10, kernelRun0_C.sl.r_11, kernelRun0_C.sl.r_8, kernelRun0_C.sl.r_4, kernelRun0_C.sl.r_5, kernelRun0_C.sl.r_6, kernelRun0_C.sl.r_3, kernelRun0_B.sl.r_13, kernelRun0_B.sl.r, kernelRun0_B.sl.v20, kernelRun0_B.sl.HS2_1, kernelRun0_B.sl.r_9, kernelRun0_B.sl.r_10, kernelRun0_B.sl.r_11, kernelRun0_B.sl.r_8, kernelRun0_B.sl.r_4, kernelRun0_B.sl.r_5, kernelRun0_B.sl.r_6, kernelRun0_B.sl.r_3]

/-- The gate projection's stores are the middle case's. -/
theorem HS0_C : kernelRun0_C.sl.HS0_11 (F := Ideal) c arg1 harg1 arg2 harg2 arg6 harg6 arg17 x0 x1 x5 = kernelRun0_B.sl.HS0_11 (F := Ideal) c arg1 harg1 arg2 harg2 arg6 harg6 arg17 x0 x1 x5 := by
  unfold kernelRun0_C.sl.HS0_11 kernelRun0_B.sl.HS0_11
  simp only [kernelRun0_C.sl.r, kernelRun0_C.sl.v20, kernelRun0_C.sl.HS2_1, kernelRun0_C.sl.r_9, kernelRun0_C.sl.r_4, kernelRun0_B.sl.r, kernelRun0_B.sl.v20, kernelRun0_B.sl.HS2_1, kernelRun0_B.sl.r_9, kernelRun0_B.sl.r_4]

/-- The up projection's stores are the middle case's. -/
theorem HS1_C : kernelRun0_C.sl.HS1_11 (F := Ideal) c arg1 harg1 arg2 harg2 arg6 harg6 arg17 x0 x1 x5 = kernelRun0_B.sl.HS1_11 (F := Ideal) c arg1 harg1 arg2 harg2 arg6 harg6 arg17 x0 x1 x5 := by
  unfold kernelRun0_C.sl.HS1_11 kernelRun0_B.sl.HS1_11
  simp only [kernelRun0_C.sl.r_12, kernelRun0_C.sl.r, kernelRun0_C.sl.v20, kernelRun0_C.sl.HS2_1, kernelRun0_C.sl.r_10, kernelRun0_C.sl.r_7, kernelRun0_C.sl.r_5, kernelRun0_C.sl.r_2, kernelRun0_B.sl.r_12, kernelRun0_B.sl.r, kernelRun0_B.sl.v20, kernelRun0_B.sl.HS2_1, kernelRun0_B.sl.r_10, kernelRun0_B.sl.r_7, kernelRun0_B.sl.r_5, kernelRun0_B.sl.r_2]

/-- The output gradient's stores are the middle case's. -/
theorem HS3_C : kernelRun0_C.sl.HS3_8 (F := Ideal) c arg1 harg1 arg2 harg2 arg3 harg3 arg4 harg4 arg5 harg5 arg6 harg6 arg7 harg7 arg9 arg17 x0 x1 x2 x3 x4 x5 x6 = kernelRun0_B.sl.HS3_8 (F := Ideal) c arg1 harg1 arg2 harg2 arg3 harg3 arg4 harg4 arg5 harg5 arg6 harg6 arg7 harg7 arg9 arg17 x0 x1 x2 x3 x4 x5 x6 := by
  unfold kernelRun0_C.sl.HS3_8 kernelRun0_B.sl.HS3_8
  simp only [kernelRun0_C.sl.r_49, kernelRun0_C.sl.r_1, kernelRun0_C.sl.r_48, kernelRun0_C.sl.v230, kernelRun0_C.sl.r_44, kernelRun0_C.sl.r_43, kernelRun0_C.sl.r_38, kernelRun0_C.sl.r_37, kernelRun0_C.sl.r_33, kernelRun0_C.sl.r_28, kernelRun0_C.sl.r_24, kernelRun0_C.sl.r_23, kernelRun0_C.sl.r_18, kernelRun0_C.sl.r_14, kernelRun0_B.sl.r_49, kernelRun0_B.sl.r_1, kernelRun0_B.sl.r_48, kernelRun0_B.sl.v230, kernelRun0_B.sl.r_44, kernelRun0_B.sl.r_43, kernelRun0_B.sl.r_38, kernelRun0_B.sl.r_37, kernelRun0_B.sl.r_33, kernelRun0_B.sl.r_28, kernelRun0_B.sl.r_24, kernelRun0_B.sl.r_23, kernelRun0_B.sl.r_18, kernelRun0_B.sl.r_14, H8_C]

variable (hc0 : ¬cond0_0 i) (hc1 : cond0_1 i)

/-- The activation's block, in the last case. -/
theorem out7_C (y : S128x2816.Idx) : out0_C_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4 y = (krow x0 x1 x2 x3 x4 x5 x6 (y 0)).a (y 1) := by
  have h : out0_C_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4
      = out0_B_7 (F := Ideal) c (grid0.coords tB) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hB0 hB1 x0 x1 x2 x3 x4 x5 x6 (k0_pay6 (F := Ideal)) := by
    unfold out0_C_7 out0_B_7 kernelRun0_C kernelRun0_B
    simp only [kernelRun0_C.sl.r_13, kernelRun0_C.sl.r, kernelRun0_C.sl.v20, kernelRun0_C.sl.HS2_1, kernelRun0_C.sl.r_9, kernelRun0_C.sl.r_10, kernelRun0_C.sl.r_11, kernelRun0_C.sl.r_8, kernelRun0_C.sl.r_4, kernelRun0_C.sl.r_5, kernelRun0_C.sl.r_6, kernelRun0_C.sl.r_3, kernelRun0_B.sl.r_13, kernelRun0_B.sl.r, kernelRun0_B.sl.v20, kernelRun0_B.sl.HS2_1, kernelRun0_B.sl.r_9, kernelRun0_B.sl.r_10, kernelRun0_B.sl.r_11, kernelRun0_B.sl.r_8, kernelRun0_B.sl.r_4, kernelRun0_B.sl.r_5, kernelRun0_B.sl.r_6, kernelRun0_B.sl.r_3]
  rw [h, out7_B]

/-- The rounded activation's block, in the last case. -/
theorem out8_C (y : S128x2816.Idx) : out0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4 y = (krow x0 x1 x2 x3 x4 x5 x6 (y 0)).a (y 1) := by
  have h : out0_C_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4
      = out0_B_8 (F := Ideal) c (grid0.coords tB) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hB0 hB1 x0 x1 x2 x3 x4 x5 x6 (k0_pay6 (F := Ideal)) := by
    unfold out0_C_8 out0_B_8 kernelRun0_C kernelRun0_B
    simp only [H8_C]
  rw [h, out8_B]

/-- The output's block, in the last case. -/
theorem out9_C (y : S128x2048.Idx) : out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4 y = (krow x0 x1 x2 x3 x4 x5 x6 (y 0)).y (y 1) := by
  have h : out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4
      = out0_B_9 (F := Ideal) c (grid0.coords tB) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hB0 hB1 x0 x1 x2 x3 x4 x5 x6 (k0_pay6 (F := Ideal)) := by
    unfold out0_C_9 out0_B_9 kernelRun0_C kernelRun0_B
    simp only [kernelRun0_C.sl.v230, kernelRun0_C.sl.r_43, kernelRun0_B.sl.v230, kernelRun0_B.sl.r_43, H8_C]
  rw [h, out9_B]

/-- The output gradient's block, in the last case. -/
theorem out10_C (y : S2048x128.Idx) : out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4 y = (krow x0 x1 x2 x3 x4 x5 x6 (y 1)).dy (y 0) := by
  have h : out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4
      = out0_B_10 (F := Ideal) c (grid0.coords tB) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hB0 hB1 x0 x1 x2 x3 x4 x5 x6 (k0_pay6 (F := Ideal)) := by
    unfold out0_C_10 out0_B_10 kernelRun0_C kernelRun0_B
    simp only [kernelRun0_C.sl.r_49, kernelRun0_C.sl.r_1, kernelRun0_C.sl.r_48, kernelRun0_C.sl.v230, kernelRun0_C.sl.r_44, kernelRun0_C.sl.r_43, kernelRun0_C.sl.r_38, kernelRun0_C.sl.r_37, kernelRun0_C.sl.r_33, kernelRun0_C.sl.r_28, kernelRun0_C.sl.r_24, kernelRun0_C.sl.r_23, kernelRun0_C.sl.r_18, kernelRun0_C.sl.r_14, kernelRun0_B.sl.r_49, kernelRun0_B.sl.r_1, kernelRun0_B.sl.r_48, kernelRun0_B.sl.v230, kernelRun0_B.sl.r_44, kernelRun0_B.sl.r_43, kernelRun0_B.sl.r_38, kernelRun0_B.sl.r_37, kernelRun0_B.sl.r_33, kernelRun0_B.sl.r_28, kernelRun0_B.sl.r_24, kernelRun0_B.sl.r_23, kernelRun0_B.sl.r_18, kernelRun0_B.sl.r_14, H8_C]
  rw [h, out10_B]

/-- The gate gradient's block, in the last case. -/
theorem out11_C (y : S2816x128.Idx) : out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4 y = (krow x0 x1 x2 x3 x4 x5 x6 (y 1)).dg (y 0) := by
  have h : out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4
      = out0_B_11 (F := Ideal) c (grid0.coords tB) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hB0 hB1 x0 x1 x2 x3 x4 x5 x6 (k0_pay6 (F := Ideal)) := by
    unfold out0_C_11 out0_B_11 kernelRun0_C kernelRun0_B
    simp only [kernelRun0_C.sl.r_67, kernelRun0_C.sl.r, kernelRun0_C.sl.v931, kernelRun0_C.sl.v1174, kernelRun0_C.sl.v1175, kernelRun0_C.sl.r_65, kernelRun0_C.sl.v1150, kernelRun0_C.sl.v1151, kernelRun0_C.sl.v1126, kernelRun0_C.sl.v1127, kernelRun0_C.sl.v1102, kernelRun0_C.sl.v1103, kernelRun0_C.sl.r_62, kernelRun0_C.sl.v1078, kernelRun0_C.sl.v1079, kernelRun0_C.sl.r_63, kernelRun0_C.sl.v1054, kernelRun0_C.sl.v1055, kernelRun0_C.sl.v1030, kernelRun0_C.sl.v1031, kernelRun0_C.sl.v1006, kernelRun0_C.sl.r_59, kernelRun0_C.sl.r_60, kernelRun0_C.sl.v1007, kernelRun0_C.sl.cst_332, kernelRun0_C.sl.v982, kernelRun0_C.sl.v983, kernelRun0_C.sl.v958, kernelRun0_C.sl.v959, kernelRun0_C.sl.r_55, kernelRun0_C.sl.v934, kernelRun0_C.sl.v935, kernelRun0_C.sl.r_56, kernelRun0_B.sl.r_67, kernelRun0_B.sl.r, kernelRun0_B.sl.v931, kernelRun0_B.sl.v1174, kernelRun0_B.sl.v1175, kernelRun0_B.sl.r_65, kernelRun0_B.sl.v1150, kernelRun0_B.sl.v1151, kernelRun0_B.sl.v1126, kernelRun0_B.sl.v1127, kernelRun0_B.sl.v1102, kernelRun0_B.sl.v1103, kernelRun0_B.sl.r_62, kernelRun0_B.sl.v1078, kernelRun0_B.sl.v1079, kernelRun0_B.sl.r_63, kernelRun0_B.sl.v1054, kernelRun0_B.sl.v1055, kernelRun0_B.sl.v1030, kernelRun0_B.sl.v1031, kernelRun0_B.sl.v1006, kernelRun0_B.sl.r_59, kernelRun0_B.sl.r_60, kernelRun0_B.sl.v1007, kernelRun0_B.sl.cst_332, kernelRun0_B.sl.v982, kernelRun0_B.sl.v983, kernelRun0_B.sl.v958, kernelRun0_B.sl.v959, kernelRun0_B.sl.r_55, kernelRun0_B.sl.v934, kernelRun0_B.sl.v935, kernelRun0_B.sl.r_56, HS0_C, HS1_C, HS3_C]
  rw [h, out11_B]

/-- The up gradient's block, in the last case. -/
theorem out12_C (y : S2816x128.Idx) : out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4 y = (krow x0 x1 x2 x3 x4 x5 x6 (y 1)).du (y 0) := by
  have h : out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4
      = out0_B_12 (F := Ideal) c (grid0.coords tB) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hB0 hB1 x0 x1 x2 x3 x4 x5 x6 (k0_pay6 (F := Ideal)) := by
    unfold out0_C_12 out0_B_12 kernelRun0_C kernelRun0_B
    simp only [kernelRun0_C.sl.r, kernelRun0_C.sl.r_66, kernelRun0_C.sl.v931, kernelRun0_C.sl.v1174, kernelRun0_C.sl.r_65, kernelRun0_C.sl.v1150, kernelRun0_C.sl.v1126, kernelRun0_C.sl.r_64, kernelRun0_C.sl.v1102, kernelRun0_C.sl.r_62, kernelRun0_C.sl.v1078, kernelRun0_C.sl.r_63, kernelRun0_C.sl.v1054, kernelRun0_C.sl.r_61, kernelRun0_C.sl.v1030, kernelRun0_C.sl.r_58, kernelRun0_C.sl.v1006, kernelRun0_C.sl.r_59, kernelRun0_C.sl.v982, kernelRun0_C.sl.r_57, kernelRun0_C.sl.v958, kernelRun0_C.sl.r_53, kernelRun0_C.sl.v934, kernelRun0_C.sl.r_54, kernelRun0_B.sl.r, kernelRun0_B.sl.r_66, kernelRun0_B.sl.v931, kernelRun0_B.sl.v1174, kernelRun0_B.sl.r_65, kernelRun0_B.sl.v1150, kernelRun0_B.sl.v1126, kernelRun0_B.sl.r_64, kernelRun0_B.sl.v1102, kernelRun0_B.sl.r_62, kernelRun0_B.sl.v1078, kernelRun0_B.sl.r_63, kernelRun0_B.sl.v1054, kernelRun0_B.sl.r_61, kernelRun0_B.sl.v1030, kernelRun0_B.sl.r_58, kernelRun0_B.sl.v1006, kernelRun0_B.sl.r_59, kernelRun0_B.sl.v982, kernelRun0_B.sl.r_57, kernelRun0_B.sl.v958, kernelRun0_B.sl.r_53, kernelRun0_B.sl.v934, kernelRun0_B.sl.r_54, HS0_C, HS3_C]
  rw [h, out12_B]

end C

end Cert.KernelIdeal.Val

end
-- ==== Proof.Loss.lean ====
/- The kernel's accumulator and loss in the first and last cases. Hand-written. Hand-written. -/
module

public import proofs.«01_k».proof.Proof.Cases
public import proofs.«01_k».proof.Proof.Gen.KernelIdeal.Frame

@[expose] public section

set_option maxRecDepth 16384

noncomputable section

open Idealize.ShloMosaic Idealize.ShloMosaic.TcCoe Idealize.SL.Sem

namespace Cert.KernelIdeal.Val

open Cert.KernelIdeal Cert.KernelIdeal.Gen

variable (c : Dev nD) (i : grid0.Coords) (arg1 : Memref sig .tc .vmem S128x2048 .fp8e4m3) (harg1 : arg1.IsWhole) (arg2 : Memref sig .tc .vmem S1x1x128 .f32) (harg2 : arg2.IsWhole) (arg3 : Memref sig .tc .vmem S128x2048 .bf16) (harg3 : arg3.IsWhole) (arg4 : Memref sig .tc .vmem S128x2048 .fp8e5m2) (harg4 : arg4.IsWhole) (arg5 : Memref sig .tc .vmem S1x1x128 .f32) (harg5 : arg5.IsWhole) (arg6 : Memref sig .tc .vmem S2048x5632 .bf16) (harg6 : arg6.IsWhole) (arg7 : Memref sig .tc .vmem S2048x2816 .bf16) (harg7 : arg7.IsWhole) (arg8 : Memref sig .tc .vmem S128x2816 .f32) (harg8 : arg8.IsWhole) (arg9 : Memref sig .tc .vmem S128x2816 .bf16) (harg9 : arg9.IsWhole) (arg10 : Memref sig .tc .vmem S128x2048 .f32) (harg10 : arg10.IsWhole) (arg11 : Memref sig .tc .vmem S2048x128 .bf16) (harg11 : arg11.IsWhole) (arg12 : Memref sig .tc .vmem S2816x128 .bf16) (harg12 : arg12.IsWhole) (arg13 : Memref sig .tc .vmem S2816x128 .bf16) (harg13 : arg13.IsWhole) (arg14 : Memref sig .tc .smem S1x1 .f32) (harg14 : arg14.IsWhole) (arg15 : Memref sig .tc .vmem S128x2816 .f32) (harg15 : arg15.IsWhole) (arg16 : Memref sig .tc .vmem S128x2816 .f32) (harg16 : arg16.IsWhole) (arg17 : Memref sig .tc .vmem S128x2048 .bf16) (harg17 : arg17.IsWhole) (arg18 : Memref sig .tc .vmem S128x2048 .bf16) (harg18 : arg18.IsWhole) (arg19 : Memref sig .tc .vmem S8x128 .f32) (harg19 : arg19.IsWhole)
  (x0 : Vec Ideal S128x2048 .fp8e4m3) (x1 : Vec Ideal S1x1x128 .f32) (x2 : Vec Ideal S128x2048 .bf16) (x3 : Vec Ideal S128x2048 .fp8e5m2) (x4 : Vec Ideal S1x1x128 .f32) (x5 : Vec Ideal S2048x5632 .bf16) (x6 : Vec Ideal S2048x2816 .bf16) (xs4 : Vec Ideal S8x128 .f32)

/-- The first case's partial sum, read at a place of the tile. -/
theorem part_A (p : FVec Ideal S8x128 .f32) (r : Fin 8) (l : Fin 128) :
    k0_pay162 (F := Ideal) (kernelRun0_A.sl.r_50 c arg1 harg1 arg2 harg2 arg3 harg3 arg4 harg4 arg5 harg5 arg6 harg6 arg7 harg7 arg9 arg17 x0 x1 x2 x3 x4 x5 x6) (kernelRun0_A.sl.r_51 c arg1 harg1 arg2 harg2 arg3 harg3 arg4 harg4 arg5 harg5 arg6 harg6 arg7 harg7 arg9 arg17 x0 x1 x2 x3 x4 x5 x6) (kernelRun0_A.sl.r_52 c arg1 harg1 arg2 harg2 arg3 harg3 arg4 harg4 arg5 harg5 arg6 harg6 arg7 harg7 arg9 arg17 x0 x1 x2 x3 x4 x5 x6) p (ix2 r l)
      = p (ix2 r l) + lossT x0 x1 x2 x3 x4 x5 x6 r l := by
  refine Eq.trans ?_ (part_ix c arg1 harg1 arg2 harg2 arg3 harg3 arg4 harg4 arg5 harg5 arg6 harg6 arg7 harg7 arg9 arg17 x0 x1 x2 x3 x4 x5 x6 p r l)
  simp only [kernelRun0_A.sl.r_50, kernelRun0_A.sl.r_1, kernelRun0_A.sl.r_48, kernelRun0_A.sl.v230, kernelRun0_A.sl.r_51, kernelRun0_A.sl.r_47, kernelRun0_A.sl.r_45, kernelRun0_A.sl.r_43, kernelRun0_A.sl.r_46, kernelRun0_A.sl.r_42, kernelRun0_A.sl.r_39, kernelRun0_A.sl.r_40, kernelRun0_A.sl.r_36, kernelRun0_A.sl.r_34, kernelRun0_A.sl.r_35, kernelRun0_A.sl.r_29, kernelRun0_A.sl.r_31, kernelRun0_A.sl.r_27, kernelRun0_A.sl.r_25, kernelRun0_A.sl.r_23, kernelRun0_A.sl.r_26, kernelRun0_A.sl.r_22, kernelRun0_A.sl.r_19, kernelRun0_A.sl.r_20, kernelRun0_A.sl.r_17, kernelRun0_A.sl.r_15, kernelRun0_A.sl.r_16, kernelRun0_A.sl.r_21, kernelRun0_A.sl.r_30, kernelRun0_A.sl.r_32, kernelRun0_A.sl.r_41, kernelRun0_A.sl.r_52, kernelRun0_B.sl.r_50, kernelRun0_B.sl.r_1, kernelRun0_B.sl.r_48, kernelRun0_B.sl.v230, kernelRun0_B.sl.r_51, kernelRun0_B.sl.r_47, kernelRun0_B.sl.r_45, kernelRun0_B.sl.r_43, kernelRun0_B.sl.r_46, kernelRun0_B.sl.r_42, kernelRun0_B.sl.r_39, kernelRun0_B.sl.r_40, kernelRun0_B.sl.r_36, kernelRun0_B.sl.r_34, kernelRun0_B.sl.r_35, kernelRun0_B.sl.r_29, kernelRun0_B.sl.r_31, kernelRun0_B.sl.r_27, kernelRun0_B.sl.r_25, kernelRun0_B.sl.r_23, kernelRun0_B.sl.r_26, kernelRun0_B.sl.r_22, kernelRun0_B.sl.r_19, kernelRun0_B.sl.r_20, kernelRun0_B.sl.r_17, kernelRun0_B.sl.r_15, kernelRun0_B.sl.r_16, kernelRun0_B.sl.r_21, kernelRun0_B.sl.r_30, kernelRun0_B.sl.r_32, kernelRun0_B.sl.r_41, kernelRun0_B.sl.r_52, H8_A]

/-- The last case's partial sum, read at a place of the tile. -/
theorem part_C (p : FVec Ideal S8x128 .f32) (r : Fin 8) (l : Fin 128) :
    k0_pay162 (F := Ideal) (kernelRun0_C.sl.r_50 c arg1 harg1 arg2 harg2 arg3 harg3 arg4 harg4 arg5 harg5 arg6 harg6 arg7 harg7 arg9 arg17 x0 x1 x2 x3 x4 x5 x6) (kernelRun0_C.sl.r_51 c arg1 harg1 arg2 harg2 arg3 harg3 arg4 harg4 arg5 harg5 arg6 harg6 arg7 harg7 arg9 arg17 x0 x1 x2 x3 x4 x5 x6) (kernelRun0_C.sl.r_52 c arg1 harg1 arg2 harg2 arg3 harg3 arg4 harg4 arg5 harg5 arg6 harg6 arg7 harg7 arg9 arg17 x0 x1 x2 x3 x4 x5 x6) p (ix2 r l)
      = p (ix2 r l) + lossT x0 x1 x2 x3 x4 x5 x6 r l := by
  refine Eq.trans ?_ (part_ix c arg1 harg1 arg2 harg2 arg3 harg3 arg4 harg4 arg5 harg5 arg6 harg6 arg7 harg7 arg9 arg17 x0 x1 x2 x3 x4 x5 x6 p r l)
  simp only [kernelRun0_C.sl.r_50, kernelRun0_C.sl.r_1, kernelRun0_C.sl.r_48, kernelRun0_C.sl.v230, kernelRun0_C.sl.r_51, kernelRun0_C.sl.r_47, kernelRun0_C.sl.r_45, kernelRun0_C.sl.r_43, kernelRun0_C.sl.r_46, kernelRun0_C.sl.r_42, kernelRun0_C.sl.r_39, kernelRun0_C.sl.r_40, kernelRun0_C.sl.r_36, kernelRun0_C.sl.r_34, kernelRun0_C.sl.r_35, kernelRun0_C.sl.r_29, kernelRun0_C.sl.r_31, kernelRun0_C.sl.r_27, kernelRun0_C.sl.r_25, kernelRun0_C.sl.r_23, kernelRun0_C.sl.r_26, kernelRun0_C.sl.r_22, kernelRun0_C.sl.r_19, kernelRun0_C.sl.r_20, kernelRun0_C.sl.r_17, kernelRun0_C.sl.r_15, kernelRun0_C.sl.r_16, kernelRun0_C.sl.r_21, kernelRun0_C.sl.r_30, kernelRun0_C.sl.r_32, kernelRun0_C.sl.r_41, kernelRun0_C.sl.r_52, kernelRun0_B.sl.r_50, kernelRun0_B.sl.r_1, kernelRun0_B.sl.r_48, kernelRun0_B.sl.v230, kernelRun0_B.sl.r_51, kernelRun0_B.sl.r_47, kernelRun0_B.sl.r_45, kernelRun0_B.sl.r_43, kernelRun0_B.sl.r_46, kernelRun0_B.sl.r_42, kernelRun0_B.sl.r_39, kernelRun0_B.sl.r_40, kernelRun0_B.sl.r_36, kernelRun0_B.sl.r_34, kernelRun0_B.sl.r_35, kernelRun0_B.sl.r_29, kernelRun0_B.sl.r_31, kernelRun0_B.sl.r_27, kernelRun0_B.sl.r_25, kernelRun0_B.sl.r_23, kernelRun0_B.sl.r_26, kernelRun0_B.sl.r_22, kernelRun0_B.sl.r_19, kernelRun0_B.sl.r_20, kernelRun0_B.sl.r_17, kernelRun0_B.sl.r_15, kernelRun0_B.sl.r_16, kernelRun0_B.sl.r_21, kernelRun0_B.sl.r_30, kernelRun0_B.sl.r_32, kernelRun0_B.sl.r_41, kernelRun0_B.sl.r_52, H8_C]

section A

variable (hc0 : cond0_0 i) (hc1 : ¬cond0_1 i)

/-- The accumulator after the first case: reset, then the block's terms. -/
theorem sout_A (r : Fin 8) (l : Fin 128) : sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 (ix2 r l) = lossT x0 x1 x2 x3 x4 x5 x6 r l := by
  unfold sout0_A_4
  rw [View.read_writes_eq_canon _ _ _ (scover0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6)]
  unfold kernelRun0_A
  dsimp only
  rw [View.canon_cons_unit_zero (by funext a; fin_cases a <;> rfl)]
  unfold kernelRun0_A.sl.v926 kernelRun0_A.sl.HS4_1
  rw [View.readCov_unit_zero _ (by funext a; fin_cases a <;> rfl)]
  refine (part_A c arg1 harg1 arg2 harg2 arg3 harg3 arg4 harg4 arg5 harg5 arg6 harg6 arg7 harg7 arg9 arg17 x0 x1 x2 x3 x4 x5 x6 _ r l).trans ?_
  pointwise [k0_pay6]

end A

section C

variable (hc0 : ¬cond0_0 i) (hc1 : cond0_1 i)

/-- The accumulator after the last case. -/
theorem sout_C (r : Fin 8) (l : Fin 128) : sout0_C_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4 (ix2 r l) = xs4 (ix2 r l) + lossT x0 x1 x2 x3 x4 x5 x6 r l := by
  unfold sout0_C_4
  rw [View.read_writes_eq_canon _ _ _ (scover0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4)]
  unfold kernelRun0_C
  dsimp only
  unfold kernelRun0_C.sl.HS4_1
  rw [View.canon_unit_zero (by funext a; fin_cases a <;> rfl), View.readAt_eq_ld, harg19.read_unread, View.ld_unit_zero (by funext a; fin_cases a <;> rfl)]
  exact part_C c arg1 harg1 arg2 harg2 arg3 harg3 arg4 harg4 arg5 harg5 arg6 harg6 arg7 harg7 arg9 arg17 x0 x1 x2 x3 x4 x5 x6 xs4 r l

/-- The loss: the accumulator summed and divided by the number of tokens. -/
theorem out13_C (y : S1x1.Idx) : out0_C_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4 y
    = Ideal.div (∑ r : Fin 8, ∑ l : Fin 128, (xs4 (ix2 r l) + lossT x0 x1 x2 x3 x4 x5 x6 r l)) Spec.tokens := by
  unfold out0_C_13
  rw [View.read_writes_eq_canon _ _ _ (cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 xs4)]
  unfold kernelRun0_C
  dsimp only
  rw [View.canon_unit_zero (by funext a; fin_cases a <;> rfl)]
  unfold kernelRun0_C.sl.v1198 kernelRun0_C.sl.HS4_1
  rw [View.readCov_unit_zero _ (by funext a; fin_cases a <;> rfl), View.readAt_eq_ld, harg19.read_unread, View.ld_unit_zero (by funext a; fin_cases a <;> rfl)]
  pointwise [k0_pay2]
  simp only [part_C c arg1 harg1 arg2 harg2 arg3 harg3 arg4 harg4 arg5 harg5 arg6 harg6 arg7 harg7 arg9 arg17 x0 x1 x2 x3 x4 x5 x6 xs4]
  rfl

end C

end Cert.KernelIdeal.Val

end
-- ==== Proof.KArr.lean ====
/- What the kernel's result arrays hold after its run. Hand-written. -/
module

public import proofs.«01_k».proof.Proof.Loss
public import proofs.«01_k».proof.Proof.Gen.KernelIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.KernelIdeal.Val

open Cert.KernelIdeal Cert.KernelIdeal.Gen

variable (m : (ℓ : Loc nD τ sig) → Buf (Elt Ideal) ℓ)

/-- Where every window's block lies, at every point. -/
theorem idx : ∀ t : Fin cfg0.N, win0_0.index t = ![t.val, 0] ∧ win0_1.index t = ![t.val, 0, 0] ∧ win0_2.index t = ![t.val, 0]
    ∧ win0_3.index t = ![t.val, 0] ∧ win0_4.index t = ![t.val, 0, 0] ∧ win0_5.index t = ![0, 0] ∧ win0_6.index t = ![0, 0]
    ∧ win0_7.index t = ![t.val, 0] ∧ win0_8.index t = ![t.val, 0] ∧ win0_9.index t = ![t.val, 0] ∧ win0_10.index t = ![0, t.val]
    ∧ win0_11.index t = ![0, t.val] ∧ win0_12.index t = ![0, t.val] ∧ win0_13.index t = ![0, 0] ∧ t.val < 64 :=
  (by decide +kernel : ∀ t : Fin grid0.N, _)

/-- Token `t`'s row, read from the kernel's arguments. -/
def srow (c : Dev nD) (t : Fin 8192) : Spec.Row :=
  Spec.row (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) t

/-- Row `r` of the blocks staged at point `t`. -/
def trow (c : Dev nD) (t : Fin cfg0.N) (r : Fin 128) : Spec.Row :=
  krow (iblk m c 0 t) (iblk m c 1 t) (iblk m c 2 t) (iblk m c 3 t) (iblk m c 4 t) (iblk m c 5 t) (iblk m c 6 t) r

/-- … is row `128 t + r` of the arguments. -/
theorem trow_eq (c : Dev nD) (t : Fin cfg0.N) (r : Fin 128) (s : Fin 8192) (hs : s.val = t.val * 128 + r.val) :
    trow m c t r = srow m c s := by
  unfold trow srow krow Spec.row
  congr 1
  · funext d; blk_point [iblk, V, idx t]
  · blk_point [iblk, V, idx t]
  · funext d; blk_point [iblk, V, idx t]
  · funext d; blk_point [iblk, V, idx t]
  · blk_point [iblk, V, idx t]
  · funext d f; blk_point [iblk, V, idx t]
  · funext d f; blk_point [iblk, V, idx t]
  · funext d f; blk_point [iblk, V, idx t]

/-- The activation's block after point `t`. -/
theorem at7 (c : Dev nD) (t : Fin cfg0.N) (y : S128x2816.Idx) :
    (outsAt0 m c t.val t.isLt).1 y = (trow m c t (y 0)).a (y 1) := by
  by_cases h0 : t.val % 64 = 0
  · rw [outsAt0_A m c t h0 (by omega)]
    dsimp only
    rw [out7_A]
    rfl
  · by_cases h1 : t.val % 64 = 63
    · rw [outsAt0_C m c t h0 h1]
      dsimp only
      rw [out7_C]
      rfl
    · rw [outsAt0_B m c t h0 h1]
      dsimp only
      rw [out7_B]
      rfl

/-- The activation's array after the run. -/
theorem final7 (c : Dev nD) :
    (dats m 0 c).arrAt 7 (cfgs 0).N = fun j : S8192x2816.Idx => (srow m c (j 0)).a (j 1) := by
  refine (dats m 0 c).arrAt_eq_of_covers 7 _ (by decide +kernel) fun t hf y => ?_
  blk_simp
  rw [after0_7]
  refine (at7 m c t y).trans ?_
  have hi := idx t
  refine congrArg₂ Spec.Row.a (trow_eq m c t _ _ ?_) (Fin.ext ?_)
  · blk_simp [hi]
  · blk_simp [hi]

/-- The rounded activation's block after point `t`. -/
theorem at8 (c : Dev nD) (t : Fin cfg0.N) (y : S128x2816.Idx) :
    (outsAt0 m c t.val t.isLt).2.1 y = (trow m c t (y 0)).a (y 1) := by
  by_cases h0 : t.val % 64 = 0
  · rw [outsAt0_A m c t h0 (by omega)]
    dsimp only
    rw [out8_A]
    rfl
  · by_cases h1 : t.val % 64 = 63
    · rw [outsAt0_C m c t h0 h1]
      dsimp only
      rw [out8_C]
      rfl
    · rw [outsAt0_B m c t h0 h1]
      dsimp only
      rw [out8_B]
      rfl

/-- The rounded activation's array after the run. -/
theorem final8 (c : Dev nD) :
    (dats m 0 c).arrAt 8 (cfgs 0).N = fun j : S8192x2816.Idx => (srow m c (j 0)).a (j 1) := by
  refine (dats m 0 c).arrAt_eq_of_covers 8 _ (by decide +kernel) fun t hf y => ?_
  blk_simp
  rw [after0_8]
  refine (at8 m c t y).trans ?_
  have hi := idx t
  refine congrArg₂ Spec.Row.a (trow_eq m c t _ _ ?_) (Fin.ext ?_)
  · blk_simp [hi]
  · blk_simp [hi]

/-- The output's block after point `t`. -/
theorem at9 (c : Dev nD) (t : Fin cfg0.N) (y : S128x2048.Idx) :
    (outsAt0 m c t.val t.isLt).2.2.1 y = (trow m c t (y 0)).y (y 1) := by
  by_cases h0 : t.val % 64 = 0
  · rw [outsAt0_A m c t h0 (by omega)]
    dsimp only
    rw [out9_A]
    rfl
  · by_cases h1 : t.val % 64 = 63
    · rw [outsAt0_C m c t h0 h1]
      dsimp only
      rw [out9_C]
      rfl
    · rw [outsAt0_B m c t h0 h1]
      dsimp only
      rw [out9_B]
      rfl

/-- The output's array after the run. -/
theorem final9 (c : Dev nD) :
    (dats m 0 c).arrAt 9 (cfgs 0).N = fun j : S8192x2048.Idx => (srow m c (j 0)).y (j 1) := by
  refine (dats m 0 c).arrAt_eq_of_covers 9 _ (by decide +kernel) fun t hf y => ?_
  blk_simp
  rw [after0_9]
  refine (at9 m c t y).trans ?_
  have hi := idx t
  refine congrArg₂ Spec.Row.y (trow_eq m c t _ _ ?_) (Fin.ext ?_)
  · blk_simp [hi]
  · blk_simp [hi]

/-- The output gradient's block after point `t`. -/
theorem at10 (c : Dev nD) (t : Fin cfg0.N) (y : S2048x128.Idx) :
    (outsAt0 m c t.val t.isLt).2.2.2.1 y = (trow m c t (y 1)).dy (y 0) := by
  by_cases h0 : t.val % 64 = 0
  · rw [outsAt0_A m c t h0 (by omega)]
    dsimp only
    rw [out10_A]
    rfl
  · by_cases h1 : t.val % 64 = 63
    · rw [outsAt0_C m c t h0 h1]
      dsimp only
      rw [out10_C]
      rfl
    · rw [outsAt0_B m c t h0 h1]
      dsimp only
      rw [out10_B]
      rfl

/-- The output gradient's array after the run. -/
theorem final10 (c : Dev nD) :
    (dats m 0 c).arrAt 10 (cfgs 0).N = fun j : S2048x8192.Idx => (srow m c (j 1)).dy (j 0) := by
  refine (dats m 0 c).arrAt_eq_of_covers 10 _ (by decide +kernel) fun t hf y => ?_
  blk_simp
  rw [after0_10]
  refine (at10 m c t y).trans ?_
  have hi := idx t
  refine congrArg₂ Spec.Row.dy (trow_eq m c t _ _ ?_) (Fin.ext ?_)
  · blk_simp [hi]
  · blk_simp [hi]

/-- The gate gradient's block after point `t`. -/
theorem at11 (c : Dev nD) (t : Fin cfg0.N) (y : S2816x128.Idx) :
    (outsAt0 m c t.val t.isLt).2.2.2.2.1 y = (trow m c t (y 1)).dg (y 0) := by
  by_cases h0 : t.val % 64 = 0
  · rw [outsAt0_A m c t h0 (by omega)]
    dsimp only
    rw [out11_A]
    rfl
  · by_cases h1 : t.val % 64 = 63
    · rw [outsAt0_C m c t h0 h1]
      dsimp only
      rw [out11_C]
      rfl
    · rw [outsAt0_B m c t h0 h1]
      dsimp only
      rw [out11_B]
      rfl

/-- The gate gradient's array after the run. -/
theorem final11 (c : Dev nD) :
    (dats m 0 c).arrAt 11 (cfgs 0).N = fun j : S2816x8192.Idx => (srow m c (j 1)).dg (j 0) := by
  refine (dats m 0 c).arrAt_eq_of_covers 11 _ (by decide +kernel) fun t hf y => ?_
  blk_simp
  rw [after0_11]
  refine (at11 m c t y).trans ?_
  have hi := idx t
  refine congrArg₂ Spec.Row.dg (trow_eq m c t _ _ ?_) (Fin.ext ?_)
  · blk_simp [hi]
  · blk_simp [hi]

/-- The up gradient's block after point `t`. -/
theorem at12 (c : Dev nD) (t : Fin cfg0.N) (y : S2816x128.Idx) :
    (outsAt0 m c t.val t.isLt).2.2.2.2.2.1 y = (trow m c t (y 1)).du (y 0) := by
  by_cases h0 : t.val % 64 = 0
  · rw [outsAt0_A m c t h0 (by omega)]
    dsimp only
    rw [out12_A]
    rfl
  · by_cases h1 : t.val % 64 = 63
    · rw [outsAt0_C m c t h0 h1]
      dsimp only
      rw [out12_C]
      rfl
    · rw [outsAt0_B m c t h0 h1]
      dsimp only
      rw [out12_B]
      rfl

/-- The up gradient's array after the run. -/
theorem final12 (c : Dev nD) :
    (dats m 0 c).arrAt 12 (cfgs 0).N = fun j : S2816x8192.Idx => (srow m c (j 1)).du (j 0) := by
  refine (dats m 0 c).arrAt_eq_of_covers 12 _ (by decide +kernel) fun t hf y => ?_
  blk_simp
  rw [after0_12]
  refine (at12 m c t y).trans ?_
  have hi := idx t
  refine congrArg₂ Spec.Row.du (trow_eq m c t _ _ ?_) (Fin.ext ?_)
  · blk_simp [hi]
  · blk_simp [hi]

end Cert.KernelIdeal.Val

end
-- ==== Proof.KLoss.lean ====
/- What the kernel's loss holds after its run: the accumulator's sum over the grid. Hand-written. -/
module

public import proofs.«01_k».proof.Proof.KArr
public import proofs.«01_k».proof.Proof.Gen.KernelIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.KernelIdeal.Val

open Cert.KernelIdeal Cert.KernelIdeal.Gen

variable (m : (ℓ : Loc nD τ sig) → Buf (Elt Ideal) ℓ)

/-- The terms point `s` adds to the accumulator's place `(r, l)`. -/
def term (c : Dev nD) (r : Fin 8) (l : Fin 128) (s : ℕ) : EReal :=
  if h : s < cfg0.N then lossT (iblk m c 0 ⟨s, h⟩) (iblk m c 1 ⟨s, h⟩) (iblk m c 2 ⟨s, h⟩) (iblk m c 3 ⟨s, h⟩) (iblk m c 4 ⟨s, h⟩) (iblk m c 5 ⟨s, h⟩) (iblk m c 6 ⟨s, h⟩) r l else 0

/-- The accumulator after point `n`: the terms of the points up to `n`. -/
theorem acc (c : Dev nD) (r : Fin 8) (l : Fin 128) : ∀ (n : ℕ) (h : n < cfg0.N),
    (outsAt0 m c n h).2.2.2.2.2.2.2 (ix2 r l) = ∑ s ∈ Finset.range (n + 1), term m c r l s
  | 0, h => by
    have e := outsAt0_A m c ⟨0, h⟩ rfl (show ¬(0 : ℕ) % 64 = 63 by decide)
    rw [show outsAt0 m c 0 h = _ from e]
    dsimp only
    rw [sout_A, Finset.sum_range_one, term, dif_pos h]
  | n + 1, h => by
    have hN := (idx ⟨n + 1, h⟩).2.2.2.2.2.2.2.2.2.2.2.2.2.2
    rw [Finset.sum_range_succ, ← acc c r l n (Nat.lt_of_succ_lt h)]
    unfold term
    rw [dif_pos h]
    by_cases h1 : (n + 1) % 64 = 63
    · have e := outsAt0_C m c ⟨n + 1, h⟩ (by dsimp only at *; omega) h1
      rw [show outsAt0 m c (n + 1) h = _ from e]
      dsimp only
      rw [sout_C]
      rfl
    · have e := outsAt0_B m c ⟨n + 1, h⟩ (by dsimp only at *; omega) h1
      rw [show outsAt0 m c (n + 1) h = _ from e]
      dsimp only
      rw [sout_B]
      rfl

/-- The order of six sums. -/
theorem reorder (f : Fin 8 → Fin 128 → Fin 64 → Fin 8 → Fin 16 → Fin 2 → EReal) :
    ∑ r, ∑ l, ∑ s, ∑ k, ∑ a, ∑ b, f r l s k a b = ∑ s, ∑ a, ∑ r, ∑ k, ∑ b, ∑ l, f r l s k a b := by
  refine (Finset.sum_congr rfl fun r _ => Finset.sum_comm).trans ?_
  refine Finset.sum_comm.trans (Finset.sum_congr rfl fun s _ => ?_)
  refine Eq.trans ?_ Finset.sum_comm
  refine Finset.sum_congr rfl fun r _ => ?_
  refine Finset.sum_comm.trans (Eq.trans ?_ Finset.sum_comm)
  refine Finset.sum_congr rfl fun k _ => ?_
  exact Finset.sum_comm.trans (Finset.sum_congr rfl fun a _ => Finset.sum_comm)

/-- The accumulator's terms, over the grid and the tile, are the rows' terms over the tokens. -/
theorem total (q : Fin 8192 → Fin 2048 → EReal) :
    (∑ r : Fin 8, ∑ l : Fin 128, ∑ s : Fin 64, ∑ k : Fin 8, ∑ a : Fin 16, ∑ b : Fin 2,
      q ⟨128 * s.val + (8 * a.val + r.val), by omega⟩ ⟨256 * k.val + (128 * b.val + l.val), by omega⟩)
      = ∑ t : Fin 8192, ∑ e : Fin 2048, q t e := by
  rw [reorder (fun r l s k a b => q ⟨128 * s.val + (8 * a.val + r.val), by omega⟩ ⟨256 * k.val + (128 * b.val + l.val), by omega⟩)]
  have he : ∀ t, ∑ k : Fin 8, ∑ b : Fin 2, ∑ l : Fin 128, q t ⟨256 * k.val + (128 * b.val + l.val), by omega⟩ = ∑ e : Fin 2048, q t e := by
    intro t
    rw [← Fin.sum_mul_add_fin 8 256 (fun e : Fin 2048 => q t e) rfl]
    refine Finset.sum_congr rfl fun k _ => ?_
    rw [← Fin.sum_mul_add_fin 2 128 (fun e : Fin 256 => q t ⟨k.val * 256 + e.val, by omega⟩) rfl]
    refine Finset.sum_congr rfl fun b _ => Finset.sum_congr rfl fun l _ => ?_
    exact congrArg (q t) (Fin.ext (by dsimp only; omega))
  simp only [he]
  rw [← Fin.sum_mul_add_fin 64 128 (fun t : Fin 8192 => ∑ e : Fin 2048, q t e) rfl]
  refine Finset.sum_congr rfl fun s _ => ?_
  rw [← Fin.sum_mul_add_fin 16 8 (fun t : Fin 128 => ∑ e : Fin 2048, q ⟨s.val * 128 + t.val, by omega⟩ e) rfl]
  refine Finset.sum_congr rfl fun a _ => Finset.sum_congr rfl fun r _ => Finset.sum_congr rfl fun e _ => ?_
  exact congrArg (q · e) (Fin.ext (by dsimp only; omega))

/-- The kernel's loss after the run. -/
theorem final13 (c : Dev nD) : (dats m 0 c).arrAt 13 (cfgs 0).N
    = fun _ : S1x1.Idx => Ideal.div (∑ s : Fin 8192, ∑ e : Fin 2048, (srow m c s).q e) Spec.tokens := by
  refine (dats m 0 c).arrAt_eq_of_covers 13 _ (by decide +kernel) fun t hf y => ?_
  have h1 : t.val % 64 = 63 := (flush0_13 t).mp hf
  have hN := (idx t).2.2.2.2.2.2.2.2.2.2.2.2.2.2
  have h63 : t.val = 63 := by omega
  blk_simp
  rw [after0_13, outsAt0_C m c t (by omega) h1]
  dsimp only
  rw [out13_C]
  refine congrArg (Ideal.div · Spec.tokens) ?_
  rw [← total (fun s e => (srow m c s).q e)]
  refine Finset.sum_congr rfl fun r _ => Finset.sum_congr rfl fun l _ => ?_
  rw [acc m c r l]
  have e : lossT (iblk m c 0 t) (iblk m c 1 t) (iblk m c 2 t) (iblk m c 3 t) (iblk m c 4 t) (iblk m c 5 t) (iblk m c 6 t) r l = term m c r l (t.val - 1 + 1) := by
    have ht : t.val - 1 + 1 = t.val := by omega
    rw [ht, term, dif_pos t.isLt]
  rw [e, ← Finset.sum_range_succ, show t.val - 1 + 1 + 1 = 64 by omega, Finset.sum_range]
  refine Finset.sum_congr rfl fun s _ => ?_
  have hs : s.val < cfg0.N := lt_of_lt_of_eq s.isLt N_0.symm
  rw [term, dif_pos hs]
  unfold lossT
  refine Finset.sum_congr rfl fun k _ => Finset.sum_congr rfl fun a _ => Finset.sum_congr rfl fun b _ => ?_
  exact congrArg₂ Spec.Row.q (trow_eq m c ⟨s.val, hs⟩ _ _ (by dsimp only; omega)) (Fin.ext (by dsimp only))

end Cert.KernelIdeal.Val

end
-- ==== Proof.ColsRun.lean ====
module

public import proofs.«01_k».proof.Proof.Gen.Cols.Loops
public import proofs.«01_k».proof.Proof.Gen.Cols.Frame
public import Idealize.ShloMosaic.Lib.Claim

@[expose] public section

set_option maxRecDepth 16384

noncomputable section

namespace Cert.Cols.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Cols Cert.Cols.Gen

variable {F : FTy → Type} [FloatOps F]

variable (m : (ℓ : Loc nD τ sig) → Buf (Elt F) ℓ) (ρ : Dev nD → PrngReg)

local notation "𝕄" => MT nD τ sig Unit (Elt F) ℕ (UR sig nD τ) ℕ

set_option maxHeartbeats 8000000 in
/-- The body's triple at any grid point: on whole staging memrefs, the inputs' at their contents and
    everything else at anything, the body runs and hands back the inputs as they were, every result's at some contents,
    the scratch at some contents. -/
theorem body_run (c : Dev nD) (i : grid0.Coords) (arg1 : Memref sig .tc .smem S5 .f32) (harg1 : arg1.IsWhole) (arg2 : Memref sig .tc .vmem S2048x8192 .bf16) (harg2 : arg2.IsWhole) (arg3 : Memref sig .tc .vmem S8192x256 .bf16) (harg3 : arg3.IsWhole) (arg4 : Memref sig .tc .vmem S2048x256 .bf16) (harg4 : arg4.IsWhole) (arg5 : Memref sig .tc .vmem S2048x128 .i8) (harg5 : arg5.IsWhole) (arg6 : Memref sig .tc .vmem S2048x256 .i8) (harg6 : arg6.IsWhole) (arg7 : Memref sig .tc .vmem S2048x256 .i8) (harg7 : arg7.IsWhole) (arg8 : Memref sig .tc .vmem S22x2048 .f32) (harg8 : arg8.IsWhole) (arg9 : Memref sig .tc .vmem S22x2048 .f32) (harg9 : arg9.IsWhole) (arg10 : Memref sig .tc .vmem S22x2048 .f32) (harg10 : arg10.IsWhole) (arg11 : Memref sig .tc .vmem S2048x256 .f32) (harg11 : arg11.IsWhole) (arg12 : Memref sig .tc .vmem S2048x256 .bf16) (harg12 : arg12.IsWhole) (arg13 : Memref sig .tc .vmem S2048x256 .i8) (harg13 : arg13.IsWhole) (arg14 : Memref sig .tc .vmem S2048x256 .i8) (harg14 : arg14.IsWhole) (arg15 : Memref sig .tc .vmem S22x2048 .f32) (harg15 : arg15.IsWhole) (arg16 : Memref sig .tc .vmem S22x2048 .f32) (harg16 : arg16.IsWhole) (arg17 : Memref sig .tc .vmem S22x2048 .f32) (harg17 : arg17.IsWhole) (arg18 : Memref sig .tc .vmem S2048x256 .f32) (harg18 : arg18.IsWhole) (arg19 : Memref sig .tc .vmem S2048x128 .f32) (harg19 : arg19.IsWhole) (arg20 : Memref sig .tc .vmem S2048x128 .f32) (harg20 : arg20.IsWhole)
    (x0 : Vec F S5 .f32) (x1 : Vec F S2048x8192 .bf16) (x2 : Vec F S8192x256 .bf16) (x3 : Vec F S2048x256 .bf16) (x4 : Vec F S2048x128 .i8) (x5 : Vec F S2048x256 .i8) (x6 : Vec F S2048x256 .i8) (x7 : Vec F S22x2048 .f32) (x8 : Vec F S22x2048 .f32) (x9 : Vec F S22x2048 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
        ⊢ wp frame (wpE (defs₀ (F := F)) Variants.none c none) E (cc0_dw_cols_2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  intro E K
  simp only [cc0_dw_cols_2_eq_skeleton]; unfold cc0_dw_cols_2_skel
  simp only [k0_part10_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

/-- Window 0's staging memref at point `t`. -/
abbrev ms0_0 (t : Fin cfg0.N) : Memref sig .tc .smem S5 .f32 := win0_0.stage (cfg0.slots t 0)
/-- Window 1's staging memref at point `t`. -/
abbrev ms0_1 (t : Fin cfg0.N) : Memref sig .tc .vmem S2048x8192 .bf16 := win0_1.stage (cfg0.slots t 1)
/-- Window 2's staging memref at point `t`. -/
abbrev ms0_2 (t : Fin cfg0.N) : Memref sig .tc .vmem S8192x256 .bf16 := win0_2.stage (cfg0.slots t 2)
/-- Window 3's staging memref at point `t`. -/
abbrev ms0_3 (t : Fin cfg0.N) : Memref sig .tc .vmem S2048x256 .bf16 := win0_3.stage (cfg0.slots t 3)
/-- Window 4's staging memref at point `t`. -/
abbrev ms0_4 (t : Fin cfg0.N) : Memref sig .tc .vmem S2048x128 .i8 := win0_4.stage (cfg0.slots t 4)
/-- Window 5's staging memref at point `t`. -/
abbrev ms0_5 (t : Fin cfg0.N) : Memref sig .tc .vmem S2048x256 .i8 := win0_5.stage (cfg0.slots t 5)
/-- Window 6's staging memref at point `t`. -/
abbrev ms0_6 (t : Fin cfg0.N) : Memref sig .tc .vmem S2048x256 .i8 := win0_6.stage (cfg0.slots t 6)
/-- Window 7's staging memref at point `t`. -/
abbrev ms0_7 (t : Fin cfg0.N) : Memref sig .tc .vmem S22x2048 .f32 := win0_7.stage (cfg0.slots t 7)
/-- Window 8's staging memref at point `t`. -/
abbrev ms0_8 (t : Fin cfg0.N) : Memref sig .tc .vmem S22x2048 .f32 := win0_8.stage (cfg0.slots t 8)
/-- Window 9's staging memref at point `t`. -/
abbrev ms0_9 (t : Fin cfg0.N) : Memref sig .tc .vmem S22x2048 .f32 := win0_9.stage (cfg0.slots t 9)
/-- Window 10's staging memref at point `t`. -/
abbrev ms0_10 (t : Fin cfg0.N) : Memref sig .tc .vmem S2048x256 .f32 := win0_10.stage (cfg0.slots t 10)
/-- Window 11's staging memref at point `t`. -/
abbrev ms0_11 (t : Fin cfg0.N) : Memref sig .tc .vmem S2048x256 .bf16 := win0_11.stage (cfg0.slots t 11)
/-- Window 12's staging memref at point `t`. -/
abbrev ms0_12 (t : Fin cfg0.N) : Memref sig .tc .vmem S2048x256 .i8 := win0_12.stage (cfg0.slots t 12)
/-- Window 13's staging memref at point `t`. -/
abbrev ms0_13 (t : Fin cfg0.N) : Memref sig .tc .vmem S2048x256 .i8 := win0_13.stage (cfg0.slots t 13)
/-- Window 14's staging memref at point `t`. -/
abbrev ms0_14 (t : Fin cfg0.N) : Memref sig .tc .vmem S22x2048 .f32 := win0_14.stage (cfg0.slots t 14)
/-- Window 15's staging memref at point `t`. -/
abbrev ms0_15 (t : Fin cfg0.N) : Memref sig .tc .vmem S22x2048 .f32 := win0_15.stage (cfg0.slots t 15)
/-- Window 16's staging memref at point `t`. -/
abbrev ms0_16 (t : Fin cfg0.N) : Memref sig .tc .vmem S22x2048 .f32 := win0_16.stage (cfg0.slots t 16)
/-- The kernel's scratch 0, as a memref. -/
abbrev scM0_0 : Memref sig .tc .vmem S2048x256 .f32 := Memref.whole cc0_scratch0
/-- The kernel's scratch 1, as a memref. -/
abbrev scM0_1 : Memref sig .tc .vmem S2048x128 .f32 := Memref.whole cc0_scratch1
/-- The kernel's scratch 2, as a memref. -/
abbrev scM0_2 : Memref sig .tc .vmem S2048x128 .f32 := Memref.whole cc0_scratch2

/-- The invariant with the scratch as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The result windows nothing is said of. -/
def forgets0 : Fin 17 → Bool := fun w => decide (10 ≤ w.val)

/-- The proof data: the arrays as launched, each input's buffer at its block, the results forgotten. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd h (by unfold cfg0; simp)
  Φ _ := Pipeline.ΦA spec0 c
  q _ := fullShare
  owed _ := 0

/-- The proof data's arrays are those at launch. -/
theorem A_eq (c : Dev nD) (w : Fin cfg0.W) : (dats m 0 c).A w = V m c (Pipeline.arrRef spec0 w) := by
  dsimp only [dats]

/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]
/-- What the body leaves in window 6. -/
theorem after0_6 (c : Dev nD) (t : Fin cfg0.N) : (dats m 0 c).after 6 t = iblk m c 6 t := by dsimp only [dats]
/-- What the body leaves in window 7. -/
theorem after0_7 (c : Dev nD) (t : Fin cfg0.N) : (dats m 0 c).after 7 t = iblk m c 7 t := by dsimp only [dats]
/-- What the body leaves in window 8. -/
theorem after0_8 (c : Dev nD) (t : Fin cfg0.N) : (dats m 0 c).after 8 t = iblk m c 8 t := by dsimp only [dats]
/-- What the body leaves in window 9. -/
theorem after0_9 (c : Dev nD) (t : Fin cfg0.N) : (dats m 0 c).after 9 t = iblk m c 9 t := by dsimp only [dats]
/-- Window 0's buffer holds its block at every point. -/
theorem before0_0 (c : Dev nD) (t : Fin cfg0.N) (d) : (dats m 0 c).before 0 t d = iblk m c 0 t :=
  before0_0_of m (dats m 0 c) (A_eq m c 0) (after0_0 m c) t d
/-- Window 1's buffer holds its block at every point. -/
theorem before0_1 (c : Dev nD) (t : Fin cfg0.N) (d) : (dats m 0 c).before 1 t d = iblk m c 1 t :=
  before0_1_of m (dats m 0 c) (A_eq m c 1) (after0_1 m c) t d
/-- Window 2's buffer holds its block at every point. -/
theorem before0_2 (c : Dev nD) (t : Fin cfg0.N) (d) : (dats m 0 c).before 2 t d = iblk m c 2 t :=
  before0_2_of m (dats m 0 c) (A_eq m c 2) (after0_2 m c) t d
/-- Window 3's buffer holds its block at every point. -/
theorem before0_3 (c : Dev nD) (t : Fin cfg0.N) (d) : (dats m 0 c).before 3 t d = iblk m c 3 t :=
  before0_3_of m (dats m 0 c) (A_eq m c 3) (after0_3 m c) t d
/-- Window 4's buffer holds its block at every point. -/
theorem before0_4 (c : Dev nD) (t : Fin cfg0.N) (d) : (dats m 0 c).before 4 t d = iblk m c 4 t :=
  before0_4_of m (dats m 0 c) (A_eq m c 4) (after0_4 m c) t d
/-- Window 5's buffer holds its block at every point. -/
theorem before0_5 (c : Dev nD) (t : Fin cfg0.N) (d) : (dats m 0 c).before 5 t d = iblk m c 5 t :=
  before0_5_of m (dats m 0 c) (A_eq m c 5) (after0_5 m c) t d
/-- Window 6's buffer holds its block at every point. -/
theorem before0_6 (c : Dev nD) (t : Fin cfg0.N) (d) : (dats m 0 c).before 6 t d = iblk m c 6 t :=
  before0_6_of m (dats m 0 c) (A_eq m c 6) (after0_6 m c) t d
/-- Window 7's buffer holds its block at every point. -/
theorem before0_7 (c : Dev nD) (t : Fin cfg0.N) (d) : (dats m 0 c).before 7 t d = iblk m c 7 t :=
  before0_7_of m (dats m 0 c) (A_eq m c 7) (after0_7 m c) t d
/-- Window 8's buffer holds its block at every point. -/
theorem before0_8 (c : Dev nD) (t : Fin cfg0.N) (d) : (dats m 0 c).before 8 t d = iblk m c 8 t :=
  before0_8_of m (dats m 0 c) (A_eq m c 8) (after0_8 m c) t d
/-- Window 9's buffer holds its block at every point. -/
theorem before0_9 (c : Dev nD) (t : Fin cfg0.N) (d) : (dats m 0 c).before 9 t d = iblk m c 9 t :=
  before0_9_of m (dats m 0 c) (A_eq m c 9) (after0_9 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d))

set_option maxHeartbeats 1600000 in
/-- The body at any point, over the pipeline's buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((body_run c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  isplitl [HS2]; · iexact HS2
  iintro ⟨H0, H1, H2, H3, H4, H5, H6, H7, H8, H9, H10, H11, H12, H13, H14, H15, H16, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch runs, the arrays end as the proof data says, and every semaphore counter ends at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(Pipeline.RDat.FramePost.arr_in h.1 c 1 rfl).trans ((A_eq m c 1).trans (V_main_arg0 m c)),
      (Pipeline.RDat.FramePost.arr_in h.1 c 2 rfl).trans ((A_eq m c 2).trans (V_main_arg1 m c)),
      (Pipeline.RDat.FramePost.arr_in h.1 c 0 rfl).trans ((A_eq m c 0).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      (Pipeline.RDat.FramePost.arr_in h.1 c 6 rfl).trans ((A_eq m c 6).trans (V_main_arg6 m c)),
      (Pipeline.RDat.FramePost.arr_in h.1 c 7 rfl).trans ((A_eq m c 7).trans (V_main_arg7 m c)),
      (Pipeline.RDat.FramePost.arr_in h.1 c 8 rfl).trans ((A_eq m c 8).trans (V_main_arg8 m c)),
      (Pipeline.RDat.FramePost.arr_in h.1 c 9 rfl).trans ((A_eq m c 9).trans (V_main_arg9 m c))⟩, h.2⟩) (run_main_quiescent m ρ)

end Cert.Cols.Run

end
-- ==== Proof.ColsSpec.lean ====
/- The mathematics of one group of 128 weights of the update step over the extended reals: what both the update kernel and
   its reference are shown to compute. Hand-written. -/
module

public import Idealize.ShloMosaic.PureOps
public import Idealize.ShloMosaic.Lib.Pointwise

@[expose] public section

noncomputable section

namespace Cert.StepSpec

open Idealize.ShloMosaic

/-- Everything the update of one group of 128 weights depends on: the rounding variables, the weights' gradient, the two
    moments' codes, whether the weight's code may still be rounded up, the three scales, and the step's three scalars. -/
structure Grp where
  v : Fin 128 → EReal
  dw : Fin 128 → EReal
  mc : Fin 128 → BitVec 8
  sc : Fin 128 → BitVec 8
  room : Fin 128 → BitVec 1
  ws : EReal
  ms : EReal
  ss : EReal
  lam : EReal
  bc1 : EReal
  bc2 : EReal

namespace Grp

/-- The stretched sigmoid before it is clipped. -/
def hraw (G : Grp) (l : Fin 128) : EReal :=
  Ideal.ofBits .f32 0x3F99999A#32 * Ideal.logistic (G.v l) + Ideal.ofBits .f32 0xBDCCCCCD#32

/-- The stretched sigmoid's derivative. -/
def jac (G : Grp) (l : Fin 128) : EReal :=
  Ideal.ofBits .f32 0x3F99999A#32 * Ideal.logistic (G.v l) * (1 - Ideal.logistic (G.v l))

/-- Whether the clip is inactive. -/
def inner (G : Grp) (l : Fin 128) : BitVec 1 :=
  IntOp.andi (BitVec.ofBool (decide (0 < G.hraw l))) (BitVec.ofBool (decide (G.hraw l < 1)))

/-- Twice the soft rounding less one. -/
def rr (G : Grp) (l : Fin 128) : EReal := Ideal.ofBits .f32 0x40000000#32 * min 1 (max 0 (G.hraw l)) - 1

/-- The gradient in the rounding variable: that of the loss, where the code has room, and that of the regulariser. -/
def dv (G : Grp) (l : Fin 128) : EReal :=
  Scalar.select (IntOp.andi (G.inner l) (G.room l)) (G.dw l * G.ws * G.jac l) 0 +
    Scalar.select (G.inner l) (G.lam * Ideal.ofBits .f32 0xC1000000#32 * (G.rr l * G.rr l * G.rr l) * G.jac l) 0

/-- The first moment, stepped. -/
def m1 (G : Grp) (l : Fin 128) : EReal :=
  Ideal.ofBits .f32 0x3F666666#32 * (((G.mc l).toInt : ℝ) * G.ms) + Ideal.ofBits .f32 0x3DCCCCCD#32 * G.dv l

/-- The second moment, stepped; what is stored of it is its square root. -/
def v1 (G : Grp) (l : Fin 128) : EReal :=
  Ideal.ofBits .f32 0x3F7FBE77#32 * ((((G.sc l).toNat : ℝ) * G.ss) * (((G.sc l).toNat : ℝ) * G.ss)) +
    Ideal.ofBits .f32 0x3A83126F#32 * G.dv l * G.dv l

/-- The rounding variable, stepped. -/
def vnew (G : Grp) (l : Fin 128) : EReal :=
  G.v l - Ideal.div (Ideal.ofBits .f32 0x3E4CCCCD#32 * Ideal.div (G.m1 l) G.bc1)
    (Ideal.sqrt (Ideal.div (G.v1 l) G.bc2) + Ideal.ofBits .f32 0x322BCC77#32)

/-- The scale of a group whose largest magnitude is `a`, with `steps` codes on a side. -/
def scale (a steps : EReal) : EReal := if a = 0 then 1 else Ideal.div a steps

/-- The largest magnitude of the group's first moments. -/
def mmax (G : Grp) : EReal :=
  Finset.univ.fold max (Ideal.ofBits .f32 0xFF800000#32) fun l => FloatOps.absf (F := Ideal) (φ := .f32) (G.m1 l)

/-- The largest root of the group's second moments. -/
def smax (G : Grp) : EReal := Finset.univ.fold max (Ideal.ofBits .f32 0xFF800000#32) fun l => Ideal.sqrt (G.v1 l)

/-- The first moment's code, before it is made an integer. -/
def mq (G : Grp) (l : Fin 128) : EReal :=
  min (Ideal.ofBits .f32 0x42FE0000#32) (max (Ideal.ofBits .f32 0xC2FE0000#32)
    (Ideal.liftRound Ideal.roundHalfEven (Ideal.div (G.m1 l) (scale G.mmax (Ideal.ofBits .f32 0x42FE0000#32)))))

/-- The second moment's code, before it is made an integer. -/
def sq (G : Grp) (l : Fin 128) : EReal :=
  min (Ideal.ofBits .f32 0x437F0000#32) (max 0
    (Ideal.liftRound Ideal.roundHalfEven (Ideal.div (Ideal.sqrt (G.v1 l)) (scale G.smax (Ideal.ofBits .f32 0x437F0000#32)))))

/-- The first moment's code. -/
def mcode (G : Grp) (l : Fin 128) : BitVec 8 := FloatOps.fptosi (F := Ideal) (φ := .f32) 8 (G.mq l)

/-- The second moment's code. -/
def scode (G : Grp) (l : Fin 128) : BitVec 8 := BitVec.setWidth 8 (FloatOps.fptosi (F := Ideal) (φ := .f32) 32 (G.sq l))

end Grp

/-- Whether the nibble of byte `b` that stands for lane `l` of its group, the low one for the first 64 lanes, is below 7
    when read with its sign. -/
def room (b : BitVec 8) (l : Fin 128) : BitVec 1 :=
  if l.val < 64 then BitVec.ofBool (decide (((b <<< 4).sshiftRight 4).toInt < 7))
  else BitVec.ofBool (decide ((b.sshiftRight 4).toInt < 7))

/-- Every float word's integer value compared with a bound, read at the integers. -/
theorem sitofp_lt (n : BitVec 8) : BitVec.ofBool (decide (FloatOps.sitofp (F := Ideal) .f32 n < Ideal.ofBits .f32 0x42E00000#32))
    = BitVec.ofBool (decide (n.toInt < 112)) := by
  have h : Ideal.ofBits .f32 0x42E00000#32 = ((112 : ℝ) : EReal) := by
    simp [Ideal.ofBits, Ideal.ieee, -EReal.coe_mul]; norm_num
  rw [h]
  show BitVec.ofBool (decide ((((n.toInt : ℝ)) : EReal) < ((112 : ℝ) : EReal))) = _
  congr 1
  rw [decide_eq_decide, EReal.coe_lt_coe_iff]
  exact_mod_cast Iff.rfl

/-- A word compared with 7 as a float. -/
theorem sitofp_lt7 (n : BitVec 32) :
    BitVec.ofBool (decide (FloatOps.sitofp (F := Ideal) .f32 n < Ideal.ofBits .f32 1088421888#32)) = BitVec.ofBool (decide (n.toInt < 7)) := by
  have h : Ideal.ofBits .f32 1088421888#32 = ((7 : ℝ) : EReal) := by
    simp [Ideal.ofBits, Ideal.ieee, -EReal.coe_mul]; norm_num
  rw [h]
  show BitVec.ofBool (decide ((((n.toInt : ℝ)) : EReal) < ((7 : ℝ) : EReal))) = _
  congr 1
  rw [decide_eq_decide, EReal.coe_lt_coe_iff]
  exact_mod_cast Iff.rfl

/-- The low nibble, its sign taken from bit 3 by a subtraction, compared with 7. -/
theorem low_lt (b : BitVec 8) :
    BitVec.ofBool (decide (FloatOps.sitofp (F := Ideal) .f32
      (Scalar.select (IntOp.cmpi .sge (IntOp.andi (BitVec.setWidth 32 b) 15#32) 8#32)
        (IntOp.subi (IntOp.andi (BitVec.setWidth 32 b) 15#32) 16#32) (IntOp.andi (BitVec.setWidth 32 b) 15#32)) < Ideal.ofBits .f32 1088421888#32))
      = BitVec.ofBool (decide (((b <<< 4).sshiftRight 4).toInt < 7)) := by
  rw [sitofp_lt7]
  exact (by decide +kernel : ∀ b : BitVec 8, BitVec.ofBool (decide
      ((Scalar.select (IntOp.cmpi .sge (IntOp.andi (BitVec.setWidth 32 b) 15#32) 8#32)
        (IntOp.subi (IntOp.andi (BitVec.setWidth 32 b) 15#32) 16#32) (IntOp.andi (BitVec.setWidth 32 b) 15#32)).toInt < 7))
      = BitVec.ofBool (decide (((b <<< 4).sshiftRight 4).toInt < 7))) b

/-- The high nibble likewise. -/
theorem high_lt (b : BitVec 8) :
    BitVec.ofBool (decide (FloatOps.sitofp (F := Ideal) .f32
      (Scalar.select (IntOp.cmpi .sge (IntOp.shrsi ArithUnit.host (BitVec.setWidth 32 b) 4#32) 8#32)
        (IntOp.subi (IntOp.shrsi ArithUnit.host (BitVec.setWidth 32 b) 4#32) 16#32) (IntOp.shrsi ArithUnit.host (BitVec.setWidth 32 b) 4#32)) < Ideal.ofBits .f32 1088421888#32))
      = BitVec.ofBool (decide ((b.sshiftRight 4).toInt < 7)) := by
  rw [sitofp_lt7]
  exact (by decide +kernel : ∀ b : BitVec 8, BitVec.ofBool (decide
      ((Scalar.select (IntOp.cmpi .sge (IntOp.shrsi ArithUnit.host (BitVec.setWidth 32 b) 4#32) 8#32)
        (IntOp.subi (IntOp.shrsi ArithUnit.host (BitVec.setWidth 32 b) 4#32) 16#32) (IntOp.shrsi ArithUnit.host (BitVec.setWidth 32 b) 4#32)).toInt < 7))
      = BitVec.ofBool (decide ((b.sshiftRight 4).toInt < 7))) b

/-- A byte widened with its sign has the byte's value. -/
theorem sext (b : BitVec 8) : FloatOps.sitofp (F := Ideal) .f32 (BitVec.signExtend 32 b) = ((b.toInt : ℝ) : EReal) := by
  show ((((BitVec.signExtend 32 b).toInt : ℝ)) : EReal) = _
  rw [BitVec.toInt_signExtend_of_le (by decide)]

/-- A byte widened with zeros has the byte's value as a natural number. -/
theorem widen (b : BitVec 8) : FloatOps.sitofp (F := Ideal) .f32 (BitVec.setWidth 32 b) = ((b.toNat : ℝ) : EReal) := by
  show ((((BitVec.setWidth 32 b).toInt : ℝ)) : EReal) = _
  have h := b.isLt
  rw [BitVec.toInt_eq_toNat_of_lt (by simp; omega)]
  simp [Nat.mod_eq_of_lt (show b.toNat < 4294967296 by omega)]

/-- Of a value clipped to -127 … 127 it does not matter whether it is made a byte at once or by way of a word. -/
theorem mcode_eq (G : Grp) (l : Fin 128) :
    BitVec.setWidth 8 (FloatOps.fptosi (F := Ideal) (φ := .f32) 32 (G.mq l)) = G.mcode l := by
  have hi : Ideal.ofBits .f32 0x42FE0000#32 = ((127 : ℝ) : EReal) := by
    simp [Ideal.ofBits, Ideal.ieee, -EReal.coe_mul]; norm_num
  have lo : Ideal.ofBits .f32 0xC2FE0000#32 = ((-127 : ℝ) : EReal) := by
    simp [Ideal.ofBits, Ideal.ieee, -EReal.coe_mul]; norm_num
  unfold Grp.mcode
  have hx : ∃ r : ℝ, G.mq l = (r : EReal) ∧ -127 ≤ r ∧ r ≤ 127 := by
    have h1 : ((-127 : ℝ) : EReal) ≤ G.mq l := by
      unfold Grp.mq; rw [hi, lo]
      exact le_min (EReal.coe_le_coe_iff.mpr (by norm_num)) (le_max_left _ _)
    have h2 : G.mq l ≤ ((127 : ℝ) : EReal) := by
      unfold Grp.mq; rw [hi, lo]
      exact min_le_left _ _
    have h3 : G.mq l ≠ ⊤ := fun h => absurd (h ▸ h2) (by simp)
    have h4 : G.mq l ≠ ⊥ := fun h => absurd (h ▸ h1) (by simp)
    refine ⟨(G.mq l).toReal, (EReal.coe_toReal h3 h4).symm, ?_, ?_⟩
    · rw [← EReal.coe_toReal h3 h4] at h1; exact EReal.coe_le_coe_iff.mp h1
    · rw [← EReal.coe_toReal h3 h4] at h2; exact EReal.coe_le_coe_iff.mp h2
  obtain ⟨r, hr, a, b⟩ := hx
  rw [hr]
  obtain ⟨k, hk, ka, kb⟩ : ∃ k : ℤ, (if 0 ≤ r then ⌊r⌋ else ⌈r⌉) = k ∧ -127 ≤ k ∧ k ≤ 127 := by
    refine ⟨_, rfl, ?_, ?_⟩
    · split_ifs
      · exact Int.le_floor.mpr (by exact_mod_cast a)
      · exact_mod_cast (le_trans (by exact_mod_cast a) (Int.le_ceil r) : ((-127 : ℤ) : ℝ) ≤ (⌈r⌉ : ℝ))
    · split_ifs
      · exact_mod_cast (le_trans (Int.floor_le r) (by exact_mod_cast b) : (⌊r⌋ : ℝ) ≤ ((127 : ℤ) : ℝ))
      · exact Int.ceil_le.mpr (by exact_mod_cast b)
  show BitVec.setWidth 8 (BitVec.ofInt 32 (max (-(2 ^ 31 : ℕ)) (min ((2 ^ 31 : ℕ) - 1) (if 0 ≤ r then ⌊r⌋ else ⌈r⌉))))
    = BitVec.ofInt 8 (max (-(2 ^ 7 : ℕ)) (min ((2 ^ 7 : ℕ) - 1) (if 0 ≤ r then ⌊r⌋ else ⌈r⌉)))
  rw [hk, show max (-((2 ^ 31 : ℕ) : ℤ)) (min (((2 ^ 31 : ℕ) : ℤ) - 1) k) = k by norm_num; omega,
    show max (-((2 ^ 7 : ℕ) : ℤ)) (min (((2 ^ 7 : ℕ) : ℤ) - 1) k) = k by norm_num; omega]
  obtain ⟨n, rfl⟩ : ∃ n : Fin 255, (n.val : ℤ) - 127 = k := ⟨⟨(k + 127).toNat, by omega⟩, by dsimp only; omega⟩
  exact (by decide +kernel : ∀ n : Fin 255, BitVec.setWidth 8 (BitVec.ofInt 32 ((n.val : ℤ) - 127)) = BitVec.ofInt 8 ((n.val : ℤ) - 127)) n

/-- The group of weights that row `e` and group `g` of the whole update are: their gradient is the product of the two
    factors' row and columns. -/
def sgrp (lhs : Fin 2048 → Fin 8192 → EReal) (rhs : Fin 8192 → Fin 2816 → EReal) (s : Fin 5 → EReal)
    (v : Fin 2048 → Fin 2816 → EReal) (c : Fin 2048 → Fin 1408 → BitVec 8) (mc sc : Fin 2048 → Fin 2816 → BitVec 8)
    (ws ms ss : Fin 22 → Fin 2048 → EReal) (e : Fin 2048) (g : Fin 22) : Grp where
  v l := v e ⟨128 * g.val + l.val, by omega⟩
  dw l := ∑ t, lhs e t * rhs t ⟨128 * g.val + l.val, by omega⟩
  mc l := mc e ⟨128 * g.val + l.val, by omega⟩
  sc l := sc e ⟨128 * g.val + l.val, by omega⟩
  room l := room (c e ⟨64 * g.val + l.val % 64, by omega⟩) l
  ws := ws g e
  ms := ms g e
  ss := ss g e
  lam := s 2
  bc1 := s 3
  bc2 := s 4

end Cert.StepSpec

end
-- ==== Proof.ColsTile.lean ====
/- The update kernel's tiles of 32 rows by 128 lanes, read at an index: each payload is a group of `Cert.StepSpec`.
   Hand-written. -/
module

public import proofs.«01_k».proof.Proof.ColsSpec
public import proofs.«01_k».proof.Proof.Gen.ColsIdeal.Skeleton
public import Idealize.ShloMosaic.Lib.BitcastFour
public import Idealize.ShloMosaic.Lib.KernelVsHost
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.ColsIdeal.Val

open Cert.ColsIdeal Cert.ColsIdeal.Gen

variable (lam b1 b2 : Elt Ideal .f32) (V : Vec Ideal S32x128 .bf16) (A : Vec Ideal S32x128 .f32)
  (M C : Vec Ideal S32x128 .i8) (nb : IVec S32x128 8) (ws ms ss : Vec Ideal S32x1 .f32)

/-- Whether the byte the kernel makes of a nibble, the nibble in its upper half, is below 112. -/
def room8 (n : BitVec 8) : BitVec 1 :=
  BitVec.ofBool (decide (FloatOps.sitofp (F := Ideal) .f32 n < Ideal.ofBits .f32 0x42E00000#32))

/-- Row `r` of one tile as a group of weights. -/
def tgrp (r : Fin 32) : StepSpec.Grp where
  v l := V (ix2 r l)
  dw l := A (ix2 r l)
  mc l := M (ix2 r l)
  sc l := C (ix2 r l)
  room l := room8 (nb (ix2 r l))
  ws := ws (ix2 r 0)
  ms := ms (ix2 r 0)
  ss := ss (ix2 r 0)
  lam := lam
  bc1 := b1
  bc2 := b2

/-- The first half's gradient tile. -/
theorem dvA_ix (r : Fin 32) (l : Fin 128) : (k0_pay14 (F := Ideal) lam nb ws A (k0_pay7 (F := Ideal) V) (k0_pay8 (F := Ideal) V) (k0_pay9 (F := Ideal))) (ix2 r l) = (tgrp lam b1 b2 V A M C nb ws ms ss r).dv l := by
  pointwise [k0_pay14, k0_pay7, k0_pay8, k0_pay9, k0_pay10, k0_pay11, k0_pay12]
  rfl

/-- The first half's first moment. -/
theorem m1A_ix (r : Fin 32) (l : Fin 128) : k0_pay17 (F := Ideal) (k0_pay14 (F := Ideal) lam nb ws A (k0_pay7 (F := Ideal) V) (k0_pay8 (F := Ideal) V) (k0_pay9 (F := Ideal))) (k0_pay15 (F := Ideal) ms M) (ix2 r l) = (tgrp lam b1 b2 V A M C nb ws ms ss r).m1 l := by
  pointwise [k0_pay17, k0_pay15]
  rw [dvA_ix lam b1 b2 V A M C nb ws ms ss]
  rfl

/-- The first half's second moment. -/
theorem v1A_ix (r : Fin 32) (l : Fin 128) : k0_pay18 (F := Ideal) (k0_pay14 (F := Ideal) lam nb ws A (k0_pay7 (F := Ideal) V) (k0_pay8 (F := Ideal) V) (k0_pay9 (F := Ideal))) (k0_pay16 (F := Ideal) ss C) (ix2 r l) = (tgrp lam b1 b2 V A M C nb ws ms ss r).v1 l := by
  pointwise [k0_pay18, k0_pay16]
  rw [dvA_ix lam b1 b2 V A M C nb ws ms ss, StepSpec.widen]
  rfl

/-- The first half's stepped rounding variable. -/
theorem vnA_ix (r : Fin 32) (l : Fin 128) :
    k0_pay19 (F := Ideal) b1 b2 V (k0_pay14 (F := Ideal) lam nb ws A (k0_pay7 (F := Ideal) V) (k0_pay8 (F := Ideal) V) (k0_pay9 (F := Ideal))) (k0_pay15 (F := Ideal) ms M) (k0_pay16 (F := Ideal) ss C) (ix2 r l) = (tgrp lam b1 b2 V A M C nb ws ms ss r).vnew l := by
  pointwise [k0_pay19]
  rw [m1A_ix lam b1 b2 V A M C nb ws ms ss, v1A_ix lam b1 b2 V A M C nb ws ms ss]
  rfl

/-- The first half's codes of the first moment. -/
theorem mcA_ix (r : Fin 32) (l : Fin 128) :
    k0_pay21 (F := Ideal) (k0_pay14 (F := Ideal) lam nb ws A (k0_pay7 (F := Ideal) V) (k0_pay8 (F := Ideal) V) (k0_pay9 (F := Ideal))) (k0_pay15 (F := Ideal) ms M) (ix2 r l) = (tgrp lam b1 b2 V A M C nb ws ms ss r).mcode l := by
  pointwise [k0_pay21, k0_pay20]
  simp only [m1A_ix lam b1 b2 V A M C nb ws ms ss]
  rfl

/-- The first half's codes of the second moment. -/
theorem scA_ix (r : Fin 32) (l : Fin 128) :
    k0_pay26 (F := Ideal) (k0_pay22 (F := Ideal) (k0_pay14 (F := Ideal) lam nb ws A (k0_pay7 (F := Ideal) V) (k0_pay8 (F := Ideal) V) (k0_pay9 (F := Ideal))) (k0_pay16 (F := Ideal) ss C)) (k0_pay23 (F := Ideal) (k0_pay14 (F := Ideal) lam nb ws A (k0_pay7 (F := Ideal) V) (k0_pay8 (F := Ideal) V) (k0_pay9 (F := Ideal))) (k0_pay16 (F := Ideal) ss C))
      (k0_pay24 (F := Ideal)) (ix2 r l) = (tgrp lam b1 b2 V A M C nb ws ms ss r).scode l := by
  pointwise [k0_pay26, k0_pay25, k0_pay24, k0_pay22, k0_pay23]
  simp only [v1A_ix lam b1 b2 V A M C nb ws ms ss]
  rfl

/-- The second half's gradient tile. -/
theorem dvB_ix (r : Fin 32) (l : Fin 128) :
    k0_pay37 (F := Ideal) lam (k0_pay30 (F := Ideal) V) (k0_pay31 (F := Ideal) V) (k0_pay32 (F := Ideal) nb V) (k0_pay33 (F := Ideal) V) (k0_pay34 (F := Ideal) V) (k0_pay36 (F := Ideal) ws A V) (ix2 r l) = (tgrp lam b1 b2 V A M C nb ws ms ss r).dv l := by
  pointwise [k0_pay37, k0_pay30, k0_pay31, k0_pay32, k0_pay33, k0_pay34, k0_pay36, k0_pay28, k0_pay29]
  rfl

/-- The second half's first moment. -/
theorem m1B_ix (r : Fin 32) (l : Fin 128) :
    k0_pay38 (F := Ideal) lam ms M (k0_pay30 (F := Ideal) V) (k0_pay31 (F := Ideal) V) (k0_pay32 (F := Ideal) nb V) (k0_pay33 (F := Ideal) V) (k0_pay34 (F := Ideal) V) (k0_pay36 (F := Ideal) ws A V) (ix2 r l) = (tgrp lam b1 b2 V A M C nb ws ms ss r).m1 l := by
  pointwise [k0_pay38]
  rw [dvB_ix lam b1 b2 V A M C nb ws ms ss]
  rfl

/-- The second half's second moment. -/
theorem v1B_ix (r : Fin 32) (l : Fin 128) :
    k0_pay39 (F := Ideal) lam ss C (k0_pay30 (F := Ideal) V) (k0_pay31 (F := Ideal) V) (k0_pay32 (F := Ideal) nb V) (k0_pay33 (F := Ideal) V) (k0_pay34 (F := Ideal) V) (k0_pay36 (F := Ideal) ws A V) (ix2 r l) = (tgrp lam b1 b2 V A M C nb ws ms ss r).v1 l := by
  pointwise [k0_pay39]
  rw [dvB_ix lam b1 b2 V A M C nb ws ms ss, StepSpec.widen]
  rfl

/-- The second half's stepped rounding variable. -/
theorem vnB_ix (r : Fin 32) (l : Fin 128) :
    k0_pay40 (F := Ideal) lam b1 b2 ms ss V M C (k0_pay30 (F := Ideal) V) (k0_pay31 (F := Ideal) V) (k0_pay32 (F := Ideal) nb V) (k0_pay33 (F := Ideal) V) (k0_pay34 (F := Ideal) V) (k0_pay36 (F := Ideal) ws A V) (ix2 r l) = (tgrp lam b1 b2 V A M C nb ws ms ss r).vnew l := by
  pointwise [k0_pay40]
  rw [m1B_ix lam b1 b2 V A M C nb ws ms ss, v1B_ix lam b1 b2 V A M C nb ws ms ss]
  rfl

/-- The second half's codes of the first moment. -/
theorem mcB_ix (r : Fin 32) (l : Fin 128) :
    k0_pay45 (F := Ideal) (k0_pay38 (F := Ideal) lam ms M (k0_pay30 (F := Ideal) V) (k0_pay31 (F := Ideal) V) (k0_pay32 (F := Ideal) nb V) (k0_pay33 (F := Ideal) V) (k0_pay34 (F := Ideal) V) (k0_pay36 (F := Ideal) ws A V)) (k0_pay41 (F := Ideal) lam ms M (k0_pay30 (F := Ideal) V) (k0_pay31 (F := Ideal) V) (k0_pay32 (F := Ideal) nb V) (k0_pay33 (F := Ideal) V) (k0_pay34 (F := Ideal) V) (k0_pay36 (F := Ideal) ws A V))
      (k0_pay42 (F := Ideal) lam ms M (k0_pay30 (F := Ideal) V) (k0_pay31 (F := Ideal) V) (k0_pay32 (F := Ideal) nb V) (k0_pay33 (F := Ideal) V) (k0_pay34 (F := Ideal) V) (k0_pay36 (F := Ideal) ws A V)) (k0_pay43 (F := Ideal)) (ix2 r l) = (tgrp lam b1 b2 V A M C nb ws ms ss r).mcode l := by
  pointwise [k0_pay45, k0_pay44, k0_pay43, k0_pay42, k0_pay41]
  simp only [m1B_ix lam b1 b2 V A M C nb ws ms ss]
  rfl

/-- The second half's codes of the second moment. -/
theorem scB_ix (r : Fin 32) (l : Fin 128) :
    k0_pay48 (F := Ideal) (k0_pay39 (F := Ideal) lam ss C (k0_pay30 (F := Ideal) V) (k0_pay31 (F := Ideal) V) (k0_pay32 (F := Ideal) nb V) (k0_pay33 (F := Ideal) V) (k0_pay34 (F := Ideal) V) (k0_pay36 (F := Ideal) ws A V)) (ix2 r l) = (tgrp lam b1 b2 V A M C nb ws ms ss r).scode l := by
  pointwise [k0_pay48, k0_pay47, k0_pay46]
  simp only [v1B_ix lam b1 b2 V A M C nb ws ms ss]
  rfl

/-- A bit of a byte of a word: byte `r` of a column is byte `r % 4` of word `r / 4`. -/
theorem byte_bit (y : IVec S8x128 32) (r : Fin 32) (l : Fin 128) (q : Nat) (hq : q < 8) :
    (bitcast S32x128 8 y bitcasts_S8x128_w32_S32x128_w8 (ix2 r l)).getLsbD q
      = (y (ix2 ⟨r.val / 4, by omega⟩ l)).getLsbD (8 * (r.val % 4) + q) := by
  rw [bitcast_getLsbD y _ _ q hq (by decide)]
  have e2 : (Shape.row S32x128 (ix2 r l) * 8 + q) % 32 = 8 * (r.val % 4) + q := by
    show (r.val * 8 + q) % 32 = _
    omega
  rw [e2]
  congr 2
  funext c
  match c with
  | ⟨0, _⟩ =>
    exact Fin.ext ((bitcasts_S8x128_w32_S32x128_w8.srcIdx_row _ _ _ ⟨0, Nat.zero_lt_two⟩ rfl).trans (by
      show (r.val * 8 + q) / 32 = r.val / 4
      omega))
  | ⟨1, _⟩ => exact Fin.ext (bitcasts_S8x128_w32_S32x128_w8.srcIdx_other _ _ _ ⟨1, Nat.one_lt_two⟩ (by show ¬ 1 + 2 = 2; omega))

/-- A bit of the word of four bytes. -/
theorem word_bit (x : Vec Ideal S32x128 .i8) (r : Fin 32) (l : Fin 128) (h : r.val / 4 < 8) (p : Nat) (hp : p < 32)
    (hr : r.val % 4 = p / 8) :
    (bitcast S8x128 32 x bitcasts_S32x128_w8_S8x128_w32 (ix2 ⟨r.val / 4, h⟩ l)).getLsbD p = (x (ix2 r l)).getLsbD (p % 8) :=
  bitcast_8_32_getLsbD_ix2 (R := 32) (r := 8) (n := 128) x bitcasts_S32x128_w8_S8x128_w32 ⟨r.val / 4, h⟩ l p hp r
    (by show r.val = 4 * (r.val / 4) + p / 8; omega)

/-- The mask of the four bytes' upper halves. -/
theorem mask_bit (a q : Nat) (ha : a < 4) (hq : q < 8) : (4042322160#32).getLsbD (8 * a + q) = decide (4 ≤ q) := by
  interval_cases a <;> interval_cases q <;> rfl

/-- The mask of a byte's upper half. -/
theorem mask_bit8 (q : Nat) (hq : q < 8) : (0xF0#8).getLsbD q = decide (4 ≤ q) := by
  interval_cases q <;> rfl

/-- A word masked, whose lane holds the word of lane `l'`: the byte's upper nibble. -/
theorem nib_hi (x : Vec Ideal S32x128 .i8) (w : IVec S8x128 32) (l l' : Fin 128) (r : Fin 32)
    (hw : ∀ a : Fin 8, w (ix2 a l) = IntOp.andi (bitcast S8x128 32 x bitcasts_S32x128_w8_S8x128_w32 (ix2 a l')) 4042322160#32) :
    bitcast S32x128 8 w bitcasts_S8x128_w32_S32x128_w8 (ix2 r l) = x (ix2 r l') &&& 0xF0#8 := by
  apply BitVec.eq_of_getLsbD_eq
  intro q hq
  rw [byte_bit w r l q hq, hw]
  simp only [IntOp.andi, BitVec.getLsbD_and]
  rw [word_bit x r l' _ (8 * (r.val % 4) + q) (by omega) (by omega), mask_bit _ q (by omega) hq, mask_bit8 q hq,
    show (8 * (r.val % 4) + q) % 8 = q by omega]

/-- A word shifted by four and masked: the byte's lower nibble, moved up. -/
theorem nib_lo (x : Vec Ideal S32x128 .i8) (w : IVec S8x128 32) (l l' : Fin 128) (r : Fin 32)
    (hw : ∀ a : Fin 8, w (ix2 a l)
      = IntOp.andi (bitcast S8x128 32 x bitcasts_S32x128_w8_S8x128_w32 (ix2 a l') <<< 4) 4042322160#32) :
    bitcast S32x128 8 w bitcasts_S8x128_w32_S32x128_w8 (ix2 r l) = x (ix2 r l') <<< 4 := by
  apply BitVec.eq_of_getLsbD_eq
  intro q hq
  rw [byte_bit w r l q hq, hw]
  simp only [IntOp.andi, BitVec.getLsbD_and, BitVec.getLsbD_shiftLeft]
  rw [mask_bit _ q (by omega) hq]
  by_cases h4 : 4 ≤ q
  · rw [word_bit x r l' _ (8 * (r.val % 4) + q - 4) (by omega) (by omega),
      show (8 * (r.val % 4) + q - 4) % 8 = q - 4 by omega]
    simp [h4, hq, show ¬ q < 4 by omega, show 8 * (r.val % 4) + q < 32 by omega, show ¬ 8 * (r.val % 4) + q < 4 by omega]
  · simp [h4, show q < 4 by omega]

/-- Half a turn of 128 lanes. -/
theorem turn (x : Vec Ideal S32x128 .i8) (a : Fin 8) (l l' : Fin 128) (h : l'.val = (l.val + 64) % 128) :
    k0_pay3 (F := Ideal) x (ix2 a l) = bitcast S8x128 32 x bitcasts_S32x128_w8_S8x128_w32 (ix2 a l') := by
  unfold k0_pay3
  refine (dynamicRotate_apply (s := S8x128) (1 : Fin 2) 64#32 _ _ (ix2 a l) (ix2 a l') (by
    intro b
    match b with
    | ⟨0, _⟩ => rfl
    | ⟨1, _⟩ => show l'.val = (l.val + 128 - 64 % 128) % 128; omega)).trans rfl

/-- Whether a lane is among the first 64. -/
theorem firstHalf (a : Fin 8) (l : Fin 128) : k0_pay4 (ix2 a l) = if l.val < 64 then 1#1 else 0#1 := by
  have h : ∀ l : Fin 128, IntOp.cmpi .slt (BitVec.ofNat 32 l.val) 64#32 = if l.val < 64 then 1#1 else 0#1 := by decide +kernel
  pointwise [k0_pay4]
  exact h l

/-- The first group's nibbles: its 64 bytes are the tile's first 64 lanes. -/
theorem pay5_ix (x : Vec Ideal S32x128 .i8) (r : Fin 32) (l l' : Fin 128) (h : l'.val = l.val % 64) :
    k0_pay5 (F := Ideal) x (ix2 r l) = if l.val < 64 then x (ix2 r l') <<< 4 else x (ix2 r l') &&& 0xF0#8 := by
  unfold k0_pay5
  by_cases hl : l.val < 64
  · rw [if_pos hl]
    refine nib_lo x _ l l' r fun a => ?_
    have e : l = l' := Fin.ext (by omega)
    show IntOp.andi (Scalar.select (k0_pay4 (ix2 a l)) (IntOp.shli .vector (k0_pay2 (F := Ideal) x (ix2 a l)) 4#32) _) 4042322160#32 = _
    rw [firstHalf, if_pos hl, e]
    rfl
  · rw [if_neg hl]
    refine nib_hi x _ l l' r fun a => ?_
    show IntOp.andi (Scalar.select (k0_pay4 (ix2 a l)) _ (k0_pay3 (F := Ideal) x (ix2 a l))) 4042322160#32 = _
    rw [firstHalf, if_neg hl, turn x a l l' (by omega)]
    rfl

/-- The second group's nibbles: its 64 bytes are the tile's last 64 lanes. -/
theorem pay6_ix (x : Vec Ideal S32x128 .i8) (r : Fin 32) (l l' : Fin 128) (h : l'.val = 64 + l.val % 64) :
    k0_pay6 (F := Ideal) x (ix2 r l) = if l.val < 64 then x (ix2 r l') <<< 4 else x (ix2 r l') &&& 0xF0#8 := by
  unfold k0_pay6
  by_cases hl : l.val < 64
  · rw [if_pos hl]
    refine nib_lo x _ l l' r fun a => ?_
    show IntOp.andi (Scalar.select (k0_pay4 (ix2 a l)) (IntOp.shli .vector (k0_pay3 (F := Ideal) x (ix2 a l)) 4#32) _) 4042322160#32 = _
    rw [firstHalf, if_pos hl, turn x a l l' (by omega)]
    rfl
  · rw [if_neg hl]
    refine nib_hi x _ l l' r fun a => ?_
    have e : l = l' := Fin.ext (by omega)
    show IntOp.andi (Scalar.select (k0_pay4 (ix2 a l)) _ (k0_pay2 (F := Ideal) x (ix2 a l))) 4042322160#32 = _
    rw [firstHalf, if_neg hl, e]
    rfl

/-- The kernel's room for a byte's nibble is the specification's. -/
theorem room8_eq (b : BitVec 8) (l : Fin 128) :
    room8 (if l.val < 64 then b <<< 4 else b &&& 0xF0#8) = StepSpec.room b l := by
  have h1 : ∀ b : BitVec 8, decide ((b <<< 4).toInt < 112) = decide (((b <<< 4).sshiftRight 4).toInt < 7) := by decide +kernel
  have h2 : ∀ b : BitVec 8, decide ((b &&& 0xF0#8).toInt < 112) = decide ((b.sshiftRight 4).toInt < 7) := by decide +kernel
  unfold room8 StepSpec.room
  rw [StepSpec.sitofp_lt]
  by_cases hl : l.val < 64
  · rw [if_pos hl, if_pos hl, h1]
  · rw [if_neg hl, if_neg hl, h2]

end Cert.ColsIdeal.Val

end
-- ==== Proof.ColsBlk.lean ====
/- The update kernel's loop over 64 tiles of 32 rows: what its four array results hold after it. Hand-written. -/
module

public import proofs.«01_k».proof.Proof.ColsTile
public import proofs.«01_k».proof.Proof.Gen.ColsIdeal.Loops
public import Idealize.ShloMosaic.Lib.WritesUnit

@[expose] public section

set_option maxRecDepth 16384

noncomputable section

open Idealize.ShloMosaic Idealize.ShloMosaic.TcCoe Idealize.SL.Sem

namespace Cert.ColsIdeal.Val

open Cert.ColsIdeal Cert.ColsIdeal.Gen

/-- The group of weights that row `e` and half `h` of one block of 256 columns are; the gradient is read from `a`, the three
    scales from the columns `h`, `2 + h` and `4 + h` of `cs`. -/
def wgrp (lam b1 b2 : EReal) (x3 : Vec Ideal S2048x256 .bf16) (x4 : Vec Ideal S2048x128 .i8) (x5 x6 : Vec Ideal S2048x256 .i8)
    (a : Vec Ideal S2048x256 .f32) (cs : Vec Ideal S2048x128 .f32) (e : Fin 2048) (h : Fin 2) : StepSpec.Grp where
  v l := x3 (ix2 e ⟨128 * h.val + l.val, by omega⟩)
  dw l := a (ix2 e ⟨128 * h.val + l.val, by omega⟩)
  mc l := x5 (ix2 e ⟨128 * h.val + l.val, by omega⟩)
  sc l := x6 (ix2 e ⟨128 * h.val + l.val, by omega⟩)
  room l := StepSpec.room (x4 (ix2 e ⟨64 * h.val + l.val % 64, by omega⟩)) l
  ws := cs (ix2 e ⟨h.val, by omega⟩)
  ms := cs (ix2 e ⟨2 + h.val, by omega⟩)
  ss := cs (ix2 e ⟨4 + h.val, by omega⟩)
  lam := lam
  bc1 := b1
  bc2 := b2

/-- A tile's load, read at an index, where the tile's rows begin at `32 k` and its columns at `q`. -/
theorem tile_ix {e : EltTy} {d : Fin 2 → ℕ} {sp : Space} (v : View sig .tc sp (⟨2, d⟩ : Shape) e)
    (X : v.ty.Contents (Elt Ideal)) (k q : ℕ) (off : Fin 2 → ℕ) (size : Fin 2 → ℕ) (inb) (hoff : off = ![32 * k, q])
    (x : (Rect.unit (s := (⟨2, d⟩ : Shape)) off size inb).shape.Idx) (y : (⟨2, d⟩ : Shape).Idx)
    (h0 : (y 0).val = 32 * k + (x 0).val) (h1 : (y 1).val = q + (x 1).val) :
    View.readAt (Elt Ideal) v (Rect.unit (s := (⟨2, d⟩ : Shape)) off size inb).toLoadRect X x = v.read (Elt Ideal) X y := by
  subst hoff
  rw [View.readAt_eq_ld]
  exact View.ld_unit_apply_of _ _ _ _ _ _ (by intro a; fin_cases a <;> simp [h0, h1])

/-- Two pieces of 32 rows by 128 columns, the first half's and the second half's, on top of what held the rows before. -/
theorem cons2_read {e : EltTy} {sp : Space} (v : View sig .tc sp S2048x256 e) (f : v.ty.Contents (Elt Ideal)) (k : ℕ) (oB oA : Fin 2 → ℕ)
    (inbB : ∀ a, oB a + S32x128.size a ≤ S2048x256.size a) (inbA : ∀ a, oA a + S32x128.size a ≤ S2048x256.size a)
    (hB : oB = ![32 * k, 128]) (hA : oA = ![32 * k, 0])
    (wB : (Rect.unit (s := S2048x256) oB S32x128.size inbB).shape.Idx → Elt Ideal e)
    (wA : (Rect.unit (s := S2048x256) oA S32x128.size inbA).shape.Idx → Elt Ideal e)
    (L : List (View.Piece (Elt Ideal) S2048x256 e)) (X : Fin 2048 → Fin 2 → Fin 128 → Elt Ideal e)
    (hwB : ∀ (r : Fin 32) (l : Fin 128) (y : Fin 2048), y.val = 32 * k + r.val → wB (ix2 r l) = X y 1 l)
    (hwA : ∀ (r : Fin 32) (l : Fin 128) (y : Fin 2048), y.val = 32 * k + r.val → wA (ix2 r l) = X y 0 l)
    (hL : ∀ (y : Fin 2048) (h : Fin 2) (l : Fin 128), y.val < 32 * k →
      v.read (Elt Ideal) (v.writes (Elt Ideal) f L) (ix2 y ⟨128 * h.val + l.val, by omega⟩) = X y h l)
    (y : Fin 2048) (h : Fin 2) (l : Fin 128) (hy : y.val < 32 * (k + 1)) :
    v.read (Elt Ideal) (v.writes (Elt Ideal) f (⟨Rect.unit oB S32x128.size inbB, wB⟩ :: ⟨Rect.unit oA S32x128.size inbA, wA⟩ :: L))
      (ix2 y ⟨128 * h.val + l.val, by omega⟩) = X y h l := by
  subst hB hA
  by_cases hk : y.val < 32 * k
  · refine (View.read_writes_cons_unit_of_not_mem _ _ _ _ _ _ rfl (0 : Fin 2) (Or.inl ?_)).trans
      ((View.read_writes_cons_unit_of_not_mem _ _ _ _ _ _ rfl (0 : Fin 2) (Or.inl ?_)).trans (hL y h l hk))
    · exact hk
    · exact hk
  · match h with
    | ⟨0, _⟩ =>
      refine (View.read_writes_cons_unit_of_not_mem _ _ _ _ _ _ rfl (1 : Fin 2) (Or.inl ?_)).trans
        ((View.read_writes_cons_unit_of_mem _ _ _ _ _ _ (ix2 (⟨y.val - 32 * k, by omega⟩ : Fin 32) l) rfl ?_).trans (hwA _ l y ?_))
      · show 128 * 0 + l.val < 128
        omega
      · intro a
        match a with
        | ⟨0, _⟩ => show y.val = 32 * k + (y.val - 32 * k); omega
        | ⟨1, _⟩ => show 128 * 0 + l.val = 0 + l.val; omega
      · show y.val = 32 * k + (y.val - 32 * k); omega
    | ⟨1, _⟩ =>
      refine (View.read_writes_cons_unit_of_mem _ _ _ _ _ _ (ix2 (⟨y.val - 32 * k, by omega⟩ : Fin 32) l) rfl ?_).trans (hwB _ l y ?_)
      · intro a
        match a with
        | ⟨0, _⟩ => show y.val = 32 * k + (y.val - 32 * k); omega
        | ⟨1, _⟩ => show 128 * 1 + l.val = 128 + l.val; omega
      · show y.val = 32 * k + (y.val - 32 * k); omega

section Loop

variable (c : Dev nD) (i : grid0.Coords) (arg1 : Memref sig .tc .smem S5 .f32) (harg1 : arg1.IsWhole) (arg2 : Memref sig .tc .vmem S2048x8192 .bf16) (harg2 : arg2.IsWhole) (arg3 : Memref sig .tc .vmem S8192x256 .bf16) (harg3 : arg3.IsWhole) (arg4 : Memref sig .tc .vmem S2048x256 .bf16) (harg4 : arg4.IsWhole) (arg5 : Memref sig .tc .vmem S2048x128 .i8) (harg5 : arg5.IsWhole) (arg6 : Memref sig .tc .vmem S2048x256 .i8) (harg6 : arg6.IsWhole) (arg7 : Memref sig .tc .vmem S2048x256 .i8) (harg7 : arg7.IsWhole) (arg8 : Memref sig .tc .vmem S22x2048 .f32) (harg8 : arg8.IsWhole) (arg9 : Memref sig .tc .vmem S22x2048 .f32) (harg9 : arg9.IsWhole) (arg10 : Memref sig .tc .vmem S22x2048 .f32) (harg10 : arg10.IsWhole) (arg11 : Memref sig .tc .vmem S2048x256 .f32) (harg11 : arg11.IsWhole) (arg12 : Memref sig .tc .vmem S2048x256 .bf16) (harg12 : arg12.IsWhole) (arg13 : Memref sig .tc .vmem S2048x256 .i8) (harg13 : arg13.IsWhole) (arg14 : Memref sig .tc .vmem S2048x256 .i8) (harg14 : arg14.IsWhole) (arg15 : Memref sig .tc .vmem S22x2048 .f32) (harg15 : arg15.IsWhole) (arg16 : Memref sig .tc .vmem S22x2048 .f32) (harg16 : arg16.IsWhole) (arg17 : Memref sig .tc .vmem S22x2048 .f32) (harg17 : arg17.IsWhole) (arg18 : Memref sig .tc .vmem S2048x256 .f32) (harg18 : arg18.IsWhole) (arg19 : Memref sig .tc .vmem S2048x128 .f32) (harg19 : arg19.IsWhole) (arg20 : Memref sig .tc .vmem S2048x128 .f32) (harg20 : arg20.IsWhole)
  (v24 c0 : BitVec 32) (lam b1 b2 : Elt Ideal .f32) (v56 : IVec S32x128 32)
  (X4 : BufTy.Contents (Elt Ideal) arg4.view.ty) (X5 : BufTy.Contents (Elt Ideal) arg5.view.ty) (X6 : BufTy.Contents (Elt Ideal) arg6.view.ty)
  (X7 : BufTy.Contents (Elt Ideal) arg7.view.ty) (X18 : BufTy.Contents (Elt Ideal) arg18.view.ty) (X19 : BufTy.Contents (Elt Ideal) arg19.view.ty)

/-- The group of row `e`, half `h`, read from the loop's memory. -/
abbrev mgrp (e : Fin 2048) (h : Fin 2) : StepSpec.Grp :=
  wgrp lam b1 b2 (arg4.view.read (Elt Ideal) X4) (arg5.view.read (Elt Ideal) X5) (arg6.view.read (Elt Ideal) X6)
    (arg7.view.read (Elt Ideal) X7) (arg18.view.read (Elt Ideal) X18) (arg19.view.read (Elt Ideal) X19) e h

/-- Row `r` of the first half's tile of trip `k` is the group of row `32 k + r`. -/
theorem tgrpA (k : Fin k0_t1_loop.trips) (r : Fin 32) (y : Fin 2048) (hy : y.val = 32 * k.val + r.val) :
    tgrp lam b1 b2 (View.readAt (Elt Ideal) arg4.view (Rect.unit (s := S2048x256) (k0_off6 k) S32x128.size (k0_off6_inb k)).toLoadRect X4) (View.readAt (Elt Ideal) arg18.view (Rect.unit (s := S2048x256) (k0_off6 k) S32x128.size (k0_off6_inb k)).toLoadRect X18) (View.readAt (Elt Ideal) arg6.view (Rect.unit (s := S2048x256) (k0_off6 k) S32x128.size (k0_off6_inb k)).toLoadRect X6) (View.readAt (Elt Ideal) arg7.view (Rect.unit (s := S2048x256) (k0_off6 k) S32x128.size (k0_off6_inb k)).toLoadRect X7)
      (k0_pay5 (F := Ideal) (View.readAt (Elt Ideal) arg5.view (Rect.unit (s := S2048x128) (k0_off2 k) S32x128.size (k0_off2_inb k)).toLoadRect X5)) (View.readAt (Elt Ideal) arg19.view (Rect.unit (s := S2048x128) (k0_off3 k) S32x1.size (k0_off3_inb k)).toLoadRect X19) (View.readAt (Elt Ideal) arg19.view (Rect.unit (s := S2048x128) (k0_off4 k) S32x1.size (k0_off4_inb k)).toLoadRect X19) (View.readAt (Elt Ideal) arg19.view (Rect.unit (s := S2048x128) (k0_off5 k) S32x1.size (k0_off5_inb k)).toLoadRect X19) r
      = mgrp arg4 arg5 arg6 arg7 arg18 arg19 lam b1 b2 X4 X5 X6 X7 X18 X19 y 0 := by
  unfold tgrp mgrp wgrp
  congr 1
  · funext l; exact tile_ix _ X4 k.val 0 _ _ _ (k0_off6_eq k) _ _ hy rfl
  · funext l; exact tile_ix _ X18 k.val 0 _ _ _ (k0_off6_eq k) _ _ hy rfl
  · funext l; exact tile_ix _ X6 k.val 0 _ _ _ (k0_off6_eq k) _ _ hy rfl
  · funext l; exact tile_ix _ X7 k.val 0 _ _ _ (k0_off6_eq k) _ _ hy rfl
  · funext l
    rw [pay5_ix _ r l ⟨0 + l.val % 64, by omega⟩ (by simp), tile_ix _ X5 k.val 0 _ S32x128.size (k0_off2_inb k) (k0_off2_eq k) (ix2 r ⟨0 + l.val % 64, by omega⟩) (ix2 y ⟨64 * 0 + l.val % 64, by omega⟩) hy (by show 64 * 0 + l.val % 64 = 0 + (0 + l.val % 64); omega)]
    exact room8_eq _ l
  · exact tile_ix _ X19 k.val 0 _ _ _ (k0_off3_eq k) _ _ hy rfl
  · exact tile_ix _ X19 k.val 2 _ _ _ (k0_off4_eq k) _ _ hy rfl
  · exact tile_ix _ X19 k.val 4 _ _ _ (k0_off5_eq k) _ _ hy rfl

/-- Row `r` of the second half's tile of trip `k` is the group of row `32 k + r`. -/
theorem tgrpB (k : Fin k0_t1_loop.trips) (r : Fin 32) (y : Fin 2048) (hy : y.val = 32 * k.val + r.val) :
    tgrp lam b1 b2 (View.readAt (Elt Ideal) arg4.view (Rect.unit (s := S2048x256) (k0_off10 k) S32x128.size (k0_off10_inb k)).toLoadRect X4) (View.readAt (Elt Ideal) arg18.view (Rect.unit (s := S2048x256) (k0_off10 k) S32x128.size (k0_off10_inb k)).toLoadRect X18) (View.readAt (Elt Ideal) arg6.view (Rect.unit (s := S2048x256) (k0_off10 k) S32x128.size (k0_off10_inb k)).toLoadRect X6) (View.readAt (Elt Ideal) arg7.view (Rect.unit (s := S2048x256) (k0_off10 k) S32x128.size (k0_off10_inb k)).toLoadRect X7)
      (k0_pay6 (F := Ideal) (View.readAt (Elt Ideal) arg5.view (Rect.unit (s := S2048x128) (k0_off2 k) S32x128.size (k0_off2_inb k)).toLoadRect X5)) (View.readAt (Elt Ideal) arg19.view (Rect.unit (s := S2048x128) (k0_off7 k) S32x1.size (k0_off7_inb k)).toLoadRect X19) (View.readAt (Elt Ideal) arg19.view (Rect.unit (s := S2048x128) (k0_off8 k) S32x1.size (k0_off8_inb k)).toLoadRect X19) (View.readAt (Elt Ideal) arg19.view (Rect.unit (s := S2048x128) (k0_off9 k) S32x1.size (k0_off9_inb k)).toLoadRect X19) r
      = mgrp arg4 arg5 arg6 arg7 arg18 arg19 lam b1 b2 X4 X5 X6 X7 X18 X19 y 1 := by
  unfold tgrp mgrp wgrp
  congr 1
  · funext l; exact tile_ix _ X4 k.val 128 _ _ _ (k0_off10_eq k) _ _ hy rfl
  · funext l; exact tile_ix _ X18 k.val 128 _ _ _ (k0_off10_eq k) _ _ hy rfl
  · funext l; exact tile_ix _ X6 k.val 128 _ _ _ (k0_off10_eq k) _ _ hy rfl
  · funext l; exact tile_ix _ X7 k.val 128 _ _ _ (k0_off10_eq k) _ _ hy rfl
  · funext l
    rw [pay6_ix _ r l ⟨64 + l.val % 64, by omega⟩ (by simp), tile_ix _ X5 k.val 0 _ S32x128.size (k0_off2_inb k) (k0_off2_eq k) (ix2 r ⟨64 + l.val % 64, by omega⟩) (ix2 y ⟨64 * 1 + l.val % 64, by omega⟩) hy (by show 64 * 1 + l.val % 64 = 0 + (64 + l.val % 64); omega)]
    exact room8_eq _ l
  · exact tile_ix _ X19 k.val 1 _ _ _ (k0_off7_eq k) _ _ hy rfl
  · exact tile_ix _ X19 k.val 3 _ _ _ (k0_off8_eq k) _ _ hy rfl
  · exact tile_ix _ X19 k.val 5 _ _ _ (k0_off9_eq k) _ _ hy rfl

set_option maxHeartbeats 4000000 in
/-- After `n` trips the rows before `32 n` hold the gradient. -/
theorem loop11 (a0 : BitVec 32) (f : BufTy.Contents (Elt Ideal) arg11.view.ty) (n : ℕ) (hn : n ≤ 64) : ∀ (y : Fin 2048) (h : Fin 2) (l : Fin 128), y.val < 32 * n →
    arg11.view.read (Elt Ideal) (arg11.view.writes (Elt Ideal) f (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a0 v24 c0 lam b1 b2 v56 X4 X5 X6 X7 X18 X19 n).1)
      (ix2 y ⟨128 * h.val + l.val, by omega⟩) = (mgrp arg4 arg5 arg6 arg7 arg18 arg19 lam b1 b2 X4 X5 X6 X7 X18 X19 y h).dv l := by
  induction n with
  | zero => intro y h l hy; omega
  | succ n ih =>
    have hk : n < k0_t1_loop.trips := (show n < 64 by omega)
    rw [show n + 1 = (⟨n, hk⟩ : Fin k0_t1_loop.trips).val + 1 from rfl, pb_k0_t1_succ]
    unfold tripL_k0_t1 trip_k0_t1
    dsimp only [List.cons_append, List.nil_append]
    refine cons2_read arg11.view f n _ _ _ _ (k0_off10_eq ⟨n, hk⟩) (k0_off6_eq ⟨n, hk⟩) _ _ _
      (fun y h l => (mgrp arg4 arg5 arg6 arg7 arg18 arg19 lam b1 b2 X4 X5 X6 X7 X18 X19 y h).dv l) ?_ ?_ (fun y h l hy => ih (by omega) y h l hy)
    · intro r l y hy
      refine Eq.trans ?_ (congrArg (fun G => StepSpec.Grp.dv G l) (tgrpB arg4 arg5 arg6 arg7 arg18 arg19 lam b1 b2 X4 X5 X6 X7 X18 X19 ⟨n, hk⟩ r y hy))
      exact dvB_ix lam b1 b2 _ _ _ _ _ _ _ _ r l
    · intro r l y hy
      refine Eq.trans ?_ (congrArg (fun G => StepSpec.Grp.dv G l) (tgrpA arg4 arg5 arg6 arg7 arg18 arg19 lam b1 b2 X4 X5 X6 X7 X18 X19 ⟨n, hk⟩ r y hy))
      exact dvA_ix lam b1 b2 _ _ _ _ _ _ _ _ r l

set_option maxHeartbeats 4000000 in
/-- After `n` trips the rows before `32 n` hold the stepped rounding variable. -/
theorem loop12 (a0 : BitVec 32) (f : BufTy.Contents (Elt Ideal) arg12.view.ty) (n : ℕ) (hn : n ≤ 64) : ∀ (y : Fin 2048) (h : Fin 2) (l : Fin 128), y.val < 32 * n →
    arg12.view.read (Elt Ideal) (arg12.view.writes (Elt Ideal) f (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a0 v24 c0 lam b1 b2 v56 X4 X5 X6 X7 X18 X19 n).2.1)
      (ix2 y ⟨128 * h.val + l.val, by omega⟩) = (mgrp arg4 arg5 arg6 arg7 arg18 arg19 lam b1 b2 X4 X5 X6 X7 X18 X19 y h).vnew l := by
  induction n with
  | zero => intro y h l hy; omega
  | succ n ih =>
    have hk : n < k0_t1_loop.trips := (show n < 64 by omega)
    rw [show n + 1 = (⟨n, hk⟩ : Fin k0_t1_loop.trips).val + 1 from rfl, pb_k0_t1_succ]
    unfold tripL_k0_t1 trip_k0_t1
    dsimp only [List.cons_append, List.nil_append]
    refine cons2_read arg12.view f n _ _ _ _ (k0_off10_eq ⟨n, hk⟩) (k0_off6_eq ⟨n, hk⟩) _ _ _
      (fun y h l => (mgrp arg4 arg5 arg6 arg7 arg18 arg19 lam b1 b2 X4 X5 X6 X7 X18 X19 y h).vnew l) ?_ ?_ (fun y h l hy => ih (by omega) y h l hy)
    · intro r l y hy
      refine Eq.trans ?_ (congrArg (fun G => StepSpec.Grp.vnew G l) (tgrpB arg4 arg5 arg6 arg7 arg18 arg19 lam b1 b2 X4 X5 X6 X7 X18 X19 ⟨n, hk⟩ r y hy))
      exact vnB_ix lam b1 b2 _ _ _ _ _ _ _ _ r l
    · intro r l y hy
      refine Eq.trans ?_ (congrArg (fun G => StepSpec.Grp.vnew G l) (tgrpA arg4 arg5 arg6 arg7 arg18 arg19 lam b1 b2 X4 X5 X6 X7 X18 X19 ⟨n, hk⟩ r y hy))
      exact vnA_ix lam b1 b2 _ _ _ _ _ _ _ _ r l

set_option maxHeartbeats 4000000 in
/-- After `n` trips the rows before `32 n` hold the first moment's codes. -/
theorem loop13 (a0 : BitVec 32) (f : BufTy.Contents (Elt Ideal) arg13.view.ty) (n : ℕ) (hn : n ≤ 64) : ∀ (y : Fin 2048) (h : Fin 2) (l : Fin 128), y.val < 32 * n →
    arg13.view.read (Elt Ideal) (arg13.view.writes (Elt Ideal) f (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a0 v24 c0 lam b1 b2 v56 X4 X5 X6 X7 X18 X19 n).2.2.1)
      (ix2 y ⟨128 * h.val + l.val, by omega⟩) = (mgrp arg4 arg5 arg6 arg7 arg18 arg19 lam b1 b2 X4 X5 X6 X7 X18 X19 y h).mcode l := by
  induction n with
  | zero => intro y h l hy; omega
  | succ n ih =>
    have hk : n < k0_t1_loop.trips := (show n < 64 by omega)
    rw [show n + 1 = (⟨n, hk⟩ : Fin k0_t1_loop.trips).val + 1 from rfl, pb_k0_t1_succ]
    unfold tripL_k0_t1 trip_k0_t1
    dsimp only [List.cons_append, List.nil_append]
    refine cons2_read arg13.view f n _ _ _ _ (k0_off10_eq ⟨n, hk⟩) (k0_off6_eq ⟨n, hk⟩) _ _ _
      (fun y h l => (mgrp arg4 arg5 arg6 arg7 arg18 arg19 lam b1 b2 X4 X5 X6 X7 X18 X19 y h).mcode l) ?_ ?_ (fun y h l hy => ih (by omega) y h l hy)
    · intro r l y hy
      refine Eq.trans ?_ (congrArg (fun G => StepSpec.Grp.mcode G l) (tgrpB arg4 arg5 arg6 arg7 arg18 arg19 lam b1 b2 X4 X5 X6 X7 X18 X19 ⟨n, hk⟩ r y hy))
      exact mcB_ix lam b1 b2 _ _ _ _ _ _ _ _ r l
    · intro r l y hy
      refine Eq.trans ?_ (congrArg (fun G => StepSpec.Grp.mcode G l) (tgrpA arg4 arg5 arg6 arg7 arg18 arg19 lam b1 b2 X4 X5 X6 X7 X18 X19 ⟨n, hk⟩ r y hy))
      exact mcA_ix lam b1 b2 _ _ _ _ _ _ _ _ r l

set_option maxHeartbeats 4000000 in
/-- After `n` trips the rows before `32 n` hold the second moment's codes. -/
theorem loop14 (a0 : BitVec 32) (f : BufTy.Contents (Elt Ideal) arg14.view.ty) (n : ℕ) (hn : n ≤ 64) : ∀ (y : Fin 2048) (h : Fin 2) (l : Fin 128), y.val < 32 * n →
    arg14.view.read (Elt Ideal) (arg14.view.writes (Elt Ideal) f (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a0 v24 c0 lam b1 b2 v56 X4 X5 X6 X7 X18 X19 n).2.2.2.1)
      (ix2 y ⟨128 * h.val + l.val, by omega⟩) = (mgrp arg4 arg5 arg6 arg7 arg18 arg19 lam b1 b2 X4 X5 X6 X7 X18 X19 y h).scode l := by
  induction n with
  | zero => intro y h l hy; omega
  | succ n ih =>
    have hk : n < k0_t1_loop.trips := (show n < 64 by omega)
    rw [show n + 1 = (⟨n, hk⟩ : Fin k0_t1_loop.trips).val + 1 from rfl, pb_k0_t1_succ]
    unfold tripL_k0_t1 trip_k0_t1
    dsimp only [List.cons_append, List.nil_append]
    refine cons2_read arg14.view f n _ _ _ _ (k0_off10_eq ⟨n, hk⟩) (k0_off6_eq ⟨n, hk⟩) _ _ _
      (fun y h l => (mgrp arg4 arg5 arg6 arg7 arg18 arg19 lam b1 b2 X4 X5 X6 X7 X18 X19 y h).scode l) ?_ ?_ (fun y h l hy => ih (by omega) y h l hy)
    · intro r l y hy
      refine Eq.trans ?_ (congrArg (fun G => StepSpec.Grp.scode G l) (tgrpB arg4 arg5 arg6 arg7 arg18 arg19 lam b1 b2 X4 X5 X6 X7 X18 X19 ⟨n, hk⟩ r y hy))
      exact scB_ix lam b1 b2 _ _ _ _ _ _ _ _ r l
    · intro r l y hy
      refine Eq.trans ?_ (congrArg (fun G => StepSpec.Grp.scode G l) (tgrpA arg4 arg5 arg6 arg7 arg18 arg19 lam b1 b2 X4 X5 X6 X7 X18 X19 ⟨n, hk⟩ r y hy))
      exact scA_ix lam b1 b2 _ _ _ _ _ _ _ _ r l

end Loop

end Cert.ColsIdeal.Val

end
-- ==== Proof.ColsVal.lean ====
/- What the update kernel leaves in its four array results' blocks at one grid point, as a function of the blocks it
   reads. Hand-written. -/
module

public import proofs.«01_k».proof.Proof.ColsBlk

@[expose] public section

set_option maxRecDepth 16384

noncomputable section

open Idealize.ShloMosaic Idealize.ShloMosaic.TcCoe Idealize.SL.Sem

namespace Cert.ColsIdeal.Val

open Cert.ColsIdeal Cert.ColsIdeal.Gen

section Blocks

variable (i : grid0.Coords) (x0 : Vec Ideal S5 .f32) (x1 : Vec Ideal S2048x8192 .bf16) (x2 : Vec Ideal S8192x256 .bf16)
  (x3 : Vec Ideal S2048x256 .bf16) (x4 : Vec Ideal S2048x128 .i8) (x5 x6 : Vec Ideal S2048x256 .i8) (x7 x8 x9 : Vec Ideal S22x2048 .f32)

/-- The group of weights that row `e` and half `h` of point `i`'s block of 256 columns are. -/
def kgrp (e : Fin 2048) (h : Fin 2) : StepSpec.Grp where
  v l := x3 (ix2 e ⟨128 * h.val + l.val, by omega⟩)
  dw l := ∑ t : Fin 8192, x1 (ix2 e t) * x2 (ix2 t ⟨128 * h.val + l.val, by omega⟩)
  mc l := x5 (ix2 e ⟨128 * h.val + l.val, by omega⟩)
  sc l := x6 (ix2 e ⟨128 * h.val + l.val, by omega⟩)
  room l := StepSpec.room (x4 (ix2 e ⟨64 * h.val + l.val % 64, by omega⟩)) l
  ws := x7 (ix2 ⟨2 * (i 0).val + h.val, by have := (i 0).isLt; change (i 0).val < 11 at this; omega⟩ e)
  ms := x8 (ix2 ⟨2 * (i 0).val + h.val, by have := (i 0).isLt; change (i 0).val < 11 at this; omega⟩ e)
  ss := x9 (ix2 ⟨2 * (i 0).val + h.val, by have := (i 0).isLt; change (i 0).val < 11 at this; omega⟩ e)
  lam := x0 (ix1 2)
  bc1 := x0 (ix1 3)
  bc2 := x0 (ix1 4)

/-- The group and the lane of column `n` of the block. -/
def kat (e : Fin 2048) (n : Fin 256) : StepSpec.Grp × Fin 128 :=
  (kgrp i x0 x1 x2 x3 x4 x5 x6 x7 x8 x9 e ⟨n.val / 128, by omega⟩, ⟨n.val % 128, by omega⟩)

/-- The gradient's block. -/
def blk11 : Vec Ideal S2048x256 .f32 := fun y =>
  (kat i x0 x1 x2 x3 x4 x5 x6 x7 x8 x9 (y 0) (y 1)).1.dv (kat i x0 x1 x2 x3 x4 x5 x6 x7 x8 x9 (y 0) (y 1)).2

/-- The stepped rounding variable's block. -/
def blk12 : Vec Ideal S2048x256 .bf16 := fun y =>
  (kat i x0 x1 x2 x3 x4 x5 x6 x7 x8 x9 (y 0) (y 1)).1.vnew (kat i x0 x1 x2 x3 x4 x5 x6 x7 x8 x9 (y 0) (y 1)).2

/-- The block of the first moment's codes. -/
def blk13 : Vec Ideal S2048x256 .i8 := fun y =>
  (kat i x0 x1 x2 x3 x4 x5 x6 x7 x8 x9 (y 0) (y 1)).1.mcode (kat i x0 x1 x2 x3 x4 x5 x6 x7 x8 x9 (y 0) (y 1)).2

/-- The block of the second moment's codes. -/
def blk14 : Vec Ideal S2048x256 .i8 := fun y =>
  (kat i x0 x1 x2 x3 x4 x5 x6 x7 x8 x9 (y 0) (y 1)).1.scode (kat i x0 x1 x2 x3 x4 x5 x6 x7 x8 x9 (y 0) (y 1)).2

end Blocks

/-- A product of 512 rows with the block of columns, at an index. -/
theorem prod_ix (a : Vec Ideal S512x8192 .bf16) (b : Vec Ideal S8192x256 .bf16) (r : Fin 512) (n : Fin 256) :
    k0_pay50 (F := Ideal) a b (ix2 r n) = ∑ t : Fin 8192, a (ix2 r t) * b (ix2 t n) := by
  pointwise [k0_pay50]

/-- Four pieces of 512 rows that cover the block, read at an index: what the piece that holds the row has there. -/
theorem quad_read (arg18 : Memref sig .tc .vmem S2048x256 .f32) (f : BufTy.Contents (Elt Ideal) arg18.view.ty)
    (w0 w1 w2 w3 : Vec Ideal S512x256 .f32) (X : EReal) (e : Fin 2048) (n : Fin 256)
    (h0 : ∀ r : Fin 512, e.val = 0 + r.val → w0 (ix2 r n) = X) (h1 : ∀ r : Fin 512, e.val = 512 + r.val → w1 (ix2 r n) = X)
    (h2 : ∀ r : Fin 512, e.val = 1024 + r.val → w2 (ix2 r n) = X) (h3 : ∀ r : Fin 512, e.val = 1536 + r.val → w3 (ix2 r n) = X) :
    arg18.view.read (Elt Ideal) (arg18.view.writes (Elt Ideal) f
      [⟨Rect.unit (s := S2048x256) ![1536, 0] S512x256.size inb_S2048x256_S512x256_1536_0, w3⟩,
       ⟨Rect.unit (s := S2048x256) ![1024, 0] S512x256.size inb_S2048x256_S512x256_1024_0, w2⟩,
       ⟨Rect.unit (s := S2048x256) ![512, 0] S512x256.size inb_S2048x256_S512x256_512_0, w1⟩,
       ⟨Rect.unit (s := S2048x256) ![0, 0] S512x256.size inb_S2048x256_S512x256_0_0, w0⟩]) (ix2 e n) = X := by
  have he := e.isLt
  by_cases c3 : 1536 ≤ e.val
  · refine (View.read_writes_cons_unit_of_mem arg18.view f inb_S2048x256_S512x256_1536_0 w3 _ (ix2 e n) (ix2 (⟨e.val - 1536, by omega⟩ : Fin 512) n) rfl ?_).trans
      (h3 _ (by show e.val = 1536 + (e.val - 1536); omega))
    intro a
    match a with
    | ⟨0, _⟩ => show e.val = 1536 + (e.val - 1536); omega
    | ⟨1, _⟩ => show n.val = 0 + n.val; omega
  refine (View.read_writes_cons_unit_of_not_mem arg18.view f inb_S2048x256_S512x256_1536_0 w3 _ (ix2 e n) rfl (0 : Fin 2) (Or.inl ?_)).trans ?_
  · show e.val < 1536; omega
  by_cases c2 : 1024 ≤ e.val
  · refine (View.read_writes_cons_unit_of_mem arg18.view f inb_S2048x256_S512x256_1024_0 w2 _ (ix2 e n) (ix2 (⟨e.val - 1024, by omega⟩ : Fin 512) n) rfl ?_).trans
      (h2 _ (by show e.val = 1024 + (e.val - 1024); omega))
    intro a
    match a with
    | ⟨0, _⟩ => show e.val = 1024 + (e.val - 1024); omega
    | ⟨1, _⟩ => show n.val = 0 + n.val; omega
  refine (View.read_writes_cons_unit_of_not_mem arg18.view f inb_S2048x256_S512x256_1024_0 w2 _ (ix2 e n) rfl (0 : Fin 2) (Or.inl ?_)).trans ?_
  · show e.val < 1024; omega
  by_cases c1 : 512 ≤ e.val
  · refine (View.read_writes_cons_unit_of_mem arg18.view f inb_S2048x256_S512x256_512_0 w1 _ (ix2 e n) (ix2 (⟨e.val - 512, by omega⟩ : Fin 512) n) rfl ?_).trans
      (h1 _ (by show e.val = 512 + (e.val - 512); omega))
    intro a
    match a with
    | ⟨0, _⟩ => show e.val = 512 + (e.val - 512); omega
    | ⟨1, _⟩ => show n.val = 0 + n.val; omega
  refine (View.read_writes_cons_unit_of_not_mem arg18.view f inb_S2048x256_S512x256_512_0 w1 _ (ix2 e n) rfl (0 : Fin 2) (Or.inl ?_)).trans ?_
  · show e.val < 512; omega
  refine (View.read_writes_cons_unit_of_mem arg18.view f inb_S2048x256_S512x256_0_0 w0 _ (ix2 e n) (ix2 (⟨e.val, by omega⟩ : Fin 512) n) rfl ?_).trans
      (h0 _ (by show e.val = 0 + e.val; omega))
  intro a
  match a with
  | ⟨0, _⟩ => show e.val = 0 + e.val; omega
  | ⟨1, _⟩ => show n.val = 0 + n.val; omega

/-- The gradient of the weights, after its four products of 512 rows. -/
theorem acc_read (arg2 : Memref sig .tc .vmem S2048x8192 .bf16) (harg2 : arg2.IsWhole) (arg3 : Memref sig .tc .vmem S8192x256 .bf16)
    (harg3 : arg3.IsWhole) (arg18 : Memref sig .tc .vmem S2048x256 .f32) (f : BufTy.Contents (Elt Ideal) arg18.view.ty)
    (x1 : Vec Ideal S2048x8192 .bf16) (x2 : Vec Ideal S8192x256 .bf16) (e : Fin 2048) (n : Fin 256) :
    arg18.view.read (Elt Ideal) (arg18.view.writes (Elt Ideal) f
      [⟨Rect.unit (s := S2048x256) ![1536, 0] S512x256.size inb_S2048x256_S512x256_1536_0, k0_pay53 (F := Ideal)
        (View.readAt (Elt Ideal) arg2.view (Rect.unit (s := S2048x8192) ![1536, 0] S512x8192.size inb_S2048x8192_S512x8192_1536_0).toLoadRect (harg2.unread x1))
        (View.readAt (Elt Ideal) arg3.view (Rect.unit (s := S8192x256) ![0, 0] S8192x256.size inb_S8192x256_S8192x256_0_0).toLoadRect (harg3.unread x2))⟩,
       ⟨Rect.unit (s := S2048x256) ![1024, 0] S512x256.size inb_S2048x256_S512x256_1024_0, k0_pay52 (F := Ideal)
        (View.readAt (Elt Ideal) arg2.view (Rect.unit (s := S2048x8192) ![1024, 0] S512x8192.size inb_S2048x8192_S512x8192_1024_0).toLoadRect (harg2.unread x1))
        (View.readAt (Elt Ideal) arg3.view (Rect.unit (s := S8192x256) ![0, 0] S8192x256.size inb_S8192x256_S8192x256_0_0).toLoadRect (harg3.unread x2))⟩,
       ⟨Rect.unit (s := S2048x256) ![512, 0] S512x256.size inb_S2048x256_S512x256_512_0, k0_pay51 (F := Ideal)
        (View.readAt (Elt Ideal) arg2.view (Rect.unit (s := S2048x8192) ![512, 0] S512x8192.size inb_S2048x8192_S512x8192_512_0).toLoadRect (harg2.unread x1))
        (View.readAt (Elt Ideal) arg3.view (Rect.unit (s := S8192x256) ![0, 0] S8192x256.size inb_S8192x256_S8192x256_0_0).toLoadRect (harg3.unread x2))⟩,
       ⟨Rect.unit (s := S2048x256) ![0, 0] S512x256.size inb_S2048x256_S512x256_0_0, k0_pay50 (F := Ideal)
        (View.readAt (Elt Ideal) arg2.view (Rect.unit (s := S2048x8192) ![0, 0] S512x8192.size inb_S2048x8192_S512x8192_0_0).toLoadRect (harg2.unread x1))
        (View.readAt (Elt Ideal) arg3.view (Rect.unit (s := S8192x256) ![0, 0] S8192x256.size inb_S8192x256_S8192x256_0_0).toLoadRect (harg3.unread x2))⟩]) (ix2 e n)
      = ∑ t : Fin 8192, x1 (ix2 e t) * x2 (ix2 t n) := by
  have hb : View.readAt (Elt Ideal) arg3.view (Rect.unit (s := S8192x256) ![0, 0] S8192x256.size inb_S8192x256_S8192x256_0_0).toLoadRect (harg3.unread x2) = x2 := by
    rw [View.readAt_eq_ld, harg3.read_unread]
    funext y
    exact View.ld_unit_apply_of _ _ _ _ _ _ (by intro a; fin_cases a <;> simp)
  have ha : ∀ (q : ℕ) (inb) (r : Fin 512) (t : Fin 8192) (y : Fin 2048) (hy : y.val = q + r.val),
      View.readAt (Elt Ideal) arg2.view (Rect.unit (s := S2048x8192) ![q, 0] S512x8192.size inb).toLoadRect (harg2.unread x1) (ix2 r t) = x1 (ix2 y t) := by
    intro q inb r t y hy
    rw [View.readAt_eq_ld, harg2.read_unread]
    exact View.ld_unit_apply_of _ _ _ _ _ _ (by intro a; fin_cases a <;> simp [hy, ix2])
  have main : ∀ (q : ℕ) (inb) (r : Fin 512) (hy : e.val = q + r.val),
      k0_pay50 (F := Ideal) (View.readAt (Elt Ideal) arg2.view (Rect.unit (s := S2048x8192) ![q, 0] S512x8192.size inb).toLoadRect (harg2.unread x1))
        (View.readAt (Elt Ideal) arg3.view (Rect.unit (s := S8192x256) ![0, 0] S8192x256.size inb_S8192x256_S8192x256_0_0).toLoadRect (harg3.unread x2)) (ix2 r n)
        = ∑ t : Fin 8192, x1 (ix2 e t) * x2 (ix2 t n) := by
    intro q inb r hy
    rw [prod_ix, hb]
    exact Finset.sum_congr rfl fun t _ => by rw [ha q inb r t e hy]
  have he := e.isLt
  have p1 : k0_pay51 (F := Ideal) = k0_pay50 := rfl
  have p2 : k0_pay52 (F := Ideal) = k0_pay50 := rfl
  have p3 : k0_pay53 (F := Ideal) = k0_pay50 := rfl
  rw [p1, p2, p3]
  exact quad_read arg18 f _ _ _ _ _ e n (main 0 _) (main 512 _) (main 1024 _) (main 1536 _)

/-- One row of a scale array, loaded at the row of half `h` of point `i`. -/
theorem row_ix (i : grid0.Coords) (arg : Memref sig .tc .vmem S22x2048 .f32) (harg : arg.IsWhole) (x : Vec Ideal S22x2048 .f32) (h : Fin 2)
    (inb) (e : Fin 2048) (y : Fin 22) (hy : y.val = 2 * (i 0).val + h.val) :
    View.readAt (Elt Ideal) arg.view (Rect.unit (s := S22x2048) (k0_off1 i (BitVec.ofNat 32 h.val)) S1x2048.size inb).toLoadRect (harg.unread x) (ix2 0 e)
      = x (ix2 y e) := by
  rw [View.readAt_eq_ld, harg.read_unread]
  have hoff := k0_off1_eq i h
  revert inb
  rw [hoff]
  intro inb
  exact View.ld_unit_apply_of _ _ _ _ _ _ (by intro a; fin_cases a <;> simp [hy, ix2])

/-- The six loaded rows, side by side as columns. -/
theorem cols_ix (a b c d f g : Vec Ideal S1x2048 .f32) (e : Fin 2048) :
    k0_pay54 (F := Ideal) a b c d f g (ix2 e 0) = a (ix2 0 e) ∧ k0_pay54 (F := Ideal) a b c d f g (ix2 e 1) = b (ix2 0 e) ∧
    k0_pay54 (F := Ideal) a b c d f g (ix2 e 2) = c (ix2 0 e) ∧ k0_pay54 (F := Ideal) a b c d f g (ix2 e 3) = d (ix2 0 e) ∧
    k0_pay54 (F := Ideal) a b c d f g (ix2 e 4) = f (ix2 0 e) ∧ k0_pay54 (F := Ideal) a b c d f g (ix2 e 5) = g (ix2 0 e) := by
  refine ⟨?_, ?_, ?_, ?_, ?_, ?_⟩ <;> pointwise [k0_pay54]

/-- A column of the scales' scratch. -/
theorem cs_read (arg19 : Memref sig .tc .vmem S2048x128 .f32) (f : BufTy.Contents (Elt Ideal) arg19.view.ty) (w : Vec Ideal S2048x6 .f32)
    (e : Fin 2048) (n : Fin 128) (n' : Fin 6) (h : n.val = n'.val) :
    arg19.view.read (Elt Ideal) (arg19.view.writes (Elt Ideal) f [⟨Rect.unit (s := S2048x128) ![0, 0] S2048x6.size inb_S2048x128_S2048x6_0_0, w⟩]) (ix2 e n)
      = w (ix2 e n') := by
  refine View.read_writes_cons_unit_of_mem arg19.view f inb_S2048x128_S2048x6_0_0 w [] (ix2 e n) (ix2 e n') rfl ?_
  intro a
  match a with
  | ⟨0, _⟩ => show e.val = 0 + e.val; omega
  | ⟨1, _⟩ => show n.val = 0 + n'.val; omega

section Reads

variable (c : Dev nD) (i : grid0.Coords) (arg1 : Memref sig .tc .smem S5 .f32) (harg1 : arg1.IsWhole) (arg2 : Memref sig .tc .vmem S2048x8192 .bf16) (harg2 : arg2.IsWhole) (arg3 : Memref sig .tc .vmem S8192x256 .bf16) (harg3 : arg3.IsWhole) (arg4 : Memref sig .tc .vmem S2048x256 .bf16) (harg4 : arg4.IsWhole) (arg5 : Memref sig .tc .vmem S2048x128 .i8) (harg5 : arg5.IsWhole) (arg6 : Memref sig .tc .vmem S2048x256 .i8) (harg6 : arg6.IsWhole) (arg7 : Memref sig .tc .vmem S2048x256 .i8) (harg7 : arg7.IsWhole) (arg8 : Memref sig .tc .vmem S22x2048 .f32) (harg8 : arg8.IsWhole) (arg9 : Memref sig .tc .vmem S22x2048 .f32) (harg9 : arg9.IsWhole) (arg10 : Memref sig .tc .vmem S22x2048 .f32) (harg10 : arg10.IsWhole) (arg11 : Memref sig .tc .vmem S2048x256 .f32) (harg11 : arg11.IsWhole) (arg12 : Memref sig .tc .vmem S2048x256 .bf16) (harg12 : arg12.IsWhole) (arg13 : Memref sig .tc .vmem S2048x256 .i8) (harg13 : arg13.IsWhole) (arg14 : Memref sig .tc .vmem S2048x256 .i8) (harg14 : arg14.IsWhole) (arg15 : Memref sig .tc .vmem S22x2048 .f32) (harg15 : arg15.IsWhole) (arg16 : Memref sig .tc .vmem S22x2048 .f32) (harg16 : arg16.IsWhole) (arg17 : Memref sig .tc .vmem S22x2048 .f32) (harg17 : arg17.IsWhole) (arg18 : Memref sig .tc .vmem S2048x256 .f32) (harg18 : arg18.IsWhole) (arg19 : Memref sig .tc .vmem S2048x128 .f32) (harg19 : arg19.IsWhole) (arg20 : Memref sig .tc .vmem S2048x128 .f32) (harg20 : arg20.IsWhole)
  (v24 c0 : BitVec 32) (v56 : IVec S32x128 32) (a0 : BitVec 32)
  (x0 : Vec Ideal S5 .f32) (x1 : Vec Ideal S2048x8192 .bf16) (x2 : Vec Ideal S8192x256 .bf16)
  (x3 : Vec Ideal S2048x256 .bf16) (x4 : Vec Ideal S2048x128 .i8) (x5 x6 : Vec Ideal S2048x256 .i8) (x7 x8 x9 : Vec Ideal S22x2048 .f32)
  (fs0 : BufTy.Contents (Elt Ideal) arg18.view.ty) (fs1 : BufTy.Contents (Elt Ideal) arg19.view.ty)

/-- The gradient scratch's contents when the loop begins. -/
abbrev acc : BufTy.Contents (Elt Ideal) arg18.view.ty := arg18.view.writes (Elt Ideal) fs0
      [⟨Rect.unit (s := S2048x256) ![1536, 0] S512x256.size inb_S2048x256_S512x256_1536_0, k0_pay53 (F := Ideal)
        (View.readAt (Elt Ideal) arg2.view (Rect.unit (s := S2048x8192) ![1536, 0] S512x8192.size inb_S2048x8192_S512x8192_1536_0).toLoadRect (harg2.unread x1))
        (View.readAt (Elt Ideal) arg3.view (Rect.unit (s := S8192x256) ![0, 0] S8192x256.size inb_S8192x256_S8192x256_0_0).toLoadRect (harg3.unread x2))⟩,
       ⟨Rect.unit (s := S2048x256) ![1024, 0] S512x256.size inb_S2048x256_S512x256_1024_0, k0_pay52 (F := Ideal)
        (View.readAt (Elt Ideal) arg2.view (Rect.unit (s := S2048x8192) ![1024, 0] S512x8192.size inb_S2048x8192_S512x8192_1024_0).toLoadRect (harg2.unread x1))
        (View.readAt (Elt Ideal) arg3.view (Rect.unit (s := S8192x256) ![0, 0] S8192x256.size inb_S8192x256_S8192x256_0_0).toLoadRect (harg3.unread x2))⟩,
       ⟨Rect.unit (s := S2048x256) ![512, 0] S512x256.size inb_S2048x256_S512x256_512_0, k0_pay51 (F := Ideal)
        (View.readAt (Elt Ideal) arg2.view (Rect.unit (s := S2048x8192) ![512, 0] S512x8192.size inb_S2048x8192_S512x8192_512_0).toLoadRect (harg2.unread x1))
        (View.readAt (Elt Ideal) arg3.view (Rect.unit (s := S8192x256) ![0, 0] S8192x256.size inb_S8192x256_S8192x256_0_0).toLoadRect (harg3.unread x2))⟩,
       ⟨Rect.unit (s := S2048x256) ![0, 0] S512x256.size inb_S2048x256_S512x256_0_0, k0_pay50 (F := Ideal)
        (View.readAt (Elt Ideal) arg2.view (Rect.unit (s := S2048x8192) ![0, 0] S512x8192.size inb_S2048x8192_S512x8192_0_0).toLoadRect (harg2.unread x1))
        (View.readAt (Elt Ideal) arg3.view (Rect.unit (s := S8192x256) ![0, 0] S8192x256.size inb_S8192x256_S8192x256_0_0).toLoadRect (harg3.unread x2))⟩]

/-- The scale scratch's contents when the loop begins. -/
abbrev scl : BufTy.Contents (Elt Ideal) arg19.view.ty := arg19.view.writes (Elt Ideal) fs1
      [⟨Rect.unit (s := S2048x128) ![0, 0] S2048x6.size inb_S2048x128_S2048x6_0_0, k0_pay54 (F := Ideal)
        (View.readAt (Elt Ideal) arg8.view (Rect.unit (s := S22x2048) (k0_off1 i 0#32) S1x2048.size (k0_off1_inb i 0)).toLoadRect (harg8.unread x7))
        (View.readAt (Elt Ideal) arg8.view (Rect.unit (s := S22x2048) (k0_off1 i 1#32) S1x2048.size (k0_off1_inb i 1)).toLoadRect (harg8.unread x7))
        (View.readAt (Elt Ideal) arg9.view (Rect.unit (s := S22x2048) (k0_off1 i 0#32) S1x2048.size (k0_off1_inb i 0)).toLoadRect (harg9.unread x8))
        (View.readAt (Elt Ideal) arg9.view (Rect.unit (s := S22x2048) (k0_off1 i 1#32) S1x2048.size (k0_off1_inb i 1)).toLoadRect (harg9.unread x8))
        (View.readAt (Elt Ideal) arg10.view (Rect.unit (s := S22x2048) (k0_off1 i 0#32) S1x2048.size (k0_off1_inb i 0)).toLoadRect (harg10.unread x9))
        (View.readAt (Elt Ideal) arg10.view (Rect.unit (s := S22x2048) (k0_off1 i 1#32) S1x2048.size (k0_off1_inb i 1)).toLoadRect (harg10.unread x9))⟩]

/-- One of the step's scalars, loaded. -/
abbrev sca2 : Elt Ideal .f32 := View.readAt (Elt Ideal) arg1.view (Rect.unit (s := S5) ![2] S1.size inb_S5_S1_2).toLoadRect (harg1.unread x0) (Shape.Idx.first (show 0 < S1.numel by decide))
/-- One of the step's scalars, loaded. -/
abbrev sca3 : Elt Ideal .f32 := View.readAt (Elt Ideal) arg1.view (Rect.unit (s := S5) ![3] S1.size inb_S5_S1_3).toLoadRect (harg1.unread x0) (Shape.Idx.first (show 0 < S1.numel by decide))
/-- One of the step's scalars, loaded. -/
abbrev sca4 : Elt Ideal .f32 := View.readAt (Elt Ideal) arg1.view (Rect.unit (s := S5) ![4] S1.size inb_S5_S1_4).toLoadRect (harg1.unread x0) (Shape.Idx.first (show 0 < S1.numel by decide))

/-- The group of row `e`, half `h`, that the loop reads is the group of the staged blocks. -/
theorem mgrp_eq (e : Fin 2048) (h : Fin 2) :
    mgrp arg4 arg5 arg6 arg7 arg18 arg19 (sca2 arg1 harg1 x0) (sca3 arg1 harg1 x0) (sca4 arg1 harg1 x0) (harg4.unread x3) (harg5.unread x4) (harg6.unread x5) (harg7.unread x6)
      (acc arg2 harg2 arg3 harg3 arg18 x1 x2 fs0) (scl i arg8 harg8 arg9 harg9 arg10 harg10 arg19 x7 x8 x9 fs1) e h
      = kgrp i x0 x1 x2 x3 x4 x5 x6 x7 x8 x9 e h := by
  have hi : (i 0).val < 11 := (i 0).isLt
  unfold mgrp wgrp kgrp
  rw [harg4.read_unread, harg5.read_unread, harg6.read_unread, harg7.read_unread]
  congr 1
  · funext l; exact acc_read arg2 harg2 arg3 harg3 arg18 fs0 x1 x2 e _
  · match h with
    | ⟨0, _⟩ => exact (cs_read arg19 fs1 _ e _ 0 rfl).trans ((cols_ix _ _ _ _ _ _ e).1.trans (row_ix i arg8 harg8 x7 0 _ e _ rfl))
    | ⟨1, _⟩ => exact (cs_read arg19 fs1 _ e _ 1 rfl).trans ((cols_ix _ _ _ _ _ _ e).2.1.trans (row_ix i arg8 harg8 x7 1 _ e _ rfl))
  · match h with
    | ⟨0, _⟩ => exact (cs_read arg19 fs1 _ e _ 2 rfl).trans ((cols_ix _ _ _ _ _ _ e).2.2.1.trans (row_ix i arg9 harg9 x8 0 _ e _ rfl))
    | ⟨1, _⟩ => exact (cs_read arg19 fs1 _ e _ 3 rfl).trans ((cols_ix _ _ _ _ _ _ e).2.2.2.1.trans (row_ix i arg9 harg9 x8 1 _ e _ rfl))
  · match h with
    | ⟨0, _⟩ => exact (cs_read arg19 fs1 _ e _ 4 rfl).trans ((cols_ix _ _ _ _ _ _ e).2.2.2.2.1.trans (row_ix i arg10 harg10 x9 0 _ e _ rfl))
    | ⟨1, _⟩ => exact (cs_read arg19 fs1 _ e _ 5 rfl).trans ((cols_ix _ _ _ _ _ _ e).2.2.2.2.2.trans (row_ix i arg10 harg10 x9 1 _ e _ rfl))
  · show View.readAt _ _ _ _ _ = _
    rw [View.readAt_eq_ld, harg1.read_unread]
    exact View.ld_unit_apply_of _ _ _ _ _ _ (by intro a; fin_cases a; rfl)
  · show View.readAt _ _ _ _ _ = _
    rw [View.readAt_eq_ld, harg1.read_unread]
    exact View.ld_unit_apply_of _ _ _ _ _ _ (by intro a; fin_cases a; rfl)
  · show View.readAt _ _ _ _ _ = _
    rw [View.readAt_eq_ld, harg1.read_unread]
    exact View.ld_unit_apply_of _ _ _ _ _ _ (by intro a; fin_cases a; rfl)

/-- What the loop leaves in the block of the gradient. -/
theorem read_arg11 (f : BufTy.Contents (Elt Ideal) arg11.view.ty) :
    arg11.view.read (Elt Ideal) (arg11.view.writes (Elt Ideal) f (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a0 v24 c0
        (sca2 arg1 harg1 x0) (sca3 arg1 harg1 x0) (sca4 arg1 harg1 x0) v56 (harg4.unread x3) (harg5.unread x4) (harg6.unread x5) (harg7.unread x6)
        (acc arg2 harg2 arg3 harg3 arg18 x1 x2 fs0) (scl i arg8 harg8 arg9 harg9 arg10 harg10 arg19 x7 x8 x9 fs1)
        (Scf.trips k0_t1_loop.lb k0_t1_loop.ub k0_t1_loop.st)).1)
      = blk11 i x0 x1 x2 x3 x4 x5 x6 x7 x8 x9 := by
  funext y
  have h1 : (y 1).val < 256 := (y 1).isLt
  have h0 : (y 0).val < 2048 := (y 0).isLt
  have hy : y = ix2 (y 0) ⟨128 * ((y 1).val / 128) + (y 1).val % 128, by omega⟩ := by
    funext a
    match a with
    | ⟨0, _⟩ => rfl
    | ⟨1, _⟩ => exact Fin.ext (by show (y 1).val = 128 * ((y 1).val / 128) + (y 1).val % 128; omega)
  have hl := loop11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 c0 (sca2 arg1 harg1 x0) (sca3 arg1 harg1 x0) (sca4 arg1 harg1 x0) v56 (harg4.unread x3) (harg5.unread x4)
    (harg6.unread x5) (harg7.unread x6) (acc arg2 harg2 arg3 harg3 arg18 x1 x2 fs0) (scl i arg8 harg8 arg9 harg9 arg10 harg10 arg19 x7 x8 x9 fs1)
    a0 f 64 (le_refl _) (y 0) ⟨(y 1).val / 128, by omega⟩ ⟨(y 1).val % 128, by omega⟩ (by omega)
  refine (congrArg _ hy).trans (hl.trans (congrArg (fun G => StepSpec.Grp.dv G ⟨(y 1).val % 128, by omega⟩) ?_))
  exact mgrp_eq i arg1 harg1 arg2 harg2 arg3 harg3 arg4 harg4 arg5 harg5 arg6 harg6 arg7 harg7 arg8 harg8 arg9 harg9 arg10 harg10 arg18 arg19 x0 x1 x2 x3 x4 x5 x6 x7 x8 x9 fs0 fs1 (y 0) ⟨(y 1).val / 128, by omega⟩

/-- What the loop leaves in the block of the stepped rounding variable. -/
theorem read_arg12 (f : BufTy.Contents (Elt Ideal) arg12.view.ty) :
    arg12.view.read (Elt Ideal) (arg12.view.writes (Elt Ideal) f (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a0 v24 c0
        (sca2 arg1 harg1 x0) (sca3 arg1 harg1 x0) (sca4 arg1 harg1 x0) v56 (harg4.unread x3) (harg5.unread x4) (harg6.unread x5) (harg7.unread x6)
        (acc arg2 harg2 arg3 harg3 arg18 x1 x2 fs0) (scl i arg8 harg8 arg9 harg9 arg10 harg10 arg19 x7 x8 x9 fs1)
        (Scf.trips k0_t1_loop.lb k0_t1_loop.ub k0_t1_loop.st)).2.1)
      = blk12 i x0 x1 x2 x3 x4 x5 x6 x7 x8 x9 := by
  funext y
  have h1 : (y 1).val < 256 := (y 1).isLt
  have h0 : (y 0).val < 2048 := (y 0).isLt
  have hy : y = ix2 (y 0) ⟨128 * ((y 1).val / 128) + (y 1).val % 128, by omega⟩ := by
    funext a
    match a with
    | ⟨0, _⟩ => rfl
    | ⟨1, _⟩ => exact Fin.ext (by show (y 1).val = 128 * ((y 1).val / 128) + (y 1).val % 128; omega)
  have hl := loop12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 c0 (sca2 arg1 harg1 x0) (sca3 arg1 harg1 x0) (sca4 arg1 harg1 x0) v56 (harg4.unread x3) (harg5.unread x4)
    (harg6.unread x5) (harg7.unread x6) (acc arg2 harg2 arg3 harg3 arg18 x1 x2 fs0) (scl i arg8 harg8 arg9 harg9 arg10 harg10 arg19 x7 x8 x9 fs1)
    a0 f 64 (le_refl _) (y 0) ⟨(y 1).val / 128, by omega⟩ ⟨(y 1).val % 128, by omega⟩ (by omega)
  refine (congrArg _ hy).trans (hl.trans (congrArg (fun G => StepSpec.Grp.vnew G ⟨(y 1).val % 128, by omega⟩) ?_))
  exact mgrp_eq i arg1 harg1 arg2 harg2 arg3 harg3 arg4 harg4 arg5 harg5 arg6 harg6 arg7 harg7 arg8 harg8 arg9 harg9 arg10 harg10 arg18 arg19 x0 x1 x2 x3 x4 x5 x6 x7 x8 x9 fs0 fs1 (y 0) ⟨(y 1).val / 128, by omega⟩

/-- What the loop leaves in the block of the first moment's codes. -/
theorem read_arg13 (f : BufTy.Contents (Elt Ideal) arg13.view.ty) :
    arg13.view.read (Elt Ideal) (arg13.view.writes (Elt Ideal) f (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a0 v24 c0
        (sca2 arg1 harg1 x0) (sca3 arg1 harg1 x0) (sca4 arg1 harg1 x0) v56 (harg4.unread x3) (harg5.unread x4) (harg6.unread x5) (harg7.unread x6)
        (acc arg2 harg2 arg3 harg3 arg18 x1 x2 fs0) (scl i arg8 harg8 arg9 harg9 arg10 harg10 arg19 x7 x8 x9 fs1)
        (Scf.trips k0_t1_loop.lb k0_t1_loop.ub k0_t1_loop.st)).2.2.1)
      = blk13 i x0 x1 x2 x3 x4 x5 x6 x7 x8 x9 := by
  funext y
  have h1 : (y 1).val < 256 := (y 1).isLt
  have h0 : (y 0).val < 2048 := (y 0).isLt
  have hy : y = ix2 (y 0) ⟨128 * ((y 1).val / 128) + (y 1).val % 128, by omega⟩ := by
    funext a
    match a with
    | ⟨0, _⟩ => rfl
    | ⟨1, _⟩ => exact Fin.ext (by show (y 1).val = 128 * ((y 1).val / 128) + (y 1).val % 128; omega)
  have hl := loop13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 c0 (sca2 arg1 harg1 x0) (sca3 arg1 harg1 x0) (sca4 arg1 harg1 x0) v56 (harg4.unread x3) (harg5.unread x4)
    (harg6.unread x5) (harg7.unread x6) (acc arg2 harg2 arg3 harg3 arg18 x1 x2 fs0) (scl i arg8 harg8 arg9 harg9 arg10 harg10 arg19 x7 x8 x9 fs1)
    a0 f 64 (le_refl _) (y 0) ⟨(y 1).val / 128, by omega⟩ ⟨(y 1).val % 128, by omega⟩ (by omega)
  refine (congrArg _ hy).trans (hl.trans (congrArg (fun G => StepSpec.Grp.mcode G ⟨(y 1).val % 128, by omega⟩) ?_))
  exact mgrp_eq i arg1 harg1 arg2 harg2 arg3 harg3 arg4 harg4 arg5 harg5 arg6 harg6 arg7 harg7 arg8 harg8 arg9 harg9 arg10 harg10 arg18 arg19 x0 x1 x2 x3 x4 x5 x6 x7 x8 x9 fs0 fs1 (y 0) ⟨(y 1).val / 128, by omega⟩

/-- What the loop leaves in the block of the second moment's codes. -/
theorem read_arg14 (f : BufTy.Contents (Elt Ideal) arg14.view.ty) :
    arg14.view.read (Elt Ideal) (arg14.view.writes (Elt Ideal) f (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a0 v24 c0
        (sca2 arg1 harg1 x0) (sca3 arg1 harg1 x0) (sca4 arg1 harg1 x0) v56 (harg4.unread x3) (harg5.unread x4) (harg6.unread x5) (harg7.unread x6)
        (acc arg2 harg2 arg3 harg3 arg18 x1 x2 fs0) (scl i arg8 harg8 arg9 harg9 arg10 harg10 arg19 x7 x8 x9 fs1)
        (Scf.trips k0_t1_loop.lb k0_t1_loop.ub k0_t1_loop.st)).2.2.2.1)
      = blk14 i x0 x1 x2 x3 x4 x5 x6 x7 x8 x9 := by
  funext y
  have h1 : (y 1).val < 256 := (y 1).isLt
  have h0 : (y 0).val < 2048 := (y 0).isLt
  have hy : y = ix2 (y 0) ⟨128 * ((y 1).val / 128) + (y 1).val % 128, by omega⟩ := by
    funext a
    match a with
    | ⟨0, _⟩ => rfl
    | ⟨1, _⟩ => exact Fin.ext (by show (y 1).val = 128 * ((y 1).val / 128) + (y 1).val % 128; omega)
  have hl := loop14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v24 c0 (sca2 arg1 harg1 x0) (sca3 arg1 harg1 x0) (sca4 arg1 harg1 x0) v56 (harg4.unread x3) (harg5.unread x4)
    (harg6.unread x5) (harg7.unread x6) (acc arg2 harg2 arg3 harg3 arg18 x1 x2 fs0) (scl i arg8 harg8 arg9 harg9 arg10 harg10 arg19 x7 x8 x9 fs1)
    a0 f 64 (le_refl _) (y 0) ⟨(y 1).val / 128, by omega⟩ ⟨(y 1).val % 128, by omega⟩ (by omega)
  refine (congrArg _ hy).trans (hl.trans (congrArg (fun G => StepSpec.Grp.scode G ⟨(y 1).val % 128, by omega⟩) ?_))
  exact mgrp_eq i arg1 harg1 arg2 harg2 arg3 harg3 arg4 harg4 arg5 harg5 arg6 harg6 arg7 harg7 arg8 harg8 arg9 harg9 arg10 harg10 arg18 arg19 x0 x1 x2 x3 x4 x5 x6 x7 x8 x9 fs0 fs1 (y 0) ⟨(y 1).val / 128, by omega⟩

end Reads

end Cert.ColsIdeal.Val

end
-- ==== Proof.ColsIdealRun.lean ====
module

public import proofs.«01_k».proof.Proof.Gen.ColsIdeal.Loops
public import proofs.«01_k».proof.Proof.Gen.ColsIdeal.Frame
public import proofs.«01_k».proof.Proof.ColsVal
public import Idealize.ShloMosaic.Lib.Claim

@[expose] public section

set_option maxRecDepth 16384

noncomputable section

namespace Cert.ColsIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ColsIdeal Cert.ColsIdeal.Gen Cert.ColsIdeal.Val

variable (m : (ℓ : Loc nD τ sig) → Buf (Elt Ideal) ℓ) (ρ : Dev nD → PrngReg)

local notation "𝕄" => MT nD τ sig Unit (Elt Ideal) ℕ (UR sig nD τ) ℕ

set_option maxHeartbeats 8000000 in
/-- The body's triple at any grid point: on whole staging memrefs, the inputs' at their contents and
    everything else at anything, the body runs and hands back the inputs as they were, the four array results' at the blocks stated of them, the scale results' at some contents,
    the scratch at some contents. -/
theorem body_run (c : Dev nD) (i : grid0.Coords) (arg1 : Memref sig .tc .smem S5 .f32) (harg1 : arg1.IsWhole) (arg2 : Memref sig .tc .vmem S2048x8192 .bf16) (harg2 : arg2.IsWhole) (arg3 : Memref sig .tc .vmem S8192x256 .bf16) (harg3 : arg3.IsWhole) (arg4 : Memref sig .tc .vmem S2048x256 .bf16) (harg4 : arg4.IsWhole) (arg5 : Memref sig .tc .vmem S2048x128 .i8) (harg5 : arg5.IsWhole) (arg6 : Memref sig .tc .vmem S2048x256 .i8) (harg6 : arg6.IsWhole) (arg7 : Memref sig .tc .vmem S2048x256 .i8) (harg7 : arg7.IsWhole) (arg8 : Memref sig .tc .vmem S22x2048 .f32) (harg8 : arg8.IsWhole) (arg9 : Memref sig .tc .vmem S22x2048 .f32) (harg9 : arg9.IsWhole) (arg10 : Memref sig .tc .vmem S22x2048 .f32) (harg10 : arg10.IsWhole) (arg11 : Memref sig .tc .vmem S2048x256 .f32) (harg11 : arg11.IsWhole) (arg12 : Memref sig .tc .vmem S2048x256 .bf16) (harg12 : arg12.IsWhole) (arg13 : Memref sig .tc .vmem S2048x256 .i8) (harg13 : arg13.IsWhole) (arg14 : Memref sig .tc .vmem S2048x256 .i8) (harg14 : arg14.IsWhole) (arg15 : Memref sig .tc .vmem S22x2048 .f32) (harg15 : arg15.IsWhole) (arg16 : Memref sig .tc .vmem S22x2048 .f32) (harg16 : arg16.IsWhole) (arg17 : Memref sig .tc .vmem S22x2048 .f32) (harg17 : arg17.IsWhole) (arg18 : Memref sig .tc .vmem S2048x256 .f32) (harg18 : arg18.IsWhole) (arg19 : Memref sig .tc .vmem S2048x128 .f32) (harg19 : arg19.IsWhole) (arg20 : Memref sig .tc .vmem S2048x128 .f32) (harg20 : arg20.IsWhole)
    (x0 : Vec Ideal S5 .f32) (x1 : Vec Ideal S2048x8192 .bf16) (x2 : Vec Ideal S8192x256 .bf16) (x3 : Vec Ideal S2048x256 .bf16) (x4 : Vec Ideal S2048x128 .i8) (x5 : Vec Ideal S2048x256 .i8) (x6 : Vec Ideal S2048x256 .i8) (x7 : Vec Ideal S22x2048 .f32) (x8 : Vec Ideal S22x2048 .f32) (x9 : Vec Ideal S22x2048 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (blk11 i x0 x1 x2 x3 x4 x5 x6 x7 x8 x9) ∗ owns (c : Thread nD τ) arg12 fullShare (blk12 i x0 x1 x2 x3 x4 x5 x6 x7 x8 x9) ∗ owns (c : Thread nD τ) arg13 fullShare (blk13 i x0 x1 x2 x3 x4 x5 x6 x7 x8 x9) ∗ owns (c : Thread nD τ) arg14 fullShare (blk14 i x0 x1 x2 x3 x4 x5 x6 x7 x8 x9) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
        ⊢ wp frame (wpE (defs₀ (F := Ideal)) Variants.none c none) E (cc0_dw_cols_2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  intro E K
  simp only [cc0_dw_cols_2_eq_skeleton]; unfold cc0_dw_cols_2_skel
  simp only [k0_part10_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, ⟨%ds1, %fs1, -, HS1⟩, ⟨%ds2, %fs2, -, HS2⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; swap; · iexact H10
    ipureintro; exact read_arg11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ x0 x1 x2 x3 x4 x5 x6 x7 x8 x9 _ _ _
  isplitl [H11]
  · iexists _; isplitr; swap; · iexact H11
    ipureintro; exact read_arg12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ x0 x1 x2 x3 x4 x5 x6 x7 x8 x9 _ _ _
  isplitl [H12]
  · iexists _; isplitr; swap; · iexact H12
    ipureintro; exact read_arg13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ x0 x1 x2 x3 x4 x5 x6 x7 x8 x9 _ _ _
  isplitl [H13]
  · iexists _; isplitr; swap; · iexact H13
    ipureintro; exact read_arg14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ x0 x1 x2 x3 x4 x5 x6 x7 x8 x9 _ _ _
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

/-- Window 0's staging memref at point `t`. -/
abbrev ms0_0 (t : Fin cfg0.N) : Memref sig .tc .smem S5 .f32 := win0_0.stage (cfg0.slots t 0)
/-- Window 1's staging memref at point `t`. -/
abbrev ms0_1 (t : Fin cfg0.N) : Memref sig .tc .vmem S2048x8192 .bf16 := win0_1.stage (cfg0.slots t 1)
/-- Window 2's staging memref at point `t`. -/
abbrev ms0_2 (t : Fin cfg0.N) : Memref sig .tc .vmem S8192x256 .bf16 := win0_2.stage (cfg0.slots t 2)
/-- Window 3's staging memref at point `t`. -/
abbrev ms0_3 (t : Fin cfg0.N) : Memref sig .tc .vmem S2048x256 .bf16 := win0_3.stage (cfg0.slots t 3)
/-- Window 4's staging memref at point `t`. -/
abbrev ms0_4 (t : Fin cfg0.N) : Memref sig .tc .vmem S2048x128 .i8 := win0_4.stage (cfg0.slots t 4)
/-- Window 5's staging memref at point `t`. -/
abbrev ms0_5 (t : Fin cfg0.N) : Memref sig .tc .vmem S2048x256 .i8 := win0_5.stage (cfg0.slots t 5)
/-- Window 6's staging memref at point `t`. -/
abbrev ms0_6 (t : Fin cfg0.N) : Memref sig .tc .vmem S2048x256 .i8 := win0_6.stage (cfg0.slots t 6)
/-- Window 7's staging memref at point `t`. -/
abbrev ms0_7 (t : Fin cfg0.N) : Memref sig .tc .vmem S22x2048 .f32 := win0_7.stage (cfg0.slots t 7)
/-- Window 8's staging memref at point `t`. -/
abbrev ms0_8 (t : Fin cfg0.N) : Memref sig .tc .vmem S22x2048 .f32 := win0_8.stage (cfg0.slots t 8)
/-- Window 9's staging memref at point `t`. -/
abbrev ms0_9 (t : Fin cfg0.N) : Memref sig .tc .vmem S22x2048 .f32 := win0_9.stage (cfg0.slots t 9)
/-- Window 10's staging memref at point `t`. -/
abbrev ms0_10 (t : Fin cfg0.N) : Memref sig .tc .vmem S2048x256 .f32 := win0_10.stage (cfg0.slots t 10)
/-- Window 11's staging memref at point `t`. -/
abbrev ms0_11 (t : Fin cfg0.N) : Memref sig .tc .vmem S2048x256 .bf16 := win0_11.stage (cfg0.slots t 11)
/-- Window 12's staging memref at point `t`. -/
abbrev ms0_12 (t : Fin cfg0.N) : Memref sig .tc .vmem S2048x256 .i8 := win0_12.stage (cfg0.slots t 12)
/-- Window 13's staging memref at point `t`. -/
abbrev ms0_13 (t : Fin cfg0.N) : Memref sig .tc .vmem S2048x256 .i8 := win0_13.stage (cfg0.slots t 13)
/-- Window 14's staging memref at point `t`. -/
abbrev ms0_14 (t : Fin cfg0.N) : Memref sig .tc .vmem S22x2048 .f32 := win0_14.stage (cfg0.slots t 14)
/-- Window 15's staging memref at point `t`. -/
abbrev ms0_15 (t : Fin cfg0.N) : Memref sig .tc .vmem S22x2048 .f32 := win0_15.stage (cfg0.slots t 15)
/-- Window 16's staging memref at point `t`. -/
abbrev ms0_16 (t : Fin cfg0.N) : Memref sig .tc .vmem S22x2048 .f32 := win0_16.stage (cfg0.slots t 16)
/-- The kernel's scratch 0, as a memref. -/
abbrev scM0_0 : Memref sig .tc .vmem S2048x256 .f32 := Memref.whole cc0_scratch0
/-- The kernel's scratch 1, as a memref. -/
abbrev scM0_1 : Memref sig .tc .vmem S2048x128 .f32 := Memref.whole cc0_scratch1
/-- The kernel's scratch 2, as a memref. -/
abbrev scM0_2 : Memref sig .tc .vmem S2048x128 .f32 := Memref.whole cc0_scratch2

/-- The invariant with the scratch as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The result windows nothing is said of. -/
def forgets0 : Fin 17 → Bool := fun w => decide (14 ≤ w.val)

/-- The proof data: the arrays as launched, each input's buffer at its block, the results named or forgotten. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => blk11 (grid0.coords t) (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => blk12 (grid0.coords t) (iblk m c 0 t) (iblk m c 1 t) (iblk m c 2 t) (iblk m c 3 t) (iblk m c 4 t) (iblk m c 5 t) (iblk m c 6 t) (iblk m c 7 t) (iblk m c 8 t) (iblk m c 9 t)
    | ⟨12, _⟩ => blk13 (grid0.coords t) (iblk m c 0 t) (iblk m c 1 t) (iblk m c 2 t) (iblk m c 3 t) (iblk m c 4 t) (iblk m c 5 t) (iblk m c 6 t) (iblk m c 7 t) (iblk m c 8 t) (iblk m c 9 t)
    | ⟨13, _⟩ => blk14 (grid0.coords t) (iblk m c 0 t) (iblk m c 1 t) (iblk m c 2 t) (iblk m c 3 t) (iblk m c 4 t) (iblk m c 5 t) (iblk m c 6 t) (iblk m c 7 t) (iblk m c 8 t) (iblk m c 9 t)
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd h (by unfold cfg0; simp)
  Φ _ := Pipeline.ΦA spec0 c
  q _ := fullShare
  owed _ := 0

/-- The proof data's arrays are those at launch. -/
theorem A_eq (c : Dev nD) (w : Fin cfg0.W) : (dats m 0 c).A w = V m c (Pipeline.arrRef spec0 w) := by
  dsimp only [dats]

/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]
/-- What the body leaves in window 6. -/
theorem after0_6 (c : Dev nD) (t : Fin cfg0.N) : (dats m 0 c).after 6 t = iblk m c 6 t := by dsimp only [dats]
/-- What the body leaves in window 7. -/
theorem after0_7 (c : Dev nD) (t : Fin cfg0.N) : (dats m 0 c).after 7 t = iblk m c 7 t := by dsimp only [dats]
/-- What the body leaves in window 8. -/
theorem after0_8 (c : Dev nD) (t : Fin cfg0.N) : (dats m 0 c).after 8 t = iblk m c 8 t := by dsimp only [dats]
/-- What the body leaves in window 9. -/
theorem after0_9 (c : Dev nD) (t : Fin cfg0.N) : (dats m 0 c).after 9 t = iblk m c 9 t := by dsimp only [dats]
/-- What the body leaves in window 10. -/
theorem after0_10 (c : Dev nD) (t : Fin cfg0.N) : (dats m 0 c).after 10 t = blk11 (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]
/-- What the body leaves in window 11. -/
theorem after0_11 (c : Dev nD) (t : Fin cfg0.N) : (dats m 0 c).after 11 t = blk12 (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]
/-- What the body leaves in window 12. -/
theorem after0_12 (c : Dev nD) (t : Fin cfg0.N) : (dats m 0 c).after 12 t = blk13 (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]
/-- What the body leaves in window 13. -/
theorem after0_13 (c : Dev nD) (t : Fin cfg0.N) : (dats m 0 c).after 13 t = blk14 (grid0.coords t) (iblk m c 0 t) (iblk m c 1 t) (iblk m c 2 t) (iblk m c 3 t) (iblk m c 4 t) (iblk m c 5 t) (iblk m c 6 t) (iblk m c 7 t) (iblk m c 8 t) (iblk m c 9 t) := by dsimp only [dats]
/-- Window 0's buffer holds its block at every point. -/
theorem before0_0 (c : Dev nD) (t : Fin cfg0.N) (d) : (dats m 0 c).before 0 t d = iblk m c 0 t :=
  before0_0_of m (dats m 0 c) (A_eq m c 0) (after0_0 m c) t d
/-- Window 1's buffer holds its block at every point. -/
theorem before0_1 (c : Dev nD) (t : Fin cfg0.N) (d) : (dats m 0 c).before 1 t d = iblk m c 1 t :=
  before0_1_of m (dats m 0 c) (A_eq m c 1) (after0_1 m c) t d
/-- Window 2's buffer holds its block at every point. -/
theorem before0_2 (c : Dev nD) (t : Fin cfg0.N) (d) : (dats m 0 c).before 2 t d = iblk m c 2 t :=
  before0_2_of m (dats m 0 c) (A_eq m c 2) (after0_2 m c) t d
/-- Window 3's buffer holds its block at every point. -/
theorem before0_3 (c : Dev nD) (t : Fin cfg0.N) (d) : (dats m 0 c).before 3 t d = iblk m c 3 t :=
  before0_3_of m (dats m 0 c) (A_eq m c 3) (after0_3 m c) t d
/-- Window 4's buffer holds its block at every point. -/
theorem before0_4 (c : Dev nD) (t : Fin cfg0.N) (d) : (dats m 0 c).before 4 t d = iblk m c 4 t :=
  before0_4_of m (dats m 0 c) (A_eq m c 4) (after0_4 m c) t d
/-- Window 5's buffer holds its block at every point. -/
theorem before0_5 (c : Dev nD) (t : Fin cfg0.N) (d) : (dats m 0 c).before 5 t d = iblk m c 5 t :=
  before0_5_of m (dats m 0 c) (A_eq m c 5) (after0_5 m c) t d
/-- Window 6's buffer holds its block at every point. -/
theorem before0_6 (c : Dev nD) (t : Fin cfg0.N) (d) : (dats m 0 c).before 6 t d = iblk m c 6 t :=
  before0_6_of m (dats m 0 c) (A_eq m c 6) (after0_6 m c) t d
/-- Window 7's buffer holds its block at every point. -/
theorem before0_7 (c : Dev nD) (t : Fin cfg0.N) (d) : (dats m 0 c).before 7 t d = iblk m c 7 t :=
  before0_7_of m (dats m 0 c) (A_eq m c 7) (after0_7 m c) t d
/-- Window 8's buffer holds its block at every point. -/
theorem before0_8 (c : Dev nD) (t : Fin cfg0.N) (d) : (dats m 0 c).before 8 t d = iblk m c 8 t :=
  before0_8_of m (dats m 0 c) (A_eq m c 8) (after0_8 m c) t d
/-- Window 9's buffer holds its block at every point. -/
theorem before0_9 (c : Dev nD) (t : Fin cfg0.N) (d) : (dats m 0 c).before 9 t d = iblk m c 9 t :=
  before0_9_of m (dats m 0 c) (A_eq m c 9) (after0_9 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare d)
    ∗ (∃ d, owns (c : Thread nD τ) (ms0_15 t) fullShare d)
    ∗ (∃ d, owns (c : Thread nD τ) (ms0_16 t) fullShare d))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ (∃ d, owns (c : Thread nD τ) (ms0_14 t) fullShare d)
    ∗ (∃ d, owns (c : Thread nD τ) (ms0_15 t) fullShare d)
    ∗ (∃ d, owns (c : Thread nD τ) (ms0_16 t) fullShare d))

set_option maxHeartbeats 1600000 in
/-- The body at any point, over the pipeline's buffers. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((body_run c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [HS0]; · iexact HS0
  isplitl [HS1]; · iexact HS1
  isplitl [HS2]; · iexact HS2
  iintro ⟨H0, H1, H2, H3, H4, H5, H6, H7, H8, H9, H10, H11, H12, H13, H14, H15, H16, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row at point `t`'s slots. -/
theorem defs₀_row (t : Fin cfg0.N) :
    defs₀ (F := Ideal) .tc cfg0.body (cfg0.bodyArgs t (cfg0.slots t)) = bodyAt0 t := by
  unfold defs₀; rw [Defs.onTc_tc]

/-- The body obligation at every point. -/
theorem body_obligation (c : Dev nD) : BodyObligation (dats m 0 c) (defs₀ (F := Ideal)) Variants.none () Set.univ forgets0 := fun t => by
  rw [bigSep_W0, bigSep_W0, defs₀_row]
  exact triple_restated (sound_body m c t) rfl .rfl fun _ => .rfl

set_option backward.isDefEq.respectTransparency.types false in
/-- The launch runs, the arrays end as the proof data says, and every semaphore counter ends at zero. -/
theorem run_main_quiescent : θ_run defs (onTc (τ := τ) (main (F := Ideal))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end as launched and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(Pipeline.RDat.FramePost.arr_in h.1 c 1 rfl).trans ((A_eq m c 1).trans (V_main_arg0 m c)),
      (Pipeline.RDat.FramePost.arr_in h.1 c 2 rfl).trans ((A_eq m c 2).trans (V_main_arg1 m c)),
      (Pipeline.RDat.FramePost.arr_in h.1 c 0 rfl).trans ((A_eq m c 0).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      (Pipeline.RDat.FramePost.arr_in h.1 c 6 rfl).trans ((A_eq m c 6).trans (V_main_arg6 m c)),
      (Pipeline.RDat.FramePost.arr_in h.1 c 7 rfl).trans ((A_eq m c 7).trans (V_main_arg7 m c)),
      (Pipeline.RDat.FramePost.arr_in h.1 c 8 rfl).trans ((A_eq m c 8).trans (V_main_arg8 m c)),
      (Pipeline.RDat.FramePost.arr_in h.1 c 9 rfl).trans ((A_eq m c 9).trans (V_main_arg9 m c))⟩, h.2⟩) (run_main_quiescent m ρ)

end Cert.ColsIdeal.Run

end
-- ==== Proof.ColsArr.lean ====
/- What the update kernel's four array results hold after its run. Hand-written. -/
module

public import proofs.«01_k».proof.Proof.ColsIdealRun
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.ColsIdeal.Run

open Cert.ColsIdeal Cert.ColsIdeal.Gen Cert.ColsIdeal.Val

variable (m : (ℓ : Loc nD τ sig) → Buf (Elt Ideal) ℓ) (ρ : Dev nD → PrngReg)

/-- Where every window's block lies, at every point. -/
theorem idx : ∀ t : Fin cfg0.N, win0_0.index t = ![0] ∧ win0_1.index t = ![0, 0] ∧ win0_2.index t = ![0, t.val]
    ∧ win0_3.index t = ![0, t.val] ∧ win0_4.index t = ![0, t.val] ∧ win0_5.index t = ![0, t.val] ∧ win0_6.index t = ![0, t.val]
    ∧ win0_7.index t = ![0, 0] ∧ win0_8.index t = ![0, 0] ∧ win0_9.index t = ![0, 0] ∧ win0_10.index t = ![0, t.val]
    ∧ win0_11.index t = ![0, t.val] ∧ win0_12.index t = ![0, t.val] ∧ win0_13.index t = ![0, t.val]
    ∧ (grid0.coords t 0).val = t.val ∧ t.val < 11 :=
  (by decide +kernel : ∀ t : Fin grid0.N, _)

/-- The group of weights that row `e` and group `g` are, read from the kernel's arguments. -/
def cg (c : Dev nD) (e : Fin 2048) (g : Fin 22) : StepSpec.Grp :=
  StepSpec.sgrp (fun e t => (m ((c : Thread nD τ).loc main_arg0) : FVec Ideal S2048x8192 .bf16) (ix2 e t))
    (fun t f => (m ((c : Thread nD τ).loc main_arg1) : FVec Ideal S8192x2816 .bf16) (ix2 t f))
    (fun k => (m ((c : Thread nD τ).loc main_arg2) : FVec Ideal S5 .f32) (ix1 k))
    (fun e f => (m ((c : Thread nD τ).loc main_arg3) : FVec Ideal S2048x2816 .bf16) (ix2 e f))
    (fun e f => (m ((c : Thread nD τ).loc main_arg4) : IVec S2048x1408 8) (ix2 e f))
    (fun e f => (m ((c : Thread nD τ).loc main_arg5) : IVec S2048x2816 8) (ix2 e f))
    (fun e f => (m ((c : Thread nD τ).loc main_arg6) : IVec S2048x2816 8) (ix2 e f))
    (fun g e => (m ((c : Thread nD τ).loc main_arg7) : FVec Ideal S22x2048 .f32) (ix2 g e))
    (fun g e => (m ((c : Thread nD τ).loc main_arg8) : FVec Ideal S22x2048 .f32) (ix2 g e))
    (fun g e => (m ((c : Thread nD τ).loc main_arg9) : FVec Ideal S22x2048 .f32) (ix2 g e)) e g

/-- The scalars' block is the argument. -/
theorem rd0 (c : Dev nD) (t : Fin cfg0.N) (k : Fin 5) : iblk m c 0 t (ix1 k) = (m ((c : Thread nD τ).loc main_arg2) : FVec Ideal S5 .f32) (ix1 k) := by
  have hi := (idx t).1
  blk_point [iblk, V, hi]

/-- Window 1's block is the whole argument. -/
theorem rd1 (c : Dev nD) (t : Fin cfg0.N) (e : Fin 2048) (y : Fin 8192) : iblk m c 1 t (ix2 e y) = (m ((c : Thread nD τ).loc main_arg0) : FVec Ideal S2048x8192 .bf16) (ix2 e y) := by
  have hi := (idx t).2.1
  blk_point [iblk, V, hi]

/-- Window 2's block at a point holds the argument's columns from 256 times the point on. -/
theorem rd2 (c : Dev nD) (t : Fin cfg0.N) (e : Fin 8192) (y : Fin 256) (n : Fin 2816) (hn : n.val = t.val * 256 + y.val) :
    iblk m c 2 t (ix2 e y) = (m ((c : Thread nD τ).loc main_arg1) : FVec Ideal S8192x2816 .bf16) (ix2 e n) := by
  have hi := (idx t).2.2.1
  blk_point [iblk, V, hi]

/-- Window 3's block at a point holds the argument's columns from 256 times the point on. -/
theorem rd3 (c : Dev nD) (t : Fin cfg0.N) (e : Fin 2048) (y : Fin 256) (n : Fin 2816) (hn : n.val = t.val * 256 + y.val) :
    iblk m c 3 t (ix2 e y) = (m ((c : Thread nD τ).loc main_arg3) : FVec Ideal S2048x2816 .bf16) (ix2 e n) := by
  have hi := (idx t).2.2.2.1
  blk_point [iblk, V, hi]

/-- Window 4's block at a point holds the argument's columns from 128 times the point on. -/
theorem rd4 (c : Dev nD) (t : Fin cfg0.N) (e : Fin 2048) (y : Fin 128) (n : Fin 1408) (hn : n.val = t.val * 128 + y.val) :
    iblk m c 4 t (ix2 e y) = (m ((c : Thread nD τ).loc main_arg4) : IVec S2048x1408 8) (ix2 e n) := by
  have hi := (idx t).2.2.2.2.1
  blk_point [iblk, V, hi]

/-- Window 5's block at a point holds the argument's columns from 256 times the point on. -/
theorem rd5 (c : Dev nD) (t : Fin cfg0.N) (e : Fin 2048) (y : Fin 256) (n : Fin 2816) (hn : n.val = t.val * 256 + y.val) :
    iblk m c 5 t (ix2 e y) = (m ((c : Thread nD τ).loc main_arg5) : IVec S2048x2816 8) (ix2 e n) := by
  have hi := (idx t).2.2.2.2.2.1
  blk_point [iblk, V, hi]

/-- Window 6's block at a point holds the argument's columns from 256 times the point on. -/
theorem rd6 (c : Dev nD) (t : Fin cfg0.N) (e : Fin 2048) (y : Fin 256) (n : Fin 2816) (hn : n.val = t.val * 256 + y.val) :
    iblk m c 6 t (ix2 e y) = (m ((c : Thread nD τ).loc main_arg6) : IVec S2048x2816 8) (ix2 e n) := by
  have hi := (idx t).2.2.2.2.2.2.1
  blk_point [iblk, V, hi]

/-- Window 7's block is the whole argument. -/
theorem rd7 (c : Dev nD) (t : Fin cfg0.N) (e : Fin 22) (y : Fin 2048) : iblk m c 7 t (ix2 e y) = (m ((c : Thread nD τ).loc main_arg7) : FVec Ideal S22x2048 .f32) (ix2 e y) := by
  have hi := (idx t).2.2.2.2.2.2.2.1
  blk_point [iblk, V, hi]

/-- Window 8's block is the whole argument. -/
theorem rd8 (c : Dev nD) (t : Fin cfg0.N) (e : Fin 22) (y : Fin 2048) : iblk m c 8 t (ix2 e y) = (m ((c : Thread nD τ).loc main_arg8) : FVec Ideal S22x2048 .f32) (ix2 e y) := by
  have hi := (idx t).2.2.2.2.2.2.2.2.1
  blk_point [iblk, V, hi]

/-- Window 9's block is the whole argument. -/
theorem rd9 (c : Dev nD) (t : Fin cfg0.N) (e : Fin 22) (y : Fin 2048) : iblk m c 9 t (ix2 e y) = (m ((c : Thread nD τ).loc main_arg9) : FVec Ideal S22x2048 .f32) (ix2 e y) := by
  have hi := (idx t).2.2.2.2.2.2.2.2.2.1
  blk_point [iblk, V, hi]

/-- Row `e` and half `h` of the blocks staged at point `t` are row `e` and group `2 t + h` of the arguments. -/
theorem kgrp_eq (c : Dev nD) (t : Fin cfg0.N) (e : Fin 2048) (h : Fin 2) (g : Fin 22) (hg : g.val = 2 * t.val + h.val) :
    kgrp (grid0.coords t) (iblk m c 0 t) (iblk m c 1 t) (iblk m c 2 t) (iblk m c 3 t) (iblk m c 4 t) (iblk m c 5 t) (iblk m c 6 t) (iblk m c 7 t) (iblk m c 8 t) (iblk m c 9 t) e h = cg m c e g := by
  have hc : (grid0.coords t 0).val = t.val := (idx t).2.2.2.2.2.2.2.2.2.2.2.2.2.2.1
  have ht : t.val < 11 := (idx t).2.2.2.2.2.2.2.2.2.2.2.2.2.2.2
  have hcol : ∀ l : Fin 128, 128 * g.val + l.val = t.val * 256 + (128 * h.val + l.val) := fun l => by omega
  have hg' : ∀ p, (⟨2 * (grid0.coords t 0).val + h.val, p⟩ : Fin 22) = g := fun p => Fin.ext (by dsimp only; omega)
  unfold kgrp cg StepSpec.sgrp
  rw [StepSpec.Grp.mk.injEq]
  refine ⟨funext fun l => rd3 m c t e _ _ (hcol l), funext fun l => Finset.sum_congr rfl fun s _ => congrArg₂ (fun a b : EReal => a * b) (rd1 m c t e s) (rd2 m c t s _ _ (hcol l)),
    funext fun l => rd5 m c t e _ _ (hcol l), funext fun l => rd6 m c t e _ _ (hcol l),
    funext fun l => congrArg (StepSpec.room · l) (rd4 m c t e _ _ (by dsimp only; omega)),
    ?_, ?_, ?_, rd0 m c t 2, rd0 m c t 3, rd0 m c t 4⟩
  · rw [hg']; exact rd7 m c t g e
  · rw [hg']; exact rd8 m c t g e
  · rw [hg']; exact rd9 m c t g e

/-- The group and the lane of column `n`. -/
def cat (c : Dev nD) (e : Fin 2048) (n : Fin 2816) : StepSpec.Grp × Fin 128 :=
  (cg m c e ⟨n.val / 128, by omega⟩, ⟨n.val % 128, by omega⟩)

/-- Column `y` of the blocks staged at point `t` is column `256 t + y` of the arguments. -/
theorem kat_eq (c : Dev nD) (t : Fin cfg0.N) (e e' : Fin 2048) (y : Fin 256) (n : Fin 2816) (he : e' = e) (hn : n.val = t.val * 256 + y.val) :
    kat (grid0.coords t) (iblk m c 0 t) (iblk m c 1 t) (iblk m c 2 t) (iblk m c 3 t) (iblk m c 4 t) (iblk m c 5 t) (iblk m c 6 t) (iblk m c 7 t) (iblk m c 8 t) (iblk m c 9 t) e y = cat m c e' n := by
  subst he
  unfold kat cat
  rw [kgrp_eq m c t e' ⟨y.val / 128, by omega⟩ ⟨n.val / 128, by omega⟩ (by dsimp only; omega)]
  exact Prod.ext rfl (Fin.ext (by dsimp only; omega))

/-- The array of the gradient after the run. -/
theorem final10 (c : Dev nD) :
    (dats m 0 c).arrAt 10 (cfgs 0).N = fun j : S2048x2816.Idx => (cat m c (j 0) (j 1)).1.dv (cat m c (j 0) (j 1)).2 := by
  refine (dats m 0 c).arrAt_eq_of_covers 10 _ (by decide +kernel) fun t hf y => ?_
  blk_simp
  rw [after0_10]
  have hi := idx t
  unfold blk11
  refine congrArg (fun p : StepSpec.Grp × Fin 128 => p.1.dv p.2) (kat_eq m c t _ _ _ _ (Fin.ext ?_) ?_)
  · blk_simp [hi]
  · blk_simp [hi]

/-- The array of the stepped rounding variable after the run. -/
theorem final11 (c : Dev nD) :
    (dats m 0 c).arrAt 11 (cfgs 0).N = fun j : S2048x2816.Idx => (cat m c (j 0) (j 1)).1.vnew (cat m c (j 0) (j 1)).2 := by
  refine (dats m 0 c).arrAt_eq_of_covers 11 _ (by decide +kernel) fun t hf y => ?_
  blk_simp
  rw [after0_11]
  have hi := idx t
  unfold blk12
  refine congrArg (fun p : StepSpec.Grp × Fin 128 => p.1.vnew p.2) (kat_eq m c t _ _ _ _ (Fin.ext ?_) ?_)
  · blk_simp [hi]
  · blk_simp [hi]

/-- The array of the first moments' codes after the run. -/
theorem final12 (c : Dev nD) :
    (dats m 0 c).arrAt 12 (cfgs 0).N = fun j : S2048x2816.Idx => (cat m c (j 0) (j 1)).1.mcode (cat m c (j 0) (j 1)).2 := by
  refine (dats m 0 c).arrAt_eq_of_covers 12 _ (by decide +kernel) fun t hf y => ?_
  blk_simp
  rw [after0_12]
  have hi := idx t
  unfold blk13
  refine congrArg (fun p : StepSpec.Grp × Fin 128 => p.1.mcode p.2) (kat_eq m c t _ _ _ _ (Fin.ext ?_) ?_)
  · blk_simp [hi]
  · blk_simp [hi]

/-- The array of the second moments' codes after the run. -/
theorem final13 (c : Dev nD) :
    (dats m 0 c).arrAt 13 (cfgs 0).N = fun j : S2048x2816.Idx => (cat m c (j 0) (j 1)).1.scode (cat m c (j 0) (j 1)).2 := by
  refine (dats m 0 c).arrAt_eq_of_covers 13 _ (by decide +kernel) fun t hf y => ?_
  blk_simp
  rw [after0_13]
  have hi := idx t
  unfold blk14
  refine congrArg (fun p : StepSpec.Grp × Fin 128 => p.1.scode p.2) (kat_eq m c t _ _ _ _ (Fin.ext ?_) ?_)
  · blk_simp [hi]
  · blk_simp [hi]

end Cert.ColsIdeal.Run

end
-- ==== Proof.ColsEnd.lean ====
/- The update kernel's run with its four array results named. Hand-written. -/
module

public import proofs.«01_k».proof.Proof.ColsIdealRun
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.ColsIdeal.Run

open Cert.ColsIdeal Cert.ColsIdeal.Gen Cert.ColsIdeal.Val

variable (m : (ℓ : Loc nD τ sig) → Buf (Elt Ideal) ℓ) (ρ : Dev nD → PrngReg)

set_option maxHeartbeats 2000000 in
/-- The run with the four array results named and the arguments unchanged. -/
theorem run_arrays : θ_run defs (onTc (τ := τ) (main (F := Ideal))) ⟨m, fun _ => 0, ρ⟩ (fun r => ∀ c : Dev nD,
      r.2.mem ((c.tc : Thread nD τ).loc main_v0_0) = (dats m 0 c).arrAt 10 (cfgs 0).N
      ∧ r.2.mem ((c.tc : Thread nD τ).loc main_v0_1) = (dats m 0 c).arrAt 11 (cfgs 0).N
      ∧ r.2.mem ((c.tc : Thread nD τ).loc main_v0_2) = (dats m 0 c).arrAt 12 (cfgs 0).N
      ∧ r.2.mem ((c.tc : Thread nD τ).loc main_v0_3) = (dats m 0 c).arrAt 13 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.Dat.toRForget_arrAt_iff (dats m 0 c) (by decide) _ _).mp ((h.1 c).1 10),
      (Pipeline.Dat.toRForget_arrAt_iff (dats m 0 c) (by decide) _ _).mp ((h.1 c).1 11),
      (Pipeline.Dat.toRForget_arrAt_iff (dats m 0 c) (by decide) _ _).mp ((h.1 c).1 12),
      (Pipeline.Dat.toRForget_arrAt_iff (dats m 0 c) (by decide) _ _).mp ((h.1 c).1 13),
      (Pipeline.RDat.FramePost.arr_in h.1 c 1 rfl).trans ((A_eq m c 1).trans (V_main_arg0 m c)),
      (Pipeline.RDat.FramePost.arr_in h.1 c 2 rfl).trans ((A_eq m c 2).trans (V_main_arg1 m c)),
      (Pipeline.RDat.FramePost.arr_in h.1 c 0 rfl).trans ((A_eq m c 0).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      (Pipeline.RDat.FramePost.arr_in h.1 c 6 rfl).trans ((A_eq m c 6).trans (V_main_arg6 m c)),
      (Pipeline.RDat.FramePost.arr_in h.1 c 7 rfl).trans ((A_eq m c 7).trans (V_main_arg7 m c)),
      (Pipeline.RDat.FramePost.arr_in h.1 c 8 rfl).trans ((A_eq m c 8).trans (V_main_arg8 m c)),
      (Pipeline.RDat.FramePost.arr_in h.1 c 9 rfl).trans ((A_eq m c 9).trans (V_main_arg9 m c))⟩) (run_main_quiescent m ρ)

end Cert.ColsIdeal.Run

end
-- ==== Proof.StepBase.lean ====
/- What the update reference's arrays hold after its run. Hand-written. -/
module

public import proofs.«01_k».proof.Proof.ColsSpec
public import proofs.«01_k».proof.Proof.Gen.StepIdeal
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem

namespace Cert.StepIdeal.Val

open Cert.StepIdeal Cert.StepIdeal.Gen

/-- The group of weights that row `e` and group `g` are, read from the reference's arguments. -/
def sg (m : (ℓ : Loc nD τ sig) → Buf (Elt Ideal) ℓ) (c : Dev nD) (e : Fin 2048) (g : Fin 22) : StepSpec.Grp :=
  StepSpec.sgrp (fun e t => (m ((c.tc : Thread nD τ).loc main_arg0) : FVec Ideal S2048x8192 .bf16) (ix2 e t))
    (fun t f => (m ((c.tc : Thread nD τ).loc main_arg1) : FVec Ideal S8192x2816 .bf16) (ix2 t f))
    (fun k => (m ((c.tc : Thread nD τ).loc main_arg2) : FVec Ideal S5 .f32) (ix1 k))
    (fun e f => (m ((c.tc : Thread nD τ).loc main_arg3) : FVec Ideal S2048x2816 .bf16) (ix2 e f))
    (fun e f => (m ((c.tc : Thread nD τ).loc main_arg4) : IVec S2048x1408 8) (ix2 e f))
    (fun e f => (m ((c.tc : Thread nD τ).loc main_arg5) : IVec S2048x2816 8) (ix2 e f))
    (fun e f => (m ((c.tc : Thread nD τ).loc main_arg6) : IVec S2048x2816 8) (ix2 e f))
    (fun g e => (m ((c.tc : Thread nD τ).loc main_arg7) : FVec Ideal S22x2048 .f32) (ix2 g e))
    (fun g e => (m ((c.tc : Thread nD τ).loc main_arg8) : FVec Ideal S22x2048 .f32) (ix2 g e))
    (fun g e => (m ((c.tc : Thread nD τ).loc main_arg9) : FVec Ideal S22x2048 .f32) (ix2 g e)) e g

/-- The group of column `128 g + l`. -/
theorem grp_ix (g : Fin 22) (l : Fin 128) (p) : (⟨(128 * g.val + l.val) / 128, p⟩ : Fin 22) = g :=
  Fin.ext (by show (128 * g.val + l.val) / 128 = g.val; omega)

/-- Column `128 g + l`, its product the other way round. -/
theorem col_ix (g : Fin 22) (l : Fin 128) (p) (q) : (⟨g.val * 128 + l.val, p⟩ : Fin 2816) = ⟨128 * g.val + l.val, q⟩ :=
  Fin.ext (by show g.val * 128 + l.val = 128 * g.val + l.val; omega)

end Cert.StepIdeal.Val
end
-- ==== Proof.StepGrad.lean ====
/- The gradient that the update reference computes, and its frame. Hand-written. -/
module

public import proofs.«01_k».proof.Proof.StepBase
public import proofs.«01_k».proof.Proof.Gen.StepIdeal
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem

namespace Cert.StepIdeal.Val

open Cert.StepIdeal Cert.StepIdeal.Gen

section Parts
variable (mc sc : Fin 2048 → Fin 2816 → BitVec 8) (ms ss : Fin 22 → Fin 2048 → EReal) (A0 : FVec Ideal S2048x8192 .bf16) (A1 : FVec Ideal S8192x2816 .bf16) (A2 : FVec Ideal S5 .f32) (A3 : FVec Ideal S2048x2816 .bf16) (A4 : IVec S2048x1408 8) (A7 : FVec Ideal S22x2048 .f32)
    (e : Fin 2048) (g : Fin 22) (l : Fin 128)

/-- The rounding variable of a group. -/
theorem p_v : (StepSpec.sgrp (fun e t => A0 (ix2 e t)) (fun t f => A1 (ix2 t f)) (fun k => A2 (ix1 k)) (fun e f => A3 (ix2 e f)) (fun e f => A4 (ix2 e f))
        mc sc (fun g e => A7 (ix2 g e)) ms ss e g).v l = A3 (ix2 e ⟨128 * g.val + l.val, by omega⟩) := rfl
/-- A group's gradient. -/
theorem p_dw : (StepSpec.sgrp (fun e t => A0 (ix2 e t)) (fun t f => A1 (ix2 t f)) (fun k => A2 (ix1 k)) (fun e f => A3 (ix2 e f)) (fun e f => A4 (ix2 e f))
        mc sc (fun g e => A7 (ix2 g e)) ms ss e g).dw l = ∑ x : Fin 8192, (A0 (ix2 e x) : EReal) * (A1 (ix2 x ⟨128 * g.val + l.val, by omega⟩) : EReal) := by
  unfold StepSpec.sgrp
  dsimp only

/-- A group's scale. -/
theorem p_ws : (StepSpec.sgrp (fun e t => A0 (ix2 e t)) (fun t f => A1 (ix2 t f)) (fun k => A2 (ix1 k)) (fun e f => A3 (ix2 e f)) (fun e f => A4 (ix2 e f))
        mc sc (fun g e => A7 (ix2 g e)) ms ss e g).ws = A7 (ix2 ⟨(128 * g.val + l.val) / 128, by omega⟩ e) :=
  congrArg (fun k => A7 (ix2 k e)) (grp_ix g l _).symm
/-- The regulariser's weight. -/
theorem p_lam : (StepSpec.sgrp (fun e t => A0 (ix2 e t)) (fun t f => A1 (ix2 t f)) (fun k => A2 (ix1 k)) (fun e f => A3 (ix2 e f)) (fun e f => A4 (ix2 e f))
        mc sc (fun g e => A7 (ix2 g e)) ms ss e g).lam = A2 (ix1 2) := rfl
/-- Whether a code has room. -/
theorem p_room : (StepSpec.sgrp (fun e t => A0 (ix2 e t)) (fun t f => A1 (ix2 t f)) (fun k => A2 (ix1 k)) (fun e f => A3 (ix2 e f)) (fun e f => A4 (ix2 e f))
        mc sc (fun g e => A7 (ix2 g e)) ms ss e g).room l = StepSpec.room (A4 (ix2 e ⟨64 * g.val + l.val % 64, by omega⟩)) l := rfl
end Parts

set_option maxHeartbeats 8000000 in
/-- The gradient in the rounding variable, over the arguments by name. -/
theorem run_v69_of (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      ∀ (A0 : FVec Ideal S2048x8192 .bf16) (A1 : FVec Ideal S8192x2816 .bf16) (A2 : FVec Ideal S5 .f32) (A3 : FVec Ideal S2048x2816 .bf16) (A4 : IVec S2048x1408 8) (A7 : FVec Ideal S22x2048 .f32), m ((c.tc : Thread nD τ).loc main_arg0) = A0 → m ((c.tc : Thread nD τ).loc main_arg1) = A1 → m ((c.tc : Thread nD τ).loc main_arg2) = A2 → m ((c.tc : Thread nD τ).loc main_arg3) = A3 → m ((c.tc : Thread nD τ).loc main_arg4) = A4 → m ((c.tc : Thread nD τ).loc main_arg7) = A7 →
      ∀ (e : Fin 2048) (g : Fin 22) (l : Fin 128) (G : StepSpec.Grp) (W : EReal), A3 (ix2 e ⟨128 * g.val + l.val, by omega⟩) = G.v l →
        W = G.dw l → (∑ x : Fin 8192, (A0 (ix2 e x) : EReal) * (A1 (ix2 x ⟨128 * g.val + l.val, by omega⟩) : EReal)) = W →
        A7 (ix2 ⟨(128 * g.val + l.val) / 128, by omega⟩ e) = G.ws → A2 (ix1 2) = G.lam →
        StepSpec.room (A4 (ix2 e ⟨64 * g.val + l.val % 64, by omega⟩)) l = G.room l →
        (r.2.mem ((c.tc : Thread nD τ).loc main_v69) : FVec Ideal S2048x2816 .f32) (ix2 e ⟨128 * g.val + l.val, by omega⟩) = G.dv l) := by
  hlo_run
  simp -implicitDefEqProofs only [StableHlo.TRef.toBuf, StableHlo.TRef.ofBuf, cast_cast, cast_eq]
  clean_types
  intro A0 A1 A2 A3 A4 A7 h0 h1 h2 h3 h4 h7
  rw [h0, h1, h2, h3, h4, h7]
  clear h0 h1 h2 h3 h4 h7
  intro e g l G W hv hW hdw hws hlam hroom
  pointwise
  by_cases h : (128 * g.val + l.val) % 128 < 64
  · unfold StepSpec.room at hroom
    rewrite [if_pos (by omega)] at hroom
    have hn : (⟨64 * g.val + l.val % 64, by omega⟩ : Fin 1408)
        = ⟨(128 * g.val + l.val) / 128 * 64 + (128 * g.val + l.val) % 128, by omega⟩ := Fin.ext (by dsimp only; omega)
    rewrite [hn] at hroom
    rewrite [dif_pos h, StepSpec.low_lt, hroom, hv, hdw, hws, hlam, hW]
    unfold StepSpec.Grp.dv StepSpec.Grp.inner StepSpec.Grp.rr StepSpec.Grp.jac StepSpec.Grp.hraw Ideal.logistic
    exact rfl
  · unfold StepSpec.room at hroom
    rewrite [if_neg (by omega)] at hroom
    have hn : (⟨64 * g.val + l.val % 64, by omega⟩ : Fin 1408)
        = ⟨(128 * g.val + l.val) / 128 * 64 + ((128 * g.val + l.val) % 128 - 64), by omega⟩ := Fin.ext (by dsimp only; omega)
    rewrite [hn] at hroom
    rewrite [dif_neg h, StepSpec.high_lt, hroom, hv, hdw, hws, hlam, hW]
    unfold StepSpec.Grp.dv StepSpec.Grp.inner StepSpec.Grp.rr StepSpec.Grp.jac StepSpec.Grp.hraw Ideal.logistic
    exact rfl

/-- The gradient in the rounding variable. -/
theorem run_v69 (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      ∀ (e : Fin 2048) (g : Fin 22) (l : Fin 128), (r.2.mem ((c.tc : Thread nD τ).loc main_v69) : FVec Ideal S2048x2816 .f32) (ix2 e ⟨128 * g.val + l.val, by omega⟩)
        = (sg m c e g).dv l) := by
  refine θ_run_mono (run_v69_of m g) fun r h c e g l => ?_
  exact h c _ _ _ _ _ _ rfl rfl rfl rfl rfl rfl e g l (sg m c e g) _ (p_v _ _ _ _ _ _ _ _ _ _ e g l).symm (p_dw _ _ _ _ _ _ _ _ _ _ e g l).symm rfl
    (p_ws _ _ _ _ _ _ _ _ _ _ e g l).symm (p_lam _ _ _ _ _ _ _ _ _ _ e g).symm (p_room _ _ _ _ _ _ _ _ _ _ e g l).symm

set_option maxHeartbeats 8000000 in
/-- The reference ends with its arguments as they were. -/
theorem run_args (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  hlo_run

/-- … and with every semaphore at zero: it has none. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run _ _ _).mono (fun r h => ⟨h, sem_eq_zero_of_no_sems (by decide) r.2⟩) (run_args m g)

end Cert.StepIdeal.Val

end
-- ==== Proof.StepMoments.lean ====
/- The two moments and the stepped rounding variable that the update reference computes. Hand-written. -/
module

public import proofs.«01_k».proof.Proof.StepBase
public import proofs.«01_k».proof.Proof.Gen.StepIdeal
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem

namespace Cert.StepIdeal.Val

open Cert.StepIdeal Cert.StepIdeal.Gen

set_option maxHeartbeats 8000000 in
/-- The first moment, from the gradient. -/
theorem run_v88 (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      ∀ (D : FVec Ideal S2048x2816 .f32), r.2.mem ((c.tc : Thread nD τ).loc main_v69) = D →
      ∀ (e : Fin 2048) (g : Fin 22) (l : Fin 128), (r.2.mem ((c.tc : Thread nD τ).loc main_v88) : FVec Ideal S2048x2816 .f32) (ix2 e ⟨128 * g.val + l.val, by omega⟩)
        = Ideal.ofBits .f32 0x3F666666#32 * (((((sg m c e g).mc l).toInt : ℝ) : EReal) * (sg m c e g).ms) + Ideal.ofBits .f32 0x3DCCCCCD#32 * D (ix2 e ⟨128 * g.val + l.val, by omega⟩)) := by
  hlo_run
  simp -implicitDefEqProofs only [StableHlo.TRef.toBuf, StableHlo.TRef.ofBuf, cast_cast, cast_eq]
  clean_types
  intro D hD
  rw [hD]
  clear hD
  intro e g l
  pointwise
  rw [grp_ix g l, StepSpec.sext]
  rfl

set_option maxHeartbeats 8000000 in
/-- The second moment, from the gradient. -/
theorem run_v95 (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      ∀ (D : FVec Ideal S2048x2816 .f32), r.2.mem ((c.tc : Thread nD τ).loc main_v69) = D →
      ∀ (e : Fin 2048) (g : Fin 22) (l : Fin 128), (r.2.mem ((c.tc : Thread nD τ).loc main_v95) : FVec Ideal S2048x2816 .f32) (ix2 e ⟨128 * g.val + l.val, by omega⟩)
        = Ideal.ofBits .f32 0x3F7FBE77#32 * (((((sg m c e g).sc l).toNat : ℝ) : EReal) * (sg m c e g).ss * (((((sg m c e g).sc l).toNat : ℝ) : EReal) * (sg m c e g).ss)) + Ideal.ofBits .f32 0x3A83126F#32 * D (ix2 e ⟨128 * g.val + l.val, by omega⟩) * D (ix2 e ⟨128 * g.val + l.val, by omega⟩)) := by
  hlo_run
  simp -implicitDefEqProofs only [StableHlo.TRef.toBuf, StableHlo.TRef.ofBuf, cast_cast, cast_eq]
  clean_types
  intro D hD
  rw [hD]
  clear hD
  intro e g l
  pointwise
  rw [grp_ix g l, StepSpec.widen]
  rfl

set_option maxHeartbeats 8000000 in
/-- The stepped rounding variable, from the two moments. -/
theorem run_v108 (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      ∀ (D : FVec Ideal S2048x2816 .f32) (E : FVec Ideal S2048x2816 .f32), r.2.mem ((c.tc : Thread nD τ).loc main_v88) = D → r.2.mem ((c.tc : Thread nD τ).loc main_v95) = E →
      ∀ (e : Fin 2048) (g : Fin 22) (l : Fin 128), (r.2.mem ((c.tc : Thread nD τ).loc main_v108) : FVec Ideal S2048x2816 .bf16) (ix2 e ⟨128 * g.val + l.val, by omega⟩)
        = (sg m c e g).v l - Ideal.div (Ideal.ofBits .f32 0x3E4CCCCD#32 * Ideal.div (D (ix2 e ⟨128 * g.val + l.val, by omega⟩)) (sg m c e g).bc1) (Ideal.sqrt (Ideal.div (E (ix2 e ⟨128 * g.val + l.val, by omega⟩)) (sg m c e g).bc2) + Ideal.ofBits .f32 0x322BCC77#32)) := by
  hlo_run
  simp -implicitDefEqProofs only [StableHlo.TRef.toBuf, StableHlo.TRef.ofBuf, cast_cast, cast_eq]
  clean_types
  intro D E hD hE
  rw [hD, hE]
  clear hD hE
  intro e g l
  pointwise
  rfl

set_option maxHeartbeats 8000000 in
/-- The largest magnitude of a group's first moments. -/
theorem run_v112 (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      ∀ (D : FVec Ideal S2048x2816 .f32), r.2.mem ((c.tc : Thread nD τ).loc main_v88) = D →
      ∀ (e : Fin 2048) (g : Fin 22), (r.2.mem ((c.tc : Thread nD τ).loc main_v112) : FVec Ideal S2048x22 .f32) (ix2 e g)
        = Finset.univ.fold max (Ideal.ofBits .f32 0xFF800000#32) fun l : Fin 128 => FloatOps.absf (F := Ideal) (φ := .f32) (D (ix2 e ⟨128 * g.val + l.val, by omega⟩))) := by
  hlo_run
  simp -implicitDefEqProofs only [StableHlo.TRef.toBuf, StableHlo.TRef.ofBuf, cast_cast, cast_eq]
  clean_types
  intro D hD
  rw [hD]
  clear hD
  intro e g
  pointwise
  exact congrArg (fun f => Finset.fold max (Ideal.ofBits .f32 0xFF800000#32) f Finset.univ)
    (funext fun x => congrArg (fun n => FloatOps.absf (F := Ideal) (φ := .f32) (D (ix2 e n))) (col_ix g x _ _))

set_option maxHeartbeats 8000000 in
/-- The largest root of a group's second moments. -/
theorem run_v128 (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      ∀ (D : FVec Ideal S2048x2816 .f32), r.2.mem ((c.tc : Thread nD τ).loc main_v95) = D →
      ∀ (e : Fin 2048) (g : Fin 22), (r.2.mem ((c.tc : Thread nD τ).loc main_v128) : FVec Ideal S2048x22 .f32) (ix2 e g)
        = Finset.univ.fold max (Ideal.ofBits .f32 0xFF800000#32) fun l : Fin 128 => Ideal.sqrt (D (ix2 e ⟨128 * g.val + l.val, by omega⟩))) := by
  hlo_run
  simp -implicitDefEqProofs only [StableHlo.TRef.toBuf, StableHlo.TRef.ofBuf, cast_cast, cast_eq]
  clean_types
  intro D hD
  rw [hD]
  clear hD
  intro e g
  pointwise
  exact congrArg (fun f => Finset.fold max (Ideal.ofBits .f32 0xFF800000#32) f Finset.univ)
    (funext fun x => congrArg (fun n => Ideal.sqrt (D (ix2 e n))) (col_ix g x _ _))

end Cert.StepIdeal.Val

end
-- ==== Proof.StepCodes.lean ====
/- The codes and their scales that the update reference computes. Hand-written. -/
module

public import proofs.«01_k».proof.Proof.StepBase
public import proofs.«01_k».proof.Proof.Gen.StepIdeal
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem

namespace Cert.StepIdeal.Val

open Cert.StepIdeal Cert.StepIdeal.Gen

set_option maxHeartbeats 8000000 in
/-- The scale of the first moments' codes. -/
theorem run_v118 (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      ∀ (D : FVec Ideal S2048x22 .f32), r.2.mem ((c.tc : Thread nD τ).loc main_v112) = D →
      ∀ (e : Fin 2048) (g : Fin 22), (r.2.mem ((c.tc : Thread nD τ).loc main_v118) : FVec Ideal S2048x22 .f32) (ix2 e g)
        = StepSpec.Grp.scale (D (ix2 e g)) (Ideal.ofBits .f32 0x42FE0000#32)) := by
  hlo_run
  simp -implicitDefEqProofs only [StableHlo.TRef.toBuf, StableHlo.TRef.ofBuf, cast_cast, cast_eq]
  clean_types
  intro D hD
  rw [hD]
  clear hD
  intro e g
  pointwise
  rfl

set_option maxHeartbeats 8000000 in
/-- The scale of the second moments' codes. -/
theorem run_v134 (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      ∀ (D : FVec Ideal S2048x22 .f32), r.2.mem ((c.tc : Thread nD τ).loc main_v128) = D →
      ∀ (e : Fin 2048) (g : Fin 22), (r.2.mem ((c.tc : Thread nD τ).loc main_v134) : FVec Ideal S2048x22 .f32) (ix2 e g)
        = StepSpec.Grp.scale (D (ix2 e g)) (Ideal.ofBits .f32 0x437F0000#32)) := by
  hlo_run
  simp -implicitDefEqProofs only [StableHlo.TRef.toBuf, StableHlo.TRef.ofBuf, cast_cast, cast_eq]
  clean_types
  intro D hD
  rw [hD]
  clear hD
  intro e g
  pointwise
  rfl

set_option maxHeartbeats 8000000 in
/-- The first moments' codes, from the moments and their scale. -/
theorem run_v126 (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      ∀ (S : FVec Ideal S2048x22 .f32) (D : FVec Ideal S2048x2816 .f32), r.2.mem ((c.tc : Thread nD τ).loc main_v118) = S → r.2.mem ((c.tc : Thread nD τ).loc main_v88) = D →
      ∀ (e : Fin 2048) (g : Fin 22) (l : Fin 128), (r.2.mem ((c.tc : Thread nD τ).loc main_v126) : IVec S2048x2816 8) (ix2 e ⟨128 * g.val + l.val, by omega⟩)
        = BitVec.setWidth 8 (FloatOps.fptosi (F := Ideal) (φ := .f32) 32 (min (Ideal.ofBits .f32 0x42FE0000#32) (max (Ideal.ofBits .f32 0xC2FE0000#32) (Ideal.liftRound Ideal.roundHalfEven (Ideal.div (D (ix2 e ⟨128 * g.val + l.val, by omega⟩)) (S (ix2 e g)))))))) := by
  hlo_run
  simp -implicitDefEqProofs only [StableHlo.TRef.toBuf, StableHlo.TRef.ofBuf, cast_cast, cast_eq]
  clean_types
  intro S D hS hD
  rw [hS, hD]
  clear hS hD
  intro e g l
  pointwise
  rw [col_ix g l _ (by omega)]

set_option maxHeartbeats 8000000 in
/-- The second moments' codes, from the moments and their scale. -/
theorem run_v142 (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      ∀ (S : FVec Ideal S2048x22 .f32) (D : FVec Ideal S2048x2816 .f32), r.2.mem ((c.tc : Thread nD τ).loc main_v134) = S → r.2.mem ((c.tc : Thread nD τ).loc main_v95) = D →
      ∀ (e : Fin 2048) (g : Fin 22) (l : Fin 128), (r.2.mem ((c.tc : Thread nD τ).loc main_v142) : IVec S2048x2816 8) (ix2 e ⟨128 * g.val + l.val, by omega⟩)
        = BitVec.setWidth 8 (FloatOps.fptosi (F := Ideal) (φ := .f32) 32 (min (Ideal.ofBits .f32 0x437F0000#32) (max 0 (Ideal.liftRound Ideal.roundHalfEven (Ideal.div (Ideal.sqrt (D (ix2 e ⟨128 * g.val + l.val, by omega⟩))) (S (ix2 e g)))))))) := by
  hlo_run
  simp -implicitDefEqProofs only [StableHlo.TRef.toBuf, StableHlo.TRef.ofBuf, cast_cast, cast_eq]
  clean_types
  intro S D hS hD
  rw [hS, hD]
  clear hS hD
  intro e g l
  pointwise
  rw [col_ix g l _ (by omega)]

end Cert.StepIdeal.Val

end
-- ==== Proof.StepVals.lean ====
/- What the update reference's arrays hold after its run. Hand-written. -/
module

public import proofs.«01_k».proof.Proof.StepGrad
public import proofs.«01_k».proof.Proof.StepMoments
public import proofs.«01_k».proof.Proof.StepCodes
public import proofs.«01_k».proof.Proof.Gen.StepIdeal
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem

namespace Cert.StepIdeal.Val

open Cert.StepIdeal Cert.StepIdeal.Gen

/-- What the reference ends with: the gradient, the stepped rounding variable and the two moments' codes of every group,
    and its arguments as they were. -/
theorem run_vals (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      (∀ (e : Fin 2048) (g : Fin 22) (l : Fin 128), (r.2.mem ((c.tc : Thread nD τ).loc main_v69) : FVec Ideal S2048x2816 .f32) (ix2 e ⟨128 * g.val + l.val, by omega⟩) = (sg m c e g).dv l)
      ∧ (∀ (e : Fin 2048) (g : Fin 22) (l : Fin 128), (r.2.mem ((c.tc : Thread nD τ).loc main_v108) : FVec Ideal S2048x2816 .bf16) (ix2 e ⟨128 * g.val + l.val, by omega⟩) = (sg m c e g).vnew l)
      ∧ (∀ (e : Fin 2048) (g : Fin 22) (l : Fin 128), (r.2.mem ((c.tc : Thread nD τ).loc main_v126) : IVec S2048x2816 8) (ix2 e ⟨128 * g.val + l.val, by omega⟩) = (sg m c e g).mcode l)
      ∧ (∀ (e : Fin 2048) (g : Fin 22) (l : Fin 128), (r.2.mem ((c.tc : Thread nD τ).loc main_v142) : IVec S2048x2816 8) (ix2 e ⟨128 * g.val + l.val, by omega⟩) = (sg m c e g).scode l)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine θ_run_mono (θ_run_and (run_v69 m g) (θ_run_and (run_v88 m g) (θ_run_and (run_v95 m g) (θ_run_and (run_v108 m g) (θ_run_and (run_v112 m g) (θ_run_and (run_v128 m g) (θ_run_and (run_v118 m g) (θ_run_and (run_v134 m g) (θ_run_and (run_v126 m g) (θ_run_and (run_v142 m g) (run_args m g))))))))))) fun r h c => ?_
  obtain ⟨h69, h88, h95, h108, h112, h128, h118, h134, h126, h142, ha⟩ := h
  have g69 := h69 c
  have g88 : (∀ (e : Fin 2048) (g : Fin 22) (l : Fin 128), (r.2.mem ((c.tc : Thread nD τ).loc main_v88) : FVec Ideal S2048x2816 .f32) (ix2 e ⟨128 * g.val + l.val, by omega⟩) = (sg m c e g).m1 l) := fun e g l =>
    (h88 c _ rfl e g l).trans (congrArg (fun x : EReal => Ideal.ofBits .f32 0x3F666666#32 * (((((sg m c e g).mc l).toInt : ℝ) : EReal) * (sg m c e g).ms)
      + Ideal.ofBits .f32 0x3DCCCCCD#32 * x) (g69 e g l))
  have g95 : (∀ (e : Fin 2048) (g : Fin 22) (l : Fin 128), (r.2.mem ((c.tc : Thread nD τ).loc main_v95) : FVec Ideal S2048x2816 .f32) (ix2 e ⟨128 * g.val + l.val, by omega⟩) = (sg m c e g).v1 l) := fun e g l =>
    (h95 c _ rfl e g l).trans (congrArg (fun x : EReal => Ideal.ofBits .f32 0x3F7FBE77#32
      * (((((sg m c e g).sc l).toNat : ℝ) : EReal) * (sg m c e g).ss * (((((sg m c e g).sc l).toNat : ℝ) : EReal) * (sg m c e g).ss))
      + Ideal.ofBits .f32 0x3A83126F#32 * x * x) (g69 e g l))
  have g108 : (∀ (e : Fin 2048) (g : Fin 22) (l : Fin 128), (r.2.mem ((c.tc : Thread nD τ).loc main_v108) : FVec Ideal S2048x2816 .bf16) (ix2 e ⟨128 * g.val + l.val, by omega⟩) = (sg m c e g).vnew l) := fun e g l =>
    (h108 c _ _ rfl rfl e g l).trans (congrArg₂ (fun x y : EReal => (sg m c e g).v l
      - Ideal.div (Ideal.ofBits .f32 0x3E4CCCCD#32 * Ideal.div x (sg m c e g).bc1)
        (Ideal.sqrt (Ideal.div y (sg m c e g).bc2) + Ideal.ofBits .f32 0x322BCC77#32)) (g88 e g l) (g95 e g l))
  have g112 : ∀ (e : Fin 2048) (g : Fin 22), (r.2.mem ((c.tc : Thread nD τ).loc main_v112) : FVec Ideal S2048x22 .f32) (ix2 e g) = (sg m c e g).mmax := fun e g =>
    (h112 c _ rfl e g).trans (congrArg (fun f => Finset.fold max (Ideal.ofBits .f32 0xFF800000#32) f Finset.univ)
      (funext fun l => congrArg (FloatOps.absf (F := Ideal) (φ := .f32)) (g88 e g l)))
  have g128 : ∀ (e : Fin 2048) (g : Fin 22), (r.2.mem ((c.tc : Thread nD τ).loc main_v128) : FVec Ideal S2048x22 .f32) (ix2 e g) = (sg m c e g).smax := fun e g =>
    (h128 c _ rfl e g).trans (congrArg (fun f => Finset.fold max (Ideal.ofBits .f32 0xFF800000#32) f Finset.univ)
      (funext fun l => congrArg Ideal.sqrt (g95 e g l)))
  have g118 := fun (e : Fin 2048) (g : Fin 22) => (h118 c _ rfl e g).trans
    (congrArg (StepSpec.Grp.scale · (Ideal.ofBits .f32 0x42FE0000#32)) (g112 e g))
  have g134 := fun (e : Fin 2048) (g : Fin 22) => (h134 c _ rfl e g).trans
    (congrArg (StepSpec.Grp.scale · (Ideal.ofBits .f32 0x437F0000#32)) (g128 e g))
  refine ⟨g69, g108, fun e g l => ?_, fun e g l => ?_, ha c⟩
  · refine (h126 c _ _ rfl rfl e g l).trans (Eq.trans ?_ (StepSpec.mcode_eq (sg m c e g) l))
    exact congrArg₂ (fun x y : EReal => BitVec.setWidth 8 (FloatOps.fptosi (F := Ideal) (φ := .f32) 32
      (min (Ideal.ofBits .f32 0x42FE0000#32) (max (Ideal.ofBits .f32 0xC2FE0000#32) (Ideal.liftRound Ideal.roundHalfEven (Ideal.div x y))))))
      (g88 e g l) (g118 e g)
  · refine (h142 c _ _ rfl rfl e g l).trans ?_
    exact congrArg₂ (fun x y : EReal => BitVec.setWidth 8 (FloatOps.fptosi (F := Ideal) (φ := .f32) 32
      (min (Ideal.ofBits .f32 0x437F0000#32) (max 0 (Ideal.liftRound Ideal.roundHalfEven (Ideal.div (Ideal.sqrt x) y))))))
      (g95 e g l) (g134 e g)

end Cert.StepIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Ref
public import proofs.«01_k».proof.Proof.KLoss
public import proofs.«01_k».proof.Proof.Gen.Cols
public import proofs.«01_k».proof.Proof.Gen.Cols.Skeleton
public import proofs.«01_k».proof.Proof.Gen.Cols.Loops
public import proofs.«01_k».proof.Proof.Gen.Cols.Launch
public import proofs.«01_k».proof.Proof.Gen.Cols.Points
public import proofs.«01_k».proof.Proof.Gen.Cols.Frame
public import proofs.«01_k».proof.Proof.Gen.ColsIdeal
public import proofs.«01_k».proof.Proof.Gen.ColsIdeal.Skeleton
public import proofs.«01_k».proof.Proof.Gen.ColsIdeal.Loops
public import proofs.«01_k».proof.Proof.Gen.ColsIdeal.Launch
public import proofs.«01_k».proof.Proof.Gen.ColsIdeal.Points
public import proofs.«01_k».proof.Proof.Gen.ColsIdeal.Frame
public import proofs.«01_k».proof.Proof.Gen.StepIdeal
public import proofs.«01_k».proof.Proof.ColsRun
public import proofs.«01_k».proof.Proof.ColsArr
public import proofs.«01_k».proof.Proof.ColsEnd
public import proofs.«01_k».proof.Proof.StepVals
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Over the same arguments a token's row is the same for the kernel and for the reference. -/
theorem row_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (t : Fin 8192) : Cert.ReferenceIdeal.Val.rrow m' c t = Cert.KernelIdeal.Val.srow m c t := by
  obtain ⟨h0, h1, h2, h3, h4, h5, h6⟩ := h
  unfold Cert.ReferenceIdeal.Val.rrow Cert.KernelIdeal.Val.srow
  rw [h0, h1, h2, h3, h4, h5, h6]

section Arrays

variable (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)

/-- The activation arrays agree. -/
theorem arr7 (c : Dev Cert.KernelIdeal.nD) (hrow : ∀ t, Cert.ReferenceIdeal.Val.rrow m' c t = Cert.KernelIdeal.Val.srow m c t) :
    (Cert.ReferenceIdeal.Gen.dats m' 0 c).arrAt 9 (Cert.ReferenceIdeal.cfgs 0).N = (Cert.KernelIdeal.Gen.dats m 0 c).arrAt 7 (Cert.KernelIdeal.cfgs 0).N := by
  refine (Cert.ReferenceIdeal.Val.final9 m' c).trans (Eq.trans ?_ (Cert.KernelIdeal.Val.final7 m c).symm)
  rw [show Cert.ReferenceIdeal.Val.rrow m' c = Cert.KernelIdeal.Val.srow m c from funext hrow] <;> rfl

/-- The rounded activation arrays agree. -/
theorem arr8 (c : Dev Cert.KernelIdeal.nD) (hrow : ∀ t, Cert.ReferenceIdeal.Val.rrow m' c t = Cert.KernelIdeal.Val.srow m c t) :
    (Cert.ReferenceIdeal.Gen.dats m' 0 c).arrAt 10 (Cert.ReferenceIdeal.cfgs 0).N = (Cert.KernelIdeal.Gen.dats m 0 c).arrAt 8 (Cert.KernelIdeal.cfgs 0).N := by
  refine (Cert.ReferenceIdeal.Val.final10 m' c).trans (Eq.trans ?_ (Cert.KernelIdeal.Val.final8 m c).symm)
  rw [show Cert.ReferenceIdeal.Val.rrow m' c = Cert.KernelIdeal.Val.srow m c from funext hrow] <;> rfl

/-- The output arrays agree. -/
theorem arr9 (c : Dev Cert.KernelIdeal.nD) (hrow : ∀ t, Cert.ReferenceIdeal.Val.rrow m' c t = Cert.KernelIdeal.Val.srow m c t) :
    (Cert.ReferenceIdeal.Gen.dats m' 0 c).arrAt 8 (Cert.ReferenceIdeal.cfgs 0).N = (Cert.KernelIdeal.Gen.dats m 0 c).arrAt 9 (Cert.KernelIdeal.cfgs 0).N := by
  refine (Cert.ReferenceIdeal.Val.final8 m' c).trans (Eq.trans ?_ (Cert.KernelIdeal.Val.final9 m c).symm)
  rw [show Cert.ReferenceIdeal.Val.rrow m' c = Cert.KernelIdeal.Val.srow m c from funext hrow] <;> rfl

/-- The output's gradient arrays agree. -/
theorem arr10 (c : Dev Cert.KernelIdeal.nD) (hrow : ∀ t, Cert.ReferenceIdeal.Val.rrow m' c t = Cert.KernelIdeal.Val.srow m c t) :
    (Cert.ReferenceIdeal.Gen.dats m' 0 c).arrAt 11 (Cert.ReferenceIdeal.cfgs 0).N = (Cert.KernelIdeal.Gen.dats m 0 c).arrAt 10 (Cert.KernelIdeal.cfgs 0).N := by
  refine (Cert.ReferenceIdeal.Val.final11 m' c).trans (Eq.trans ?_ (Cert.KernelIdeal.Val.final10 m c).symm)
  rw [show Cert.ReferenceIdeal.Val.rrow m' c = Cert.KernelIdeal.Val.srow m c from funext hrow] <;> rfl

/-- The gate's gradient arrays agree. -/
theorem arr11 (c : Dev Cert.KernelIdeal.nD) (hrow : ∀ t, Cert.ReferenceIdeal.Val.rrow m' c t = Cert.KernelIdeal.Val.srow m c t) :
    (Cert.ReferenceIdeal.Gen.dats m' 0 c).arrAt 12 (Cert.ReferenceIdeal.cfgs 0).N = (Cert.KernelIdeal.Gen.dats m 0 c).arrAt 11 (Cert.KernelIdeal.cfgs 0).N := by
  refine (Cert.ReferenceIdeal.Val.final12 m' c).trans (Eq.trans ?_ (Cert.KernelIdeal.Val.final11 m c).symm)
  rw [show Cert.ReferenceIdeal.Val.rrow m' c = Cert.KernelIdeal.Val.srow m c from funext hrow] <;> rfl

/-- The up projection's gradient arrays agree. -/
theorem arr12 (c : Dev Cert.KernelIdeal.nD) (hrow : ∀ t, Cert.ReferenceIdeal.Val.rrow m' c t = Cert.KernelIdeal.Val.srow m c t) :
    (Cert.ReferenceIdeal.Gen.dats m' 0 c).arrAt 13 (Cert.ReferenceIdeal.cfgs 0).N = (Cert.KernelIdeal.Gen.dats m 0 c).arrAt 12 (Cert.KernelIdeal.cfgs 0).N := by
  refine (Cert.ReferenceIdeal.Val.final13 m' c).trans (Eq.trans ?_ (Cert.KernelIdeal.Val.final12 m c).symm)
  rw [show Cert.ReferenceIdeal.Val.rrow m' c = Cert.KernelIdeal.Val.srow m c from funext hrow] <;> rfl

/-- The loss arrays agree. -/
theorem arr13 (c : Dev Cert.KernelIdeal.nD) (hrow : ∀ t, Cert.ReferenceIdeal.Val.rrow m' c t = Cert.KernelIdeal.Val.srow m c t) :
    (Cert.ReferenceIdeal.Gen.dats m' 0 c).arrAt 14 (Cert.ReferenceIdeal.cfgs 0).N = (Cert.KernelIdeal.Gen.dats m 0 c).arrAt 13 (Cert.KernelIdeal.cfgs 0).N := by
  refine (Cert.ReferenceIdeal.Val.final14 m' c).trans (Eq.trans ?_ (Cert.KernelIdeal.Val.final13 m c).symm)
  rw [show Cert.ReferenceIdeal.Val.rrow m' c = Cert.KernelIdeal.Val.srow m c from funext hrow] <;> rfl

end Arrays

/-- Over the reals the kernel and the reference end with the same seven result arrays. -/
theorem algebraic : Cert.algebraic_KernelIdeal_ReferenceIdeal (hKernelIdeal := Cert.KernelIdeal.Gen.facts) (hReferenceIdeal := Cert.ReferenceIdeal.Gen.facts) := by
  intro m g m' g' hpre hagree
  refine ⟨_, _, _, _, _, _, _, Cert.KernelIdeal.Value.run_blocks m g, ?_⟩
  refine (θ_run _ _ _).mono (fun r h c => ?_) (Cert.ReferenceIdeal.Value.run_blocks m' g')
  have hrow := row_eq m m' c (hagree c)
  obtain ⟨h8, h9, h10, h11, h12, h13, h14, hargs⟩ := h c
  exact ⟨h9.trans (arr7 m m' c hrow), h10.trans (arr8 m m' c hrow), h8.trans (arr9 m m' c hrow), h11.trans (arr10 m m' c hrow),
    h12.trans (arr11 m m' c hrow), h13.trans (arr12 m m' c hrow), h14.trans (arr13 m m' c hrow), hargs⟩

/-- Over the same arguments a group of weights is the same for the update kernel and for its reference. -/
theorem grp_eq (m : (ℓ : Loc Cert.ColsIdeal.nD Cert.ColsIdeal.τ Cert.ColsIdeal.sig) → Buf (Elt Ideal) ℓ)
    (m' : (ℓ : Loc Cert.StepIdeal.nD Cert.StepIdeal.τ Cert.StepIdeal.sig) → Buf (Elt Ideal) ℓ) (c : Dev Cert.ColsIdeal.nD)
    (h : m' ((c.tc : Thread Cert.StepIdeal.nD Cert.StepIdeal.τ).loc Cert.StepIdeal.main_arg0) = m ((c.tc : Thread Cert.ColsIdeal.nD Cert.ColsIdeal.τ).loc Cert.ColsIdeal.main_arg0)
      ∧ m' ((c.tc : Thread Cert.StepIdeal.nD Cert.StepIdeal.τ).loc Cert.StepIdeal.main_arg1) = m ((c.tc : Thread Cert.ColsIdeal.nD Cert.ColsIdeal.τ).loc Cert.ColsIdeal.main_arg1)
      ∧ m' ((c.tc : Thread Cert.StepIdeal.nD Cert.StepIdeal.τ).loc Cert.StepIdeal.main_arg2) = m ((c.tc : Thread Cert.ColsIdeal.nD Cert.ColsIdeal.τ).loc Cert.ColsIdeal.main_arg2)
      ∧ m' ((c.tc : Thread Cert.StepIdeal.nD Cert.StepIdeal.τ).loc Cert.StepIdeal.main_arg3) = m ((c.tc : Thread Cert.ColsIdeal.nD Cert.ColsIdeal.τ).loc Cert.ColsIdeal.main_arg3)
      ∧ m' ((c.tc : Thread Cert.StepIdeal.nD Cert.StepIdeal.τ).loc Cert.StepIdeal.main_arg4) = m ((c.tc : Thread Cert.ColsIdeal.nD Cert.ColsIdeal.τ).loc Cert.ColsIdeal.main_arg4)
      ∧ m' ((c.tc : Thread Cert.StepIdeal.nD Cert.StepIdeal.τ).loc Cert.StepIdeal.main_arg5) = m ((c.tc : Thread Cert.ColsIdeal.nD Cert.ColsIdeal.τ).loc Cert.ColsIdeal.main_arg5)
      ∧ m' ((c.tc : Thread Cert.StepIdeal.nD Cert.StepIdeal.τ).loc Cert.StepIdeal.main_arg6) = m ((c.tc : Thread Cert.ColsIdeal.nD Cert.ColsIdeal.τ).loc Cert.ColsIdeal.main_arg6)
      ∧ m' ((c.tc : Thread Cert.StepIdeal.nD Cert.StepIdeal.τ).loc Cert.StepIdeal.main_arg7) = m ((c.tc : Thread Cert.ColsIdeal.nD Cert.ColsIdeal.τ).loc Cert.ColsIdeal.main_arg7)
      ∧ m' ((c.tc : Thread Cert.StepIdeal.nD Cert.StepIdeal.τ).loc Cert.StepIdeal.main_arg8) = m ((c.tc : Thread Cert.ColsIdeal.nD Cert.ColsIdeal.τ).loc Cert.ColsIdeal.main_arg8)
      ∧ m' ((c.tc : Thread Cert.StepIdeal.nD Cert.StepIdeal.τ).loc Cert.StepIdeal.main_arg9) = m ((c.tc : Thread Cert.ColsIdeal.nD Cert.ColsIdeal.τ).loc Cert.ColsIdeal.main_arg9))
    (e : Fin 2048) (g : Fin 22) : Cert.StepIdeal.Val.sg m' c e g = Cert.ColsIdeal.Run.cg m c e g := by
  obtain ⟨h0, h1, h2, h3, h4, h5, h6, h7, h8, h9⟩ := h
  unfold Cert.StepIdeal.Val.sg Cert.ColsIdeal.Run.cg
  rw [h0, h1, h2, h3, h4, h5, h6, h7, h8, h9]

/-- An array that holds `f` of its group at every row, group and lane holds it at every index. -/
theorem spread {β : Type} (m : (ℓ : Loc Cert.ColsIdeal.nD Cert.ColsIdeal.τ Cert.ColsIdeal.sig) → Buf (Elt Ideal) ℓ)
    (m' : (ℓ : Loc Cert.StepIdeal.nD Cert.StepIdeal.τ Cert.StepIdeal.sig) → Buf (Elt Ideal) ℓ) (c : Dev Cert.ColsIdeal.nD)
    (hg : ∀ e g, Cert.StepIdeal.Val.sg m' c e g = Cert.ColsIdeal.Run.cg m c e g) (A : Cert.StepIdeal.S2048x2816.Idx → β) (f : StepSpec.Grp → Fin 128 → β)
    (h : ∀ (e : Fin 2048) (g : Fin 22) (l : Fin 128), A (ix2 e ⟨128 * g.val + l.val, by omega⟩) = f (Cert.StepIdeal.Val.sg m' c e g) l) :
    A = fun j : Cert.ColsIdeal.S2048x2816.Idx => f (Cert.ColsIdeal.Run.cat m c (j 0) (j 1)).1 (Cert.ColsIdeal.Run.cat m c (j 0) (j 1)).2 := by
  funext j
  have hlt : (j 1).val < 2816 := (j 1).isLt
  have hj : ix2 (j 0) (⟨128 * ((j 1).val / 128) + (j 1).val % 128, by omega⟩ : Fin 2816) = j := by
    funext a
    match a with
    | ⟨0, _⟩ => rfl
    | ⟨1, _⟩ => exact Fin.ext (by show 128 * ((j 1).val / 128) + (j 1).val % 128 = (j 1).val; omega)
  have e := h (j 0) ⟨(j 1).val / 128, by omega⟩ ⟨(j 1).val % 128, by omega⟩
  exact (congrArg A hj).symm.trans (e.trans (congrArg (fun G => f G ⟨(j 1).val % 128, by omega⟩) (hg (j 0) ⟨(j 1).val / 128, by omega⟩)))

/-- Over the reals the update kernel and its reference end with the same gradient, stepped rounding variable and codes. -/
theorem algebraicStep : Cert.algebraic_ColsIdeal_StepIdeal (hColsIdeal := Cert.ColsIdeal.Gen.facts) (hStepIdeal := Cert.StepIdeal.Gen.facts) := by
  intro m g m' g' hpre hagree
  refine ⟨_, _, _, _, Cert.ColsIdeal.Run.run_arrays m g, ?_⟩
  refine (θ_run _ _ _).mono (fun r h c => ?_) (Cert.StepIdeal.Val.run_vals m' g')
  have hg := grp_eq m m' c (hagree c)
  obtain ⟨h0, h1, h2, h3, hargs⟩ := h c
  exact ⟨(spread m m' c hg _ StepSpec.Grp.dv h0).trans (Cert.ColsIdeal.Run.final10 m c).symm,
    (spread m m' c hg _ StepSpec.Grp.vnew h1).trans (Cert.ColsIdeal.Run.final11 m c).symm,
    (spread m m' c hg _ StepSpec.Grp.mcode h2).trans (Cert.ColsIdeal.Run.final12 m c).symm,
    (spread m m' c hg _ StepSpec.Grp.scode h3).trans (Cert.ColsIdeal.Run.final13 m c).symm, hargs⟩

/-- The step's forward and backward pass and the update of the down projection: the frames, the idealizations' remarks and the
    result arrays of each. -/
theorem claim : Cert.Claim := ⟨Cert.Kernel.Gen.facts, Cert.KernelIdeal.Gen.facts, Cert.ReferenceIdeal.Gen.facts,
  Cert.Cols.Gen.facts, Cert.ColsIdeal.Gen.facts, Cert.StepIdeal.Gen.facts,
  fun m ρ _ => Cert.Kernel.Gen.frame m ρ, fun m ρ _ => Cert.KernelIdeal.Gen.frame m ρ, fun m ρ _ => Cert.ReferenceIdeal.Gen.frame m ρ,
  fun m ρ _ => Cert.Cols.Run.frame m ρ, fun m ρ _ => Cert.ColsIdeal.Run.frame m ρ, fun m ρ _ => Cert.StepIdeal.Val.frame m ρ,
  trivial, algebraic, trivial, algebraicStep⟩

end Cert.Proof

end
